-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysIdeal_keys_finite [hPre_keys_finite : Cert.Pre_keys_finite.Facts] (m : (ℓ : Loc Cert.KeysIdeal.nD Cert.KeysIdeal.τ Cert.KeysIdeal.sig) → Buf (Elt Ideal) ℓ) : Prop :=
  ∀ c : Dev Cert.KeysIdeal.nD,
    (Cert.Pre_keys_finite.fn (F := Ideal) (m ((c.tc : Thread Cert.KeysIdeal.nD Cert.KeysIdeal.τ).loc Cert.KeysIdeal.main_arg0)) (m ((c.tc : Thread Cert.KeysIdeal.nD Cert.KeysIdeal.τ).loc Cert.KeysIdeal.main_arg1)) (m ((c.tc : Thread Cert.KeysIdeal.nD Cert.KeysIdeal.τ).loc Cert.KeysIdeal.main_arg2)) (m ((c.tc : Thread Cert.KeysIdeal.nD Cert.KeysIdeal.τ).loc Cert.KeysIdeal.main_arg3)) (m ((c.tc : Thread Cert.KeysIdeal.nD Cert.KeysIdeal.τ).loc Cert.KeysIdeal.main_arg4))) = (fun _ => 1#1)

def Pre_KeysRefIdeal (m : (ℓ : Loc Cert.KeysRefIdeal.nD Cert.KeysRefIdeal.τ Cert.KeysRefIdeal.sig) → Buf (Elt Ideal) ℓ) : Prop :=
  True

def Pre_KeysRefIdeal_keys_finite [hPre_keys_finite : Cert.Pre_keys_finite.Facts] (m : (ℓ : Loc Cert.KeysRefIdeal.nD Cert.KeysRefIdeal.τ Cert.KeysRefIdeal.sig) → Buf (Elt Ideal) ℓ) : Prop :=
  ∀ c : Dev Cert.KeysRefIdeal.nD,
    (Cert.Pre_keys_finite.fn (F := Ideal) (m ((c.tc : Thread Cert.KeysRefIdeal.nD Cert.KeysRefIdeal.τ).loc Cert.KeysRefIdeal.main_arg0)) (m ((c.tc : Thread Cert.KeysRefIdeal.nD Cert.KeysRefIdeal.τ).loc Cert.KeysRefIdeal.main_arg1)) (m ((c.tc : Thread Cert.KeysRefIdeal.nD Cert.KeysRefIdeal.τ).loc Cert.KeysRefIdeal.main_arg2)) (m ((c.tc : Thread Cert.KeysRefIdeal.nD Cert.KeysRefIdeal.τ).loc Cert.KeysRefIdeal.main_arg3)) (m ((c.tc : Thread Cert.KeysRefIdeal.nD Cert.KeysRefIdeal.τ).loc Cert.KeysRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3)
      ∧ r.2.mem ((c.tc : Thread Cert.Keys.nD Cert.Keys.τ).loc Cert.Keys.main_arg4) = m ((c.tc : Thread Cert.Keys.nD Cert.Keys.τ).loc Cert.Keys.main_arg4))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4))
      ∧ r.2.sem = fun _ => 0)

def quiescent_KeysIdeal_pre_keys_finite [hKeysIdeal : Cert.KeysIdeal.Facts] [hPre_keys_finite : Cert.Pre_keys_finite.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal_keys_finite m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2)
      ∧ r.2.mem ((c.tc : Thread Cert.KeysRefIdeal.nD Cert.KeysRefIdeal.τ).loc Cert.KeysRefIdeal.main_arg3) = m ((c.tc : Thread Cert.KeysRefIdeal.nD Cert.KeysRefIdeal.τ).loc Cert.KeysRefIdeal.main_arg3)
      ∧ r.2.mem ((c.tc : Thread Cert.KeysRefIdeal.nD Cert.KeysRefIdeal.τ).loc Cert.KeysRefIdeal.main_arg4) = m ((c.tc : Thread Cert.KeysRefIdeal.nD Cert.KeysRefIdeal.τ).loc Cert.KeysRefIdeal.main_arg4))
      ∧ r.2.sem = fun _ => 0)

def quiescent_KeysRefIdeal_pre_keys_finite [hKeysRefIdeal : Cert.KeysRefIdeal.Facts] [hPre_keys_finite : Cert.Pre_keys_finite.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal_keys_finite m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2)
      ∧ r.2.mem ((c.tc : Thread Cert.KeysRefIdeal.nD Cert.KeysRefIdeal.τ).loc Cert.KeysRefIdeal.main_arg3) = m ((c.tc : Thread Cert.KeysRefIdeal.nD Cert.KeysRefIdeal.τ).loc Cert.KeysRefIdeal.main_arg3)
      ∧ r.2.mem ((c.tc : Thread Cert.KeysRefIdeal.nD Cert.KeysRefIdeal.τ).loc Cert.KeysRefIdeal.main_arg4) = m ((c.tc : Thread Cert.KeysRefIdeal.nD Cert.KeysRefIdeal.τ).loc Cert.KeysRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v85_2)) (v1 : (c : Dev Cert.ProjIdeal.nD) → Buf (Elt Ideal) ((c.tc : Thread Cert.ProjIdeal.nD Cert.ProjIdeal.τ).loc Cert.ProjIdeal.main_v85_5)) (v2 : (c : Dev Cert.ProjIdeal.nD) → Buf (Elt Ideal) ((c.tc : Thread Cert.ProjIdeal.nD Cert.ProjIdeal.τ).loc Cert.ProjIdeal.main_v85_7)) (v3 : (c : Dev Cert.ProjIdeal.nD) → Buf (Elt Ideal) ((c.tc : Thread Cert.ProjIdeal.nD Cert.ProjIdeal.τ).loc Cert.ProjIdeal.main_v85_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v85_2) = v0 c
          ∧ r.2.mem ((c.tc : Thread Cert.ProjIdeal.nD Cert.ProjIdeal.τ).loc Cert.ProjIdeal.main_v85_5) = v1 c
          ∧ r.2.mem ((c.tc : Thread Cert.ProjIdeal.nD Cert.ProjIdeal.τ).loc Cert.ProjIdeal.main_v85_7) = v2 c
          ∧ r.2.mem ((c.tc : Thread Cert.ProjIdeal.nD Cert.ProjIdeal.τ).loc Cert.ProjIdeal.main_v85_8) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v49) = v0 c
          ∧ r.2.mem ((c.tc : Thread Cert.ProjRefIdeal.nD Cert.ProjRefIdeal.τ).loc Cert.ProjRefIdeal.main_v50) = v1 c
          ∧ r.2.mem ((c.tc : Thread Cert.ProjRefIdeal.nD Cert.ProjRefIdeal.τ).loc Cert.ProjRefIdeal.main_v52) = v2 c
          ∧ r.2.mem ((c.tc : Thread Cert.ProjRefIdeal.nD Cert.ProjRefIdeal.τ).loc Cert.ProjRefIdeal.main_v54) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Keys_KeysIdeal : Prop :=
  True

def algebraic_KeysIdeal_KeysRefIdeal_pre_keys_finite [hKeysIdeal : Cert.KeysIdeal.Facts] [hKeysRefIdeal : Cert.KeysRefIdeal.Facts] [hPre_keys_finite : Cert.Pre_keys_finite.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal_keys_finite m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)
      ∧ m' ((c.tc : Thread Cert.KeysRefIdeal.nD Cert.KeysRefIdeal.τ).loc Cert.KeysRefIdeal.main_arg3) = m ((c.tc : Thread Cert.KeysIdeal.nD Cert.KeysIdeal.τ).loc Cert.KeysIdeal.main_arg3)
      ∧ m' ((c.tc : Thread Cert.KeysRefIdeal.nD Cert.KeysRefIdeal.τ).loc Cert.KeysRefIdeal.main_arg4) = m ((c.tc : Thread Cert.KeysIdeal.nD Cert.KeysIdeal.τ).loc Cert.KeysIdeal.main_arg4)) →
    ∃ (v0 : (c : Dev Cert.KeysIdeal.nD) → Buf (Elt Ideal) ((c.tc : Thread Cert.KeysIdeal.nD Cert.KeysIdeal.τ).loc Cert.KeysIdeal.main_v85_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v85_1) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v61) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2)
          ∧ r.2.mem ((c.tc : Thread Cert.KeysRefIdeal.nD Cert.KeysRefIdeal.τ).loc Cert.KeysRefIdeal.main_arg3) = m' ((c.tc : Thread Cert.KeysRefIdeal.nD Cert.KeysRefIdeal.τ).loc Cert.KeysRefIdeal.main_arg3)
          ∧ r.2.mem ((c.tc : Thread Cert.KeysRefIdeal.nD Cert.KeysRefIdeal.τ).loc Cert.KeysRefIdeal.main_arg4) = m' ((c.tc : Thread Cert.KeysRefIdeal.nD Cert.KeysRefIdeal.τ).loc Cert.KeysRefIdeal.main_arg4))

def Claim : Prop :=
  ∃ (hKernel : Cert.Kernel.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hKeys : Cert.Keys.Facts) (hKeysIdeal : Cert.KeysIdeal.Facts) (hKeysRefIdeal : Cert.KeysRefIdeal.Facts) (hPre_keys_finite : Cert.Pre_keys_finite.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Keys (hKeys := hKeys)
    ∧ quiescent_KeysIdeal (hKeysIdeal := hKeysIdeal)
    ∧ quiescent_KeysIdeal_pre_keys_finite (hKeysIdeal := hKeysIdeal) (hPre_keys_finite := hPre_keys_finite)
    ∧ quiescent_KeysRefIdeal (hKeysRefIdeal := hKeysRefIdeal)
    ∧ quiescent_KeysRefIdeal_pre_keys_finite (hKeysRefIdeal := hKeysRefIdeal) (hPre_keys_finite := hPre_keys_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Keys_KeysIdeal
    ∧ algebraic_KeysIdeal_KeysRefIdeal_pre_keys_finite (hKeysIdeal := hKeysIdeal) (hKeysRefIdeal := hKeysRefIdeal) (hPre_keys_finite := hPre_keys_finite)
-- ==== Pre_keys_finite.lean ====
abbrev S8x8192x1024 : Shape := ⟨3, ![8, 8192, 1024]⟩
abbrev S1024 : Shape := ⟨1, ![1024]⟩
abbrev S1024x5704 : Shape := ⟨2, ![1024, 5704]⟩
abbrev S64 : Shape := ⟨1, ![64]⟩
abbrev S_ : Shape := ⟨0, ![]⟩
abbrev S1024x256 : Shape := ⟨2, ![1024, 256]⟩

class Facts : Prop where
  bcast_S_S1024 : S_.BroadcastsInDim S1024 (![] : Fin 0 → Fin S1024.rank)
  reducesTo_S1024_S_d0 : S1024.ReducesTo [0] S_
  h_S_ : 0 < S_.numel
  slices_S1024x5704_S1024x256_0_512 : S1024x5704.Slices ![0, 512] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8x8192x1024 .f32) (main_arg1 : FVec F S1024 .f32) (main_arg2 : FVec F S1024x5704 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x256 .f32 := (extractStridedSlice S1024x256 ![0, 512] · slices_S1024x5704_S1024x256_0_512) main_arg2
  let main_v5 : FVec F S1024x256 .f32 := Host.absf main_v4
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_c_1 : IVec S_ 1 := constantI S_ 1 1#1
  let main_v8 : IVec S_ 1 := (fun x v => Host.reduce IntOp.andi x v reducesTo_S1024x256_S_d0_1 h_S_) main_v7 main_c_1
  let main_v9 : IVec S_ 1 := andi main_v3 main_v8
  main_v9
-- ==== Kernel.lean ====
abbrev S8x8192x2048 : Shape := ⟨3, ![8, 8192, 2048]⟩
abbrev S8x8192x128 : Shape := ⟨3, ![8, 8192, 128]⟩
abbrev S8x256x8192 : Shape := ⟨3, ![8, 256, 8192]⟩
abbrev S8x8192x256 : Shape := ⟨3, ![8, 8192, 256]⟩
abbrev S8x256x512 : Shape := ⟨3, ![8, 256, 512]⟩
abbrev S512x512 : Shape := ⟨2, ![512, 512]⟩
abbrev S_ : Shape := ⟨0, ![]⟩
abbrev S8x8192x512 : Shape := ⟨3, ![8, 8192, 512]⟩
abbrev S1x256x2048 : Shape := ⟨3, ![1, 256, 2048]⟩
abbrev S1x256x128 : Shape := ⟨3, ![1, 256, 128]⟩
abbrev S1x256x8192 : Shape := ⟨3, ![1, 256, 8192]⟩
abbrev S1x8192x256 : Shape := ⟨3, ![1, 8192, 256]⟩
abbrev S1x256x512 : Shape := ⟨3, ![1, 256, 512]⟩
abbrev S256x8192 : Shape := ⟨2, ![256, 8192]⟩
abbrev S32x256x256 : Shape := ⟨3, ![32, 256, 256]⟩
abbrev S256x256 : Shape := ⟨2, ![256, 256]⟩
abbrev S2048x256 : Shape := ⟨2, ![2048, 256]⟩
abbrev S8x256x128 : Shape := ⟨3, ![8, 256, 128]⟩
abbrev S2048x128 : Shape := ⟨2, ![2048, 128]⟩
abbrev S2048x512 : Shape := ⟨2, ![2048, 512]⟩
abbrev S256x512 : Shape := ⟨2, ![256, 512]⟩
abbrev S1x256x256 : Shape := ⟨3, ![1, 256, 256]⟩
abbrev S1x256x1 : Shape := ⟨3, ![1, 256, 1]⟩
abbrev S256x1 : Shape := ⟨2, ![256, 1]⟩
abbrev S256x128 : Shape := ⟨2, ![256, 128]⟩
abbrev S512x256 : Shape := ⟨2, ![512, 256]⟩
abbrev S8x256 : Shape := ⟨2, ![8, 256]⟩
abbrev S1x8x256 : Shape := ⟨3, ![1, 8, 256]⟩
abbrev S1x256 : Shape := ⟨2, ![1, 256]⟩
abbrev S32x8x256 : Shape := ⟨3, ![32, 8, 256]⟩
abbrev S256 : Shape := ⟨1, ![256]⟩
abbrev S128x256 : Shape := ⟨2, ![128, 256]⟩
abbrev S1x1x256 : Shape := ⟨3, ![1, 1, 256]⟩
abbrev S1 : Shape := ⟨1, ![1]⟩
abbrev S1x1x1 : Shape := ⟨3, ![1, 1, 1]⟩
abbrev S1x512x256 : Shape := ⟨3, ![1, 512, 256]⟩

abbrev nBuf : Space → Nat
  | .hbm => 17
  | .vmem => 25
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x2048, .bf16⟩
  | .hbm, ⟨2, _⟩ => ⟨S8x8192x128, .f32⟩
  | .hbm, ⟨3, _⟩ => ⟨S8x256x8192, .bf16⟩
  | .hbm, ⟨4, _⟩ => ⟨S8x256x8192, .bf16⟩
  | .hbm, ⟨5, _⟩ => ⟨S8x8192x256, .bf16⟩
  | .hbm, ⟨6, _⟩ => ⟨S8x256x512, .bf16⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S_, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S8x8192x512, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x128, .f32⟩
  | .local _ .vmem, ⟨5, _⟩ => ⟨S1x256x128, .f32⟩
  | .local _ .vmem, ⟨6, _⟩ => ⟨S1x256x8192, .bf16⟩
  | .local _ .vmem, ⟨7, _⟩ => ⟨S1x256x8192, .bf16⟩
  | .local _ .vmem, ⟨8, _⟩ => ⟨S1x8192x256, .bf16⟩
  | .local _ .vmem, ⟨9, _⟩ => ⟨S512x512, .bf16⟩
  | .local _ .vmem, ⟨10, _⟩ => ⟨S8x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S256x8192, .i32⟩
  | .local _ .vmem, ⟨14, _⟩ => ⟨S32x256x256, .i32⟩
  | .local _ .vmem, ⟨15, _⟩ => ⟨S256x256, .i32⟩
  | .local _ .vmem, ⟨16, _⟩ => ⟨S2048x256, .bf16⟩
  | .local _ .vmem, ⟨17, _⟩ => ⟨S2048x256, .bf16⟩
  | .local _ .vmem, ⟨18, _⟩ => ⟨S8x256x128, .f32⟩
  | .local _ .vmem, ⟨19, _⟩ => ⟨S2048x128, .f32⟩
  | .local _ .vmem, ⟨20, _⟩ => ⟨S2048x128, .f32⟩
  | .local _ .vmem, ⟨21, _⟩ => ⟨S2048x256, .f32⟩
  | .local _ .vmem, ⟨22, _⟩ => ⟨S2048x512, .f32⟩
  | .local _ .vmem, ⟨23, _⟩ => ⟨S2048x512, .bf16⟩
  | .local _ .vmem, ⟨24, _⟩ => ⟨S256x512, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_scratch11 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_127 : BitVec 32 := 1#32
  ⟨c0_i32_125, v171, c1_i32_127⟩
def k0_mult1 (i : grid0.Coords) (k0_t1 : Fin (k0_t1_loop i).trips) : BitVec 32 :=
  let c0_i32_125 : BitVec 32 := 0#32
  let c1_i32_127 : BitVec 32 := 1#32
  let arg23 : BitVec 32 := Scf.iv c0_i32_125 c1_i32_127 k0_t1
  let c512_i32_847 : BitVec 32 := 512#32
  let v2159 : BitVec 32 := Scalar.muli arg23 c512_i32_847
  v2159
def k0_off1 (i : grid0.Coords) (k0_t1 : Fin (k0_t1_loop i).trips) : Fin 3 → Nat :=
  let c0_850 : Index := 0#32
  let c0_851 : Index := 0#32
  let c0_i32_125 : BitVec 32 := 0#32
  let c1_i32_127 : BitVec 32 := 1#32
  let arg23 : BitVec 32 := Scf.iv c0_i32_125 c1_i32_127 k0_t1
  let c512_i32_847 : BitVec 32 := 512#32
  let v2159 : BitVec 32 := Scalar.muli arg23 c512_i32_847
  let v2160 : BitVec 32 := v2159
  let v2162 : Index := Scalar.indexCast v2160
  ![0, 0, v2162.toNat]
def k0_off2 (i : grid0.Coords) (k0_t1 : Fin (k0_t1_loop i).trips) : Fin 2 → Nat :=
  let c0_888 : Index := 0#32
  let c0_i32_125 : BitVec 32 := 0#32
  let c1_i32_127 : BitVec 32 := 1#32
  let arg23 : BitVec 32 := Scf.iv c0_i32_125 c1_i32_127 k0_t1
  let c512_i32_847 : BitVec 32 := 512#32
  let v2159 : BitVec 32 := Scalar.muli arg23 c512_i32_847
  let v2160 : BitVec 32 := v2159
  let v2237 : Index := Scalar.indexCast v2160
  ![0, v2237.toNat]
def k0_mult2 (i : grid0.Coords) (k0_t1 : Fin (k0_t1_loop i).trips) : BitVec 32 :=
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let c0_i32_1131 : BitVec 32 := 0#32
  let v2997 : BitVec 32 := Scalar.addi v2996 c0_i32_1131
  v2997
def k0_off3 (i : grid0.Coords) (k0_t1 : Fin (k0_t1_loop i).trips) (c0_i32_1131 : BitVec 32) : Fin 3 → Nat :=
  let c0_1132 : Index := 0#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v2999 : Index := Scalar.indexCast v2998
  let c0_1133 : Index := 0#32
  ![0, v2999.toNat, 0]
def k0_off4 (i : grid0.Coords) (k0_t1 : Fin (k0_t1_loop i).trips) (c0_i32_1131 : BitVec 32) : Fin 3 → Nat :=
  let c1_1134 : Index := 1#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3003 : Index := Scalar.indexCast v2998
  let c0_1135 : Index := 0#32
  ![1, v3003.toNat, 0]
def k0_off5 (i : grid0.Coords) (k0_t1 : Fin (k0_t1_loop i).trips) (c0_i32_1131 : BitVec 32) : Fin 3 → Nat :=
  let c2_1136 : Index := 2#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3007 : Index := Scalar.indexCast v2998
  let c0_1137 : Index := 0#32
  ![2, v3007.toNat, 0]
def k0_off6 (i : grid0.Coords) (k0_t1 : Fin (k0_t1_loop i).trips) (c0_i32_1131 : BitVec 32) : Fin 3 → Nat :=
  let c3_1138 : Index := 3#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3011 : Index := Scalar.indexCast v2998
  let c0_1139 : Index := 0#32
  ![3, v3011.toNat, 0]
def k0_off7 (i : grid0.Coords) (k0_t1 : Fin (k0_t1_loop i).trips) (c0_i32_1131 : BitVec 32) : Fin 3 → Nat :=
  let c4_1140 : Index := 4#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3015 : Index := Scalar.indexCast v2998
  let c0_1141 : Index := 0#32
  ![4, v3015.toNat, 0]
def k0_off8 (i : grid0.Coords) (k0_t1 : Fin (k0_t1_loop i).trips) (c0_i32_1131 : BitVec 32) : Fin 3 → Nat :=
  let c5_1142 : Index := 5#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3019 : Index := Scalar.indexCast v2998
  let c0_1143 : Index := 0#32
  ![5, v3019.toNat, 0]
def k0_off9 (i : grid0.Coords) (k0_t1 : Fin (k0_t1_loop i).trips) (c0_i32_1131 : BitVec 32) : Fin 3 → Nat :=
  let c6_1144 : Index := 6#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3023 : Index := Scalar.indexCast v2998
  let c0_1145 : Index := 0#32
  ![6, v3023.toNat, 0]
def k0_off10 (i : grid0.Coords) (k0_t1 : Fin (k0_t1_loop i).trips) (c0_i32_1131 : BitVec 32) : Fin 3 → Nat :=
  let c7_1146 : Index := 7#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3027 : Index := Scalar.indexCast v2998
  let c0_1147 : Index := 0#32
  ![7, v3027.toNat, 0]
def k0_off11 (i : grid0.Coords) (k0_t1 : Fin (k0_t1_loop i).trips) (c0_i32_1131 : BitVec 32) : Fin 3 → Nat :=
  let c8_1148 : Index := 8#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3031 : Index := Scalar.indexCast v2998
  let c0_1149 : Index := 0#32
  ![8, v3031.toNat, 0]
def k0_off12 (i : grid0.Coords) (k0_t1 : Fin (k0_t1_loop i).trips) (c0_i32_1131 : BitVec 32) : Fin 3 → Nat :=
  let c9_1150 : Index := 9#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3035 : Index := Scalar.indexCast v2998
  let c0_1151 : Index := 0#32
  ![9, v3035.toNat, 0]
def k0_off13 (i : grid0.Coords) (k0_t1 : Fin (k0_t1_loop i).trips) (c0_i32_1131 : BitVec 32) : Fin 3 → Nat :=
  let c10_1152 : Index := 10#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3039 : Index := Scalar.indexCast v2998
  let c0_1153 : Index := 0#32
  ![10, v3039.toNat, 0]
def k0_off14 (i : grid0.Coords) (k0_t1 : Fin (k0_t1_loop i).trips) (c0_i32_1131 : BitVec 32) : Fin 3 → Nat :=
  let c11_1154 : Index := 11#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3043 : Index := Scalar.indexCast v2998
  let c0_1155 : Index := 0#32
  ![11, v3043.toNat, 0]
def k0_off15 (i : grid0.Coords) (k0_t1 : Fin (k0_t1_loop i).trips) (c0_i32_1131 : BitVec 32) : Fin 3 → Nat :=
  let c12_1156 : Index := 12#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3047 : Index := Scalar.indexCast v2998
  let c0_1157 : Index := 0#32
  ![12, v3047.toNat, 0]
def k0_off16 (i : grid0.Coords) (k0_t1 : Fin (k0_t1_loop i).trips) (c0_i32_1131 : BitVec 32) : Fin 3 → Nat :=
  let c13_1158 : Index := 13#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3051 : Index := Scalar.indexCast v2998
  let c0_1159 : Index := 0#32
  ![13, v3051.toNat, 0]
def k0_off17 (i : grid0.Coords) (k0_t1 : Fin (k0_t1_loop i).trips) (c0_i32_1131 : BitVec 32) : Fin 3 → Nat :=
  let c14_1160 : Index := 14#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3055 : Index := Scalar.indexCast v2998
  let c0_1161 : Index := 0#32
  ![14, v3055.toNat, 0]
def k0_off18 (i : grid0.Coords) (k0_t1 : Fin (k0_t1_loop i).trips) (c0_i32_1131 : BitVec 32) : Fin 3 → Nat :=
  let c15_1162 : Index := 15#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3059 : Index := Scalar.indexCast v2998
  let c0_1163 : Index := 0#32
  ![15, v3059.toNat, 0]
def k0_off19 (i : grid0.Coords) (k0_t1 : Fin (k0_t1_loop i).trips) (c0_i32_1131 : BitVec 32) : Fin 3 → Nat :=
  let c16_1164 : Index := 16#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3063 : Index := Scalar.indexCast v2998
  let c0_1165 : Index := 0#32
  ![16, v3063.toNat, 0]
def k0_off20 (i : grid0.Coords) (k0_t1 : Fin (k0_t1_loop i).trips) (c0_i32_1131 : BitVec 32) : Fin 3 → Nat :=
  let c17_1166 : Index := 17#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3067 : Index := Scalar.indexCast v2998
  let c0_1167 : Index := 0#32
  ![17, v3067.toNat, 0]
def k0_off21 (i : grid0.Coords) (k0_t1 : Fin (k0_t1_loop i).trips) (c0_i32_1131 : BitVec 32) : Fin 3 → Nat :=
  let c18_1168 : Index := 18#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3071 : Index := Scalar.indexCast v2998
  let c0_1169 : Index := 0#32
  ![18, v3071.toNat, 0]
def k0_off22 (i : grid0.Coords) (k0_t1 : Fin (k0_t1_loop i).trips) (c0_i32_1131 : BitVec 32) : Fin 3 → Nat :=
  let c19_1170 : Index := 19#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3075 : Index := Scalar.indexCast v2998
  let c0_1171 : Index := 0#32
  ![19, v3075.toNat, 0]
def k0_off23 (i : grid0.Coords) (k0_t1 : Fin (k0_t1_loop i).trips) (c0_i32_1131 : BitVec 32) : Fin 3 → Nat :=
  let c20_1172 : Index := 20#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3079 : Index := Scalar.indexCast v2998
  let c0_1173 : Index := 0#32
  ![20, v3079.toNat, 0]
def k0_off24 (i : grid0.Coords) (k0_t1 : Fin (k0_t1_loop i).trips) (c0_i32_1131 : BitVec 32) : Fin 3 → Nat :=
  let c21_1174 : Index := 21#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3083 : Index := Scalar.indexCast v2998
  let c0_1175 : Index := 0#32
  ![21, v3083.toNat, 0]
def k0_off25 (i : grid0.Coords) (k0_t1 : Fin (k0_t1_loop i).trips) (c0_i32_1131 : BitVec 32) : Fin 3 → Nat :=
  let c22_1176 : Index := 22#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3087 : Index := Scalar.indexCast v2998
  let c0_1177 : Index := 0#32
  ![22, v3087.toNat, 0]
def k0_off26 (i : grid0.Coords) (k0_t1 : Fin (k0_t1_loop i).trips) (c0_i32_1131 : BitVec 32) : Fin 3 → Nat :=
  let c23_1178 : Index := 23#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3091 : Index := Scalar.indexCast v2998
  let c0_1179 : Index := 0#32
  ![23, v3091.toNat, 0]
def k0_off27 (i : grid0.Coords) (k0_t1 : Fin (k0_t1_loop i).trips) (c0_i32_1131 : BitVec 32) : Fin 3 → Nat :=
  let c24_1180 : Index := 24#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3095 : Index := Scalar.indexCast v2998
  let c0_1181 : Index := 0#32
  ![24, v3095.toNat, 0]
def k0_off28 (i : grid0.Coords) (k0_t1 : Fin (k0_t1_loop i).trips) (c0_i32_1131 : BitVec 32) : Fin 3 → Nat :=
  let c25_1182 : Index := 25#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3099 : Index := Scalar.indexCast v2998
  let c0_1183 : Index := 0#32
  ![25, v3099.toNat, 0]
def k0_off29 (i : grid0.Coords) (k0_t1 : Fin (k0_t1_loop i).trips) (c0_i32_1131 : BitVec 32) : Fin 3 → Nat :=
  let c26_1184 : Index := 26#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3103 : Index := Scalar.indexCast v2998
  let c0_1185 : Index := 0#32
  ![26, v3103.toNat, 0]
def k0_off30 (i : grid0.Coords) (k0_t1 : Fin (k0_t1_loop i).trips) (c0_i32_1131 : BitVec 32) : Fin 3 → Nat :=
  let c27_1186 : Index := 27#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3107 : Index := Scalar.indexCast v2998
  let c0_1187 : Index := 0#32
  ![27, v3107.toNat, 0]
def k0_off31 (i : grid0.Coords) (k0_t1 : Fin (k0_t1_loop i).trips) (c0_i32_1131 : BitVec 32) : Fin 3 → Nat :=
  let c28_1188 : Index := 28#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3111 : Index := Scalar.indexCast v2998
  let c0_1189 : Index := 0#32
  ![28, v3111.toNat, 0]
def k0_off32 (i : grid0.Coords) (k0_t1 : Fin (k0_t1_loop i).trips) (c0_i32_1131 : BitVec 32) : Fin 3 → Nat :=
  let c29_1190 : Index := 29#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3115 : Index := Scalar.indexCast v2998
  let c0_1191 : Index := 0#32
  ![29, v3115.toNat, 0]
def k0_off33 (i : grid0.Coords) (k0_t1 : Fin (k0_t1_loop i).trips) (c0_i32_1131 : BitVec 32) : Fin 3 → Nat :=
  let c30_1192 : Index := 30#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3119 : Index := Scalar.indexCast v2998
  let c0_1193 : Index := 0#32
  ![30, v3119.toNat, 0]
def k0_off34 (i : grid0.Coords) (k0_t1 : Fin (k0_t1_loop i).trips) (c0_i32_1131 : BitVec 32) : Fin 3 → Nat :=
  let c31_1194 : Index := 31#32
  let c0_i32_125 : BitVec 32 := 0#32
  let c1_i32_127 : BitVec 32 := 1#32
  let arg23 : BitVec 32 := Scf.iv c0_i32_125 c1_i32_127 k0_t1
  let c16_i32_1130 : BitVec 32 := 16#32
  let v2996 : BitVec 32 := Scalar.muli arg23 c16_i32_1130
  let v2997 : BitVec 32 := Scalar.addi v2996 c0_i32_1131
  let v2998 : BitVec 32 := v2997
  let v3123 : Index := Scalar.indexCast v2998
  let c0_1195 : Index := 0#32
  ![31, v3123.toNat, 0]
def k0_mult3 (i : grid0.Coords) (k0_t1 : Fin (k0_t1_loop i).trips) : BitVec 32 :=
  let c0_i32_125 : BitVec 32 := 0#32
  let c1_i32_127 : BitVec 32 := 1#32
  let arg23 : BitVec 32 := Scf.iv c0_i32_125 c1_i32_127 k0_t1
  let c16_i32_1436 : BitVec 32 := 16#32
  let v3879 : BitVec 32 := Scalar.muli arg23 c16_i32_1436
  let c8_i32_1437 : BitVec 32 := 8#32
  let v3880 : BitVec 32 := Scalar.addi v3879 c8_i32_1437
  v3880
@[reducible] def k0_t2_loop (i : grid0.Coords) : Scf.Loop 32 :=
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let v168 : BitVec 32 := Scalar.addi c0_i32_125 v167
  let c1_i32_128 : BitVec 32 := 1#32
  ⟨v171, v168, c1_i32_128⟩
def k0_mult4 (i : grid0.Coords) (k0_t2 : Fin (k0_t2_loop i).trips) : BitVec 32 :=
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c512_i32_847 : BitVec 32 := 512#32
  let v2159 : BitVec 32 := Scalar.muli arg23 c512_i32_847
  v2159
def k0_off35 (i : grid0.Coords) (k0_t2 : Fin (k0_t2_loop i).trips) : Fin 3 → Nat :=
  let c0_850 : Index := 0#32
  let c0_851 : Index := 0#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c512_i32_847 : BitVec 32 := 512#32
  let v2159 : BitVec 32 := Scalar.muli arg23 c512_i32_847
  let v2160 : BitVec 32 := v2159
  let v2162 : Index := Scalar.indexCast v2160
  ![0, 0, v2162.toNat]
def k0_off36 (i : grid0.Coords) (k0_t2 : Fin (k0_t2_loop i).trips) : Fin 2 → Nat :=
  let c0_888 : Index := 0#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c512_i32_847 : BitVec 32 := 512#32
  let v2159 : BitVec 32 := Scalar.muli arg23 c512_i32_847
  let v2160 : BitVec 32 := v2159
  let v2237 : Index := Scalar.indexCast v2160
  ![0, v2237.toNat]
def k0_mult5 (i : grid0.Coords) (k0_t2 : Fin (k0_t2_loop i).trips) : BitVec 32 :=
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let c0_i32_1131 : BitVec 32 := 0#32
  let v2997 : BitVec 32 := Scalar.addi v2996 c0_i32_1131
  v2997
def k0_off37 (i : grid0.Coords) (k0_t2 : Fin (k0_t2_loop i).trips) (c0_i32_1131 : BitVec 32) : Fin 3 → Nat :=
  let c0_1132 : Index := 0#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v2999 : Index := Scalar.indexCast v2998
  let c0_1133 : Index := 0#32
  ![0, v2999.toNat, 0]
def k0_off38 (i : grid0.Coords) (k0_t2 : Fin (k0_t2_loop i).trips) (c0_i32_1131 : BitVec 32) : Fin 3 → Nat :=
  let c1_1134 : Index := 1#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3003 : Index := Scalar.indexCast v2998
  let c0_1135 : Index := 0#32
  ![1, v3003.toNat, 0]
def k0_off39 (i : grid0.Coords) (k0_t2 : Fin (k0_t2_loop i).trips) (c0_i32_1131 : BitVec 32) : Fin 3 → Nat :=
  let c2_1136 : Index := 2#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3007 : Index := Scalar.indexCast v2998
  let c0_1137 : Index := 0#32
  ![2, v3007.toNat, 0]
def k0_off40 (i : grid0.Coords) (k0_t2 : Fin (k0_t2_loop i).trips) (c0_i32_1131 : BitVec 32) : Fin 3 → Nat :=
  let c3_1138 : Index := 3#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3011 : Index := Scalar.indexCast v2998
  let c0_1139 : Index := 0#32
  ![3, v3011.toNat, 0]
def k0_off41 (i : grid0.Coords) (k0_t2 : Fin (k0_t2_loop i).trips) (c0_i32_1131 : BitVec 32) : Fin 3 → Nat :=
  let c4_1140 : Index := 4#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3015 : Index := Scalar.indexCast v2998
  let c0_1141 : Index := 0#32
  ![4, v3015.toNat, 0]
def k0_off42 (i : grid0.Coords) (k0_t2 : Fin (k0_t2_loop i).trips) (c0_i32_1131 : BitVec 32) : Fin 3 → Nat :=
  let c5_1142 : Index := 5#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3019 : Index := Scalar.indexCast v2998
  let c0_1143 : Index := 0#32
  ![5, v3019.toNat, 0]
def k0_off43 (i : grid0.Coords) (k0_t2 : Fin (k0_t2_loop i).trips) (c0_i32_1131 : BitVec 32) : Fin 3 → Nat :=
  let c6_1144 : Index := 6#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3023 : Index := Scalar.indexCast v2998
  let c0_1145 : Index := 0#32
  ![6, v3023.toNat, 0]
def k0_off44 (i : grid0.Coords) (k0_t2 : Fin (k0_t2_loop i).trips) (c0_i32_1131 : BitVec 32) : Fin 3 → Nat :=
  let c7_1146 : Index := 7#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3027 : Index := Scalar.indexCast v2998
  let c0_1147 : Index := 0#32
  ![7, v3027.toNat, 0]
def k0_off45 (i : grid0.Coords) (k0_t2 : Fin (k0_t2_loop i).trips) (c0_i32_1131 : BitVec 32) : Fin 3 → Nat :=
  let c8_1148 : Index := 8#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3031 : Index := Scalar.indexCast v2998
  let c0_1149 : Index := 0#32
  ![8, v3031.toNat, 0]
def k0_off46 (i : grid0.Coords) (k0_t2 : Fin (k0_t2_loop i).trips) (c0_i32_1131 : BitVec 32) : Fin 3 → Nat :=
  let c9_1150 : Index := 9#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3035 : Index := Scalar.indexCast v2998
  let c0_1151 : Index := 0#32
  ![9, v3035.toNat, 0]
def k0_off47 (i : grid0.Coords) (k0_t2 : Fin (k0_t2_loop i).trips) (c0_i32_1131 : BitVec 32) : Fin 3 → Nat :=
  let c10_1152 : Index := 10#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3039 : Index := Scalar.indexCast v2998
  let c0_1153 : Index := 0#32
  ![10, v3039.toNat, 0]
def k0_off48 (i : grid0.Coords) (k0_t2 : Fin (k0_t2_loop i).trips) (c0_i32_1131 : BitVec 32) : Fin 3 → Nat :=
  let c11_1154 : Index := 11#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3043 : Index := Scalar.indexCast v2998
  let c0_1155 : Index := 0#32
  ![11, v3043.toNat, 0]
def k0_off49 (i : grid0.Coords) (k0_t2 : Fin (k0_t2_loop i).trips) (c0_i32_1131 : BitVec 32) : Fin 3 → Nat :=
  let c12_1156 : Index := 12#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3047 : Index := Scalar.indexCast v2998
  let c0_1157 : Index := 0#32
  ![12, v3047.toNat, 0]
def k0_off50 (i : grid0.Coords) (k0_t2 : Fin (k0_t2_loop i).trips) (c0_i32_1131 : BitVec 32) : Fin 3 → Nat :=
  let c13_1158 : Index := 13#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3051 : Index := Scalar.indexCast v2998
  let c0_1159 : Index := 0#32
  ![13, v3051.toNat, 0]
def k0_off51 (i : grid0.Coords) (k0_t2 : Fin (k0_t2_loop i).trips) (c0_i32_1131 : BitVec 32) : Fin 3 → Nat :=
  let c14_1160 : Index := 14#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3055 : Index := Scalar.indexCast v2998
  let c0_1161 : Index := 0#32
  ![14, v3055.toNat, 0]
def k0_off52 (i : grid0.Coords) (k0_t2 : Fin (k0_t2_loop i).trips) (c0_i32_1131 : BitVec 32) : Fin 3 → Nat :=
  let c15_1162 : Index := 15#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3059 : Index := Scalar.indexCast v2998
  let c0_1163 : Index := 0#32
  ![15, v3059.toNat, 0]
def k0_off53 (i : grid0.Coords) (k0_t2 : Fin (k0_t2_loop i).trips) (c0_i32_1131 : BitVec 32) : Fin 3 → Nat :=
  let c16_1164 : Index := 16#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3063 : Index := Scalar.indexCast v2998
  let c0_1165 : Index := 0#32
  ![16, v3063.toNat, 0]
def k0_off54 (i : grid0.Coords) (k0_t2 : Fin (k0_t2_loop i).trips) (c0_i32_1131 : BitVec 32) : Fin 3 → Nat :=
  let c17_1166 : Index := 17#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3067 : Index := Scalar.indexCast v2998
  let c0_1167 : Index := 0#32
  ![17, v3067.toNat, 0]
def k0_off55 (i : grid0.Coords) (k0_t2 : Fin (k0_t2_loop i).trips) (c0_i32_1131 : BitVec 32) : Fin 3 → Nat :=
  let c18_1168 : Index := 18#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3071 : Index := Scalar.indexCast v2998
  let c0_1169 : Index := 0#32
  ![18, v3071.toNat, 0]
def k0_off56 (i : grid0.Coords) (k0_t2 : Fin (k0_t2_loop i).trips) (c0_i32_1131 : BitVec 32) : Fin 3 → Nat :=
  let c19_1170 : Index := 19#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3075 : Index := Scalar.indexCast v2998
  let c0_1171 : Index := 0#32
  ![19, v3075.toNat, 0]
def k0_off57 (i : grid0.Coords) (k0_t2 : Fin (k0_t2_loop i).trips) (c0_i32_1131 : BitVec 32) : Fin 3 → Nat :=
  let c20_1172 : Index := 20#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3079 : Index := Scalar.indexCast v2998
  let c0_1173 : Index := 0#32
  ![20, v3079.toNat, 0]
def k0_off58 (i : grid0.Coords) (k0_t2 : Fin (k0_t2_loop i).trips) (c0_i32_1131 : BitVec 32) : Fin 3 → Nat :=
  let c21_1174 : Index := 21#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3083 : Index := Scalar.indexCast v2998
  let c0_1175 : Index := 0#32
  ![21, v3083.toNat, 0]
def k0_off59 (i : grid0.Coords) (k0_t2 : Fin (k0_t2_loop i).trips) (c0_i32_1131 : BitVec 32) : Fin 3 → Nat :=
  let c22_1176 : Index := 22#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3087 : Index := Scalar.indexCast v2998
  let c0_1177 : Index := 0#32
  ![22, v3087.toNat, 0]
def k0_off60 (i : grid0.Coords) (k0_t2 : Fin (k0_t2_loop i).trips) (c0_i32_1131 : BitVec 32) : Fin 3 → Nat :=
  let c23_1178 : Index := 23#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3091 : Index := Scalar.indexCast v2998
  let c0_1179 : Index := 0#32
  ![23, v3091.toNat, 0]
def k0_off61 (i : grid0.Coords) (k0_t2 : Fin (k0_t2_loop i).trips) (c0_i32_1131 : BitVec 32) : Fin 3 → Nat :=
  let c24_1180 : Index := 24#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3095 : Index := Scalar.indexCast v2998
  let c0_1181 : Index := 0#32
  ![24, v3095.toNat, 0]
def k0_off62 (i : grid0.Coords) (k0_t2 : Fin (k0_t2_loop i).trips) (c0_i32_1131 : BitVec 32) : Fin 3 → Nat :=
  let c25_1182 : Index := 25#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3099 : Index := Scalar.indexCast v2998
  let c0_1183 : Index := 0#32
  ![25, v3099.toNat, 0]
def k0_off63 (i : grid0.Coords) (k0_t2 : Fin (k0_t2_loop i).trips) (c0_i32_1131 : BitVec 32) : Fin 3 → Nat :=
  let c26_1184 : Index := 26#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3103 : Index := Scalar.indexCast v2998
  let c0_1185 : Index := 0#32
  ![26, v3103.toNat, 0]
def k0_off64 (i : grid0.Coords) (k0_t2 : Fin (k0_t2_loop i).trips) (c0_i32_1131 : BitVec 32) : Fin 3 → Nat :=
  let c27_1186 : Index := 27#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3107 : Index := Scalar.indexCast v2998
  let c0_1187 : Index := 0#32
  ![27, v3107.toNat, 0]
def k0_off65 (i : grid0.Coords) (k0_t2 : Fin (k0_t2_loop i).trips) (c0_i32_1131 : BitVec 32) : Fin 3 → Nat :=
  let c28_1188 : Index := 28#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3111 : Index := Scalar.indexCast v2998
  let c0_1189 : Index := 0#32
  ![28, v3111.toNat, 0]
def k0_off66 (i : grid0.Coords) (k0_t2 : Fin (k0_t2_loop i).trips) (c0_i32_1131 : BitVec 32) : Fin 3 → Nat :=
  let c29_1190 : Index := 29#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3115 : Index := Scalar.indexCast v2998
  let c0_1191 : Index := 0#32
  ![29, v3115.toNat, 0]
def k0_off67 (i : grid0.Coords) (k0_t2 : Fin (k0_t2_loop i).trips) (c0_i32_1131 : BitVec 32) : Fin 3 → Nat :=
  let c30_1192 : Index := 30#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3119 : Index := Scalar.indexCast v2998
  let c0_1193 : Index := 0#32
  ![30, v3119.toNat, 0]
def k0_off68 (i : grid0.Coords) (k0_t2 : Fin (k0_t2_loop i).trips) (c0_i32_1131 : BitVec 32) : Fin 3 → Nat :=
  let c31_1194 : Index := 31#32
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1130 : BitVec 32 := 16#32
  let v2996 : BitVec 32 := Scalar.muli arg23 c16_i32_1130
  let v2997 : BitVec 32 := Scalar.addi v2996 c0_i32_1131
  let v2998 : BitVec 32 := v2997
  let v3123 : Index := Scalar.indexCast v2998
  let c0_1195 : Index := 0#32
  ![31, v3123.toNat, 0]
def k0_mult6 (i : grid0.Coords) (k0_t2 : Fin (k0_t2_loop i).trips) : BitVec 32 :=
  let c0_i32_125 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_123 : BitVec 32 := 1#32
  let v166 : BitVec 32 := Scalar.subi v20 c1_i32_123
  let v167 : BitVec 32 := Scalar.subi v166 c0_i32_125
  let c1_i32_126 : BitVec 32 := 1#32
  let v169 : BitVec 32 := Scalar.divsi v167 c1_i32_126
  let v170 : BitVec 32 := Scalar.muli v169 c1_i32_126
  let v171 : BitVec 32 := Scalar.addi c0_i32_125 v170
  let c1_i32_128 : BitVec 32 := 1#32
  let arg23 : BitVec 32 := Scf.iv v171 c1_i32_128 k0_t2
  let c16_i32_1436 : BitVec 32 := 16#32
  let v3879 : BitVec 32 := Scalar.muli arg23 c16_i32_1436
  let c8_i32_1437 : BitVec 32 := 8#32
  let v3880 : BitVec 32 := Scalar.addi v3879 c8_i32_1437
  v3880
def k0_mult7 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c512_i32_130 : BitVec 32 := 512#32
  let v173 : BitVec 32 := Scalar.muli v172 c512_i32_130
  v173
def k0_off69 (i : grid0.Coords) : Fin 3 → Nat :=
  let c0_133 : Index := 0#32
  let c0_134 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c512_i32_130 : BitVec 32 := 512#32
  let v173 : BitVec 32 := Scalar.muli v172 c512_i32_130
  let v174 : BitVec 32 := v173
  let v176 : Index := Scalar.indexCast v174
  ![0, 0, v176.toNat]
def k0_off70 (i : grid0.Coords) : Fin 2 → Nat :=
  let c0_170 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c512_i32_130 : BitVec 32 := 512#32
  let v173 : BitVec 32 := Scalar.muli v172 c512_i32_130
  let v174 : BitVec 32 := v173
  let v256 : Index := Scalar.indexCast v174
  ![0, v256.toNat]
def k0_mult8 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let c0_i32_404 : BitVec 32 := 0#32
  let v1016 : BitVec 32 := Scalar.addi v1015 c0_i32_404
  v1016
def k0_off71 (i : grid0.Coords) (c0_i32_404 : BitVec 32) : Fin 3 → Nat :=
  let c0_405 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1018 : Index := Scalar.indexCast v1017
  let c0_406 : Index := 0#32
  ![0, v1018.toNat, 0]
def k0_off72 (i : grid0.Coords) (c0_i32_404 : BitVec 32) : Fin 3 → Nat :=
  let c1_407 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1022 : Index := Scalar.indexCast v1017
  let c0_408 : Index := 0#32
  ![1, v1022.toNat, 0]
def k0_off73 (i : grid0.Coords) (c0_i32_404 : BitVec 32) : Fin 3 → Nat :=
  let c2_409 : Index := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1026 : Index := Scalar.indexCast v1017
  let c0_410 : Index := 0#32
  ![2, v1026.toNat, 0]
def k0_off74 (i : grid0.Coords) (c0_i32_404 : BitVec 32) : Fin 3 → Nat :=
  let c3_411 : Index := 3#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1030 : Index := Scalar.indexCast v1017
  let c0_412 : Index := 0#32
  ![3, v1030.toNat, 0]
def k0_off75 (i : grid0.Coords) (c0_i32_404 : BitVec 32) : Fin 3 → Nat :=
  let c4_413 : Index := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1034 : Index := Scalar.indexCast v1017
  let c0_414 : Index := 0#32
  ![4, v1034.toNat, 0]
def k0_off76 (i : grid0.Coords) (c0_i32_404 : BitVec 32) : Fin 3 → Nat :=
  let c5_415 : Index := 5#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1038 : Index := Scalar.indexCast v1017
  let c0_416 : Index := 0#32
  ![5, v1038.toNat, 0]
def k0_off77 (i : grid0.Coords) (c0_i32_404 : BitVec 32) : Fin 3 → Nat :=
  let c6_417 : Index := 6#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1042 : Index := Scalar.indexCast v1017
  let c0_418 : Index := 0#32
  ![6, v1042.toNat, 0]
def k0_off78 (i : grid0.Coords) (c0_i32_404 : BitVec 32) : Fin 3 → Nat :=
  let c7_419 : Index := 7#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1046 : Index := Scalar.indexCast v1017
  let c0_420 : Index := 0#32
  ![7, v1046.toNat, 0]
def k0_off79 (i : grid0.Coords) (c0_i32_404 : BitVec 32) : Fin 3 → Nat :=
  let c8 : Index := 8#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1050 : Index := Scalar.indexCast v1017
  let c0_421 : Index := 0#32
  ![8, v1050.toNat, 0]
def k0_off80 (i : grid0.Coords) (c0_i32_404 : BitVec 32) : Fin 3 → Nat :=
  let c9 : Index := 9#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1054 : Index := Scalar.indexCast v1017
  let c0_422 : Index := 0#32
  ![9, v1054.toNat, 0]
def k0_off81 (i : grid0.Coords) (c0_i32_404 : BitVec 32) : Fin 3 → Nat :=
  let c10 : Index := 10#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1058 : Index := Scalar.indexCast v1017
  let c0_423 : Index := 0#32
  ![10, v1058.toNat, 0]
def k0_off82 (i : grid0.Coords) (c0_i32_404 : BitVec 32) : Fin 3 → Nat :=
  let c11 : Index := 11#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1062 : Index := Scalar.indexCast v1017
  let c0_424 : Index := 0#32
  ![11, v1062.toNat, 0]
def k0_off83 (i : grid0.Coords) (c0_i32_404 : BitVec 32) : Fin 3 → Nat :=
  let c12 : Index := 12#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1066 : Index := Scalar.indexCast v1017
  let c0_425 : Index := 0#32
  ![12, v1066.toNat, 0]
def k0_off84 (i : grid0.Coords) (c0_i32_404 : BitVec 32) : Fin 3 → Nat :=
  let c13 : Index := 13#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1070 : Index := Scalar.indexCast v1017
  let c0_426 : Index := 0#32
  ![13, v1070.toNat, 0]
def k0_off85 (i : grid0.Coords) (c0_i32_404 : BitVec 32) : Fin 3 → Nat :=
  let c14 : Index := 14#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1074 : Index := Scalar.indexCast v1017
  let c0_427 : Index := 0#32
  ![14, v1074.toNat, 0]
def k0_off86 (i : grid0.Coords) (c0_i32_404 : BitVec 32) : Fin 3 → Nat :=
  let c15 : Index := 15#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1078 : Index := Scalar.indexCast v1017
  let c0_428 : Index := 0#32
  ![15, v1078.toNat, 0]
def k0_off87 (i : grid0.Coords) (c0_i32_404 : BitVec 32) : Fin 3 → Nat :=
  let c16 : Index := 16#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1082 : Index := Scalar.indexCast v1017
  let c0_429 : Index := 0#32
  ![16, v1082.toNat, 0]
def k0_off88 (i : grid0.Coords) (c0_i32_404 : BitVec 32) : Fin 3 → Nat :=
  let c17 : Index := 17#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1086 : Index := Scalar.indexCast v1017
  let c0_430 : Index := 0#32
  ![17, v1086.toNat, 0]
def k0_off89 (i : grid0.Coords) (c0_i32_404 : BitVec 32) : Fin 3 → Nat :=
  let c18 : Index := 18#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1090 : Index := Scalar.indexCast v1017
  let c0_431 : Index := 0#32
  ![18, v1090.toNat, 0]
def k0_off90 (i : grid0.Coords) (c0_i32_404 : BitVec 32) : Fin 3 → Nat :=
  let c19 : Index := 19#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1094 : Index := Scalar.indexCast v1017
  let c0_432 : Index := 0#32
  ![19, v1094.toNat, 0]
def k0_off91 (i : grid0.Coords) (c0_i32_404 : BitVec 32) : Fin 3 → Nat :=
  let c20 : Index := 20#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1098 : Index := Scalar.indexCast v1017
  let c0_433 : Index := 0#32
  ![20, v1098.toNat, 0]
def k0_off92 (i : grid0.Coords) (c0_i32_404 : BitVec 32) : Fin 3 → Nat :=
  let c21 : Index := 21#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1102 : Index := Scalar.indexCast v1017
  let c0_434 : Index := 0#32
  ![21, v1102.toNat, 0]
def k0_off93 (i : grid0.Coords) (c0_i32_404 : BitVec 32) : Fin 3 → Nat :=
  let c22 : Index := 22#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1106 : Index := Scalar.indexCast v1017
  let c0_435 : Index := 0#32
  ![22, v1106.toNat, 0]
def k0_off94 (i : grid0.Coords) (c0_i32_404 : BitVec 32) : Fin 3 → Nat :=
  let c23 : Index := 23#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1110 : Index := Scalar.indexCast v1017
  let c0_436 : Index := 0#32
  ![23, v1110.toNat, 0]
def k0_off95 (i : grid0.Coords) (c0_i32_404 : BitVec 32) : Fin 3 → Nat :=
  let c24 : Index := 24#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1114 : Index := Scalar.indexCast v1017
  let c0_437 : Index := 0#32
  ![24, v1114.toNat, 0]
def k0_off96 (i : grid0.Coords) (c0_i32_404 : BitVec 32) : Fin 3 → Nat :=
  let c25 : Index := 25#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1118 : Index := Scalar.indexCast v1017
  let c0_438 : Index := 0#32
  ![25, v1118.toNat, 0]
def k0_off97 (i : grid0.Coords) (c0_i32_404 : BitVec 32) : Fin 3 → Nat :=
  let c26 : Index := 26#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1122 : Index := Scalar.indexCast v1017
  let c0_439 : Index := 0#32
  ![26, v1122.toNat, 0]
def k0_off98 (i : grid0.Coords) (c0_i32_404 : BitVec 32) : Fin 3 → Nat :=
  let c27 : Index := 27#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1126 : Index := Scalar.indexCast v1017
  let c0_440 : Index := 0#32
  ![27, v1126.toNat, 0]
def k0_off99 (i : grid0.Coords) (c0_i32_404 : BitVec 32) : Fin 3 → Nat :=
  let c28 : Index := 28#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1130 : Index := Scalar.indexCast v1017
  let c0_441 : Index := 0#32
  ![28, v1130.toNat, 0]
def k0_off100 (i : grid0.Coords) (c0_i32_404 : BitVec 32) : Fin 3 → Nat :=
  let c29 : Index := 29#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1134 : Index := Scalar.indexCast v1017
  let c0_442 : Index := 0#32
  ![29, v1134.toNat, 0]
def k0_off101 (i : grid0.Coords) (c0_i32_404 : BitVec 32) : Fin 3 → Nat :=
  let c30 : Index := 30#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1138 : Index := Scalar.indexCast v1017
  let c0_443 : Index := 0#32
  ![30, v1138.toNat, 0]
def k0_off102 (i : grid0.Coords) (c0_i32_404 : BitVec 32) : Fin 3 → Nat :=
  let c31 : Index := 31#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_403 : BitVec 32 := 16#32
  let v1015 : BitVec 32 := Scalar.muli v172 c16_i32_403
  let v1016 : BitVec 32 := Scalar.addi v1015 c0_i32_404
  let v1017 : BitVec 32 := v1016
  let v1142 : Index := Scalar.indexCast v1017
  let c0_444 : Index := 0#32
  ![31, v1142.toNat, 0]
def k0_mult9 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_129 : BitVec 32 := 1#32
  let v172 : BitVec 32 := Scalar.subi v20 c1_i32_129
  let c16_i32_685 : BitVec 32 := 16#32
  let v1898 : BitVec 32 := Scalar.muli v172 c16_i32_685
  let c8_i32_686 : BitVec 32 := 8#32
  let v1899 : BitVec 32 := Scalar.addi v1898 c8_i32_686
  v1899
@[reducible] def k0_t3_loop : Scf.Loop 32 :=
  let c0_i32_756 : BitVec 32 := 0#32
  let c32_i32 : BitVec 32 := 32#32
  let v2040 : BitVec 32 := Scalar.addi c0_i32_756 c32_i32
  let c1_i32_757 : BitVec 32 := 1#32
  ⟨c0_i32_756, v2040, c1_i32_757⟩
def k0_off103 (k0_t3 : Fin k0_t3_loop.trips) : Fin 3 → Nat :=
  let c0_i32_756 : BitVec 32 := 0#32
  let c1_i32_757 : BitVec 32 := 1#32
  let arg23 : BitVec 32 := Scf.iv c0_i32_756 c1_i32_757 k0_t3
  let v2160 : Index := Scalar.indexCast arg23
  let c0_849 : Index := 0#32
  let c0_850 : Index := 0#32
  ![v2160.toNat, 0, 0]
@[reducible] def k0_t4_loop (i : grid0.Coords) : Scf.Loop 32 :=
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let c1_i32_851 : BitVec 32 := 1#32
  ⟨c0_i32_849, v2172, c1_i32_851⟩
def k0_mult10 (i : grid0.Coords) (k0_t4 : Fin (k0_t4_loop i).trips) : BitVec 32 :=
  let c0_i32_849 : BitVec 32 := 0#32
  let c1_i32_851 : BitVec 32 := 1#32
  let arg23 : BitVec 32 := Scf.iv c0_i32_849 c1_i32_851 k0_t4
  let c512_i32_853 : BitVec 32 := 512#32
  let v2175 : BitVec 32 := Scalar.muli arg23 c512_i32_853
  v2175
def k0_off104 (i : grid0.Coords) (k0_t4 : Fin (k0_t4_loop i).trips) : Fin 2 → Nat :=
  let c0_854 : Index := 0#32
  let c0_i32_849 : BitVec 32 := 0#32
  let c1_i32_851 : BitVec 32 := 1#32
  let arg23 : BitVec 32 := Scf.iv c0_i32_849 c1_i32_851 k0_t4
  let c512_i32_853 : BitVec 32 := 512#32
  let v2175 : BitVec 32 := Scalar.muli arg23 c512_i32_853
  let v2176 : BitVec 32 := v2175
  let v2177 : Index := Scalar.indexCast v2176
  ![0, v2177.toNat]
def k0_off105 (i : grid0.Coords) (k0_t4 : Fin (k0_t4_loop i).trips) : Fin 3 → Nat :=
  let c0_869 : Index := 0#32
  let c0_870 : Index := 0#32
  let c0_i32_849 : BitVec 32 := 0#32
  let c1_i32_851 : BitVec 32 := 1#32
  let arg23 : BitVec 32 := Scf.iv c0_i32_849 c1_i32_851 k0_t4
  let c512_i32_853 : BitVec 32 := 512#32
  let v2175 : BitVec 32 := Scalar.muli arg23 c512_i32_853
  let v2176 : BitVec 32 := v2175
  let v2206 : Index := Scalar.indexCast v2176
  ![0, 0, v2206.toNat]
def k0_off106 (i : grid0.Coords) (k0_t4 : Fin (k0_t4_loop i).trips) : Fin 3 → Nat :=
  let c0_896 : Index := 0#32
  let c0_i32_849 : BitVec 32 := 0#32
  let c1_i32_851 : BitVec 32 := 1#32
  let arg23 : BitVec 32 := Scf.iv c0_i32_849 c1_i32_851 k0_t4
  let c512_i32_853 : BitVec 32 := 512#32
  let v2175 : BitVec 32 := Scalar.muli arg23 c512_i32_853
  let v2176 : BitVec 32 := v2175
  let v2247 : Index := Scalar.indexCast v2176
  let c0_897 : Index := 0#32
  ![0, v2247.toNat, 0]
@[reducible] def k0_t5_loop (i : grid0.Coords) : Scf.Loop 32 :=
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let v2169 : BitVec 32 := Scalar.addi c0_i32_849 v2168
  let c1_i32_852 : BitVec 32 := 1#32
  ⟨v2172, v2169, c1_i32_852⟩
def k0_mult11 (i : grid0.Coords) (k0_t5 : Fin (k0_t5_loop i).trips) : BitVec 32 :=
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let c1_i32_852 : BitVec 32 := 1#32
  let arg23 : BitVec 32 := Scf.iv v2172 c1_i32_852 k0_t5
  let c512_i32_853 : BitVec 32 := 512#32
  let v2175 : BitVec 32 := Scalar.muli arg23 c512_i32_853
  v2175
def k0_off107 (i : grid0.Coords) (k0_t5 : Fin (k0_t5_loop i).trips) : Fin 2 → Nat :=
  let c0_854 : Index := 0#32
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let c1_i32_852 : BitVec 32 := 1#32
  let arg23 : BitVec 32 := Scf.iv v2172 c1_i32_852 k0_t5
  let c512_i32_853 : BitVec 32 := 512#32
  let v2175 : BitVec 32 := Scalar.muli arg23 c512_i32_853
  let v2176 : BitVec 32 := v2175
  let v2177 : Index := Scalar.indexCast v2176
  ![0, v2177.toNat]
def k0_off108 (i : grid0.Coords) (k0_t5 : Fin (k0_t5_loop i).trips) : Fin 3 → Nat :=
  let c0_869 : Index := 0#32
  let c0_870 : Index := 0#32
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let c1_i32_852 : BitVec 32 := 1#32
  let arg23 : BitVec 32 := Scf.iv v2172 c1_i32_852 k0_t5
  let c512_i32_853 : BitVec 32 := 512#32
  let v2175 : BitVec 32 := Scalar.muli arg23 c512_i32_853
  let v2176 : BitVec 32 := v2175
  let v2206 : Index := Scalar.indexCast v2176
  ![0, 0, v2206.toNat]
def k0_off109 (i : grid0.Coords) (k0_t5 : Fin (k0_t5_loop i).trips) : Fin 3 → Nat :=
  let c0_896 : Index := 0#32
  let c0_i32_849 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2168 : BitVec 32 := Scalar.subi v20 c0_i32_849
  let c1_i32_850 : BitVec 32 := 1#32
  let v2170 : BitVec 32 := Scalar.divsi v2168 c1_i32_850
  let v2171 : BitVec 32 := Scalar.muli v2170 c1_i32_850
  let v2172 : BitVec 32 := Scalar.addi c0_i32_849 v2171
  let c1_i32_852 : BitVec 32 := 1#32
  let arg23 : BitVec 32 := Scf.iv v2172 c1_i32_852 k0_t5
  let c512_i32_853 : BitVec 32 := 512#32
  let v2175 : BitVec 32 := Scalar.muli arg23 c512_i32_853
  let v2176 : BitVec 32 := v2175
  let v2247 : Index := Scalar.indexCast v2176
  let c0_897 : Index := 0#32
  ![0, v2247.toNat, 0]
@[reducible] def k0_t6_loop (i : grid0.Coords) : Scf.Loop 32 :=
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let c1_i32_850 : BitVec 32 := 1#32
  ⟨c0_i32_848, v2165, c1_i32_850⟩
def k0_mult12 (i : grid0.Coords) (k0_t6 : Fin (k0_t6_loop i).trips) : BitVec 32 :=
  let c0_i32_848 : BitVec 32 := 0#32
  let c1_i32_850 : BitVec 32 := 1#32
  let arg23 : BitVec 32 := Scf.iv c0_i32_848 c1_i32_850 k0_t6
  let c512_i32_852 : BitVec 32 := 512#32
  let v2166 : BitVec 32 := Scalar.muli arg23 c512_i32_852
  v2166
def k0_off110 (i : grid0.Coords) (k0_t6 : Fin (k0_t6_loop i).trips) : Fin 2 → Nat :=
  let c0_853 : Index := 0#32
  let c0_i32_848 : BitVec 32 := 0#32
  let c1_i32_850 : BitVec 32 := 1#32
  let arg23 : BitVec 32 := Scf.iv c0_i32_848 c1_i32_850 k0_t6
  let c512_i32_852 : BitVec 32 := 512#32
  let v2166 : BitVec 32 := Scalar.muli arg23 c512_i32_852
  let v2167 : BitVec 32 := v2166
  let v2168 : Index := Scalar.indexCast v2167
  ![0, v2168.toNat]
def k0_off111 (i : grid0.Coords) (k0_t6 : Fin (k0_t6_loop i).trips) : Fin 3 → Nat :=
  let c0_860 : Index := 0#32
  let c0_861 : Index := 0#32
  let c0_i32_848 : BitVec 32 := 0#32
  let c1_i32_850 : BitVec 32 := 1#32
  let arg23 : BitVec 32 := Scf.iv c0_i32_848 c1_i32_850 k0_t6
  let c512_i32_852 : BitVec 32 := 512#32
  let v2166 : BitVec 32 := Scalar.muli arg23 c512_i32_852
  let v2167 : BitVec 32 := v2166
  let v2178 : Index := Scalar.indexCast v2167
  ![0, 0, v2178.toNat]
def k0_off112 (i : grid0.Coords) (k0_t6 : Fin (k0_t6_loop i).trips) : Fin 3 → Nat :=
  let c0_887 : Index := 0#32
  let c0_i32_848 : BitVec 32 := 0#32
  let c1_i32_850 : BitVec 32 := 1#32
  let arg23 : BitVec 32 := Scf.iv c0_i32_848 c1_i32_850 k0_t6
  let c512_i32_852 : BitVec 32 := 512#32
  let v2166 : BitVec 32 := Scalar.muli arg23 c512_i32_852
  let v2167 : BitVec 32 := v2166
  let v2219 : Index := Scalar.indexCast v2167
  let c0_888 : Index := 0#32
  ![0, v2219.toNat, 0]
@[reducible] def k0_t7_loop (i : grid0.Coords) : Scf.Loop 32 :=
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let v2162 : BitVec 32 := Scalar.addi c0_i32_848 v2161
  let c1_i32_851 : BitVec 32 := 1#32
  ⟨v2165, v2162, c1_i32_851⟩
def k0_mult13 (i : grid0.Coords) (k0_t7 : Fin (k0_t7_loop i).trips) : BitVec 32 :=
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let c1_i32_851 : BitVec 32 := 1#32
  let arg23 : BitVec 32 := Scf.iv v2165 c1_i32_851 k0_t7
  let c512_i32_852 : BitVec 32 := 512#32
  let v2166 : BitVec 32 := Scalar.muli arg23 c512_i32_852
  v2166
def k0_off113 (i : grid0.Coords) (k0_t7 : Fin (k0_t7_loop i).trips) : Fin 2 → Nat :=
  let c0_853 : Index := 0#32
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let c1_i32_851 : BitVec 32 := 1#32
  let arg23 : BitVec 32 := Scf.iv v2165 c1_i32_851 k0_t7
  let c512_i32_852 : BitVec 32 := 512#32
  let v2166 : BitVec 32 := Scalar.muli arg23 c512_i32_852
  let v2167 : BitVec 32 := v2166
  let v2168 : Index := Scalar.indexCast v2167
  ![0, v2168.toNat]
def k0_off114 (i : grid0.Coords) (k0_t7 : Fin (k0_t7_loop i).trips) : Fin 3 → Nat :=
  let c0_860 : Index := 0#32
  let c0_861 : Index := 0#32
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let c1_i32_851 : BitVec 32 := 1#32
  let arg23 : BitVec 32 := Scf.iv v2165 c1_i32_851 k0_t7
  let c512_i32_852 : BitVec 32 := 512#32
  let v2166 : BitVec 32 := Scalar.muli arg23 c512_i32_852
  let v2167 : BitVec 32 := v2166
  let v2178 : Index := Scalar.indexCast v2167
  ![0, 0, v2178.toNat]
def k0_off115 (i : grid0.Coords) (k0_t7 : Fin (k0_t7_loop i).trips) : Fin 3 → Nat :=
  let c0_887 : Index := 0#32
  let c0_i32_848 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2161 : BitVec 32 := Scalar.subi v20 c0_i32_848
  let c1_i32_849 : BitVec 32 := 1#32
  let v2163 : BitVec 32 := Scalar.divsi v2161 c1_i32_849
  let v2164 : BitVec 32 := Scalar.muli v2163 c1_i32_849
  let v2165 : BitVec 32 := Scalar.addi c0_i32_848 v2164
  let c1_i32_851 : BitVec 32 := 1#32
  let arg23 : BitVec 32 := Scf.iv v2165 c1_i32_851 k0_t7
  let c512_i32_852 : BitVec 32 := 512#32
  let v2166 : BitVec 32 := Scalar.muli arg23 c512_i32_852
  let v2167 : BitVec 32 := v2166
  let v2219 : Index := Scalar.indexCast v2167
  let c0_888 : Index := 0#32
  ![0, v2219.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S65536x2048 : Shape := ⟨2, ![65536, 2048]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 21
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S65536x512, .bf16⟩
  | .hbm, ⟨12, _⟩ => ⟨S65536x512, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S65536x1024 : Shape := ⟨2, ![65536, 1024]⟩
abbrev S65536x512 : Shape := ⟨2, ![65536, 512]⟩
abbrev S65536x2048 : Shape := ⟨2, ![65536, 2048]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 69
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x2816, .f32⟩
  | .hbm, ⟨53, _⟩ => ⟨S65536x2816, .f32⟩
  | .hbm, ⟨54, _⟩ => ⟨S65536x2816, .f32⟩
  | .hbm, ⟨55, _⟩ => ⟨S_, .f32⟩
  | .hbm, ⟨56, _⟩ => ⟨S65536x2816, .f32⟩
  | .hbm, ⟨57, _⟩ => ⟨S65536x2816, .f32⟩
  | .hbm, ⟨58, _⟩ => ⟨S_, .f32⟩
  | .hbm, ⟨59, _⟩ => ⟨S65536x2816, .f32⟩
  | .hbm, ⟨60, _⟩ => ⟨S65536x2816, .f32⟩
  | .hbm, ⟨61, _⟩ => ⟨S65536x2816, .f32⟩
  | .hbm, ⟨62, _⟩ => ⟨S65536x2816, .f32⟩
  | .hbm, ⟨63, _⟩ => ⟨S65536x2816, .f32⟩
  | .hbm, ⟨64, _⟩ => ⟨S65536x1024, .f32⟩
  | .hbm, ⟨65, _⟩ => ⟨S_, .f32⟩
  | .hbm, ⟨66, _⟩ => ⟨S65536x1024, .f32⟩
  | .hbm, ⟨67, _⟩ => ⟨S65536x1024, .f32⟩
  | .hbm, ⟨68, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Proj.lean ====
abbrev S8x8192x1024 : Shape := ⟨3, ![8, 8192, 1024]⟩
abbrev S1024 : Shape := ⟨1, ![1024]⟩
abbrev S1024x5704 : Shape := ⟨2, ![1024, 5704]⟩
abbrev S64 : Shape := ⟨1, ![64]⟩
abbrev S128 : Shape := ⟨1, ![128]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x2048 : Shape := ⟨2, ![1024, 2048]⟩
abbrev S_ : Shape := ⟨0, ![]⟩
abbrev S1024x8x64 : Shape := ⟨3, ![1024, 8, 64]⟩
abbrev S1024x8x256 : Shape := ⟨3, ![1024, 8, 256]⟩
abbrev S1024x120 : Shape := ⟨2, ![1024, 120]⟩
abbrev S1024x128 : Shape := ⟨2, ![1024, 128]⟩
abbrev S512x512 : Shape := ⟨2, ![512, 512]⟩
abbrev S512x2048 : Shape := ⟨2, ![512, 2048]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S65536x1024 : Shape := ⟨2, ![65536, 1024]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S65536x2048 : Shape := ⟨2, ![65536, 2048]⟩
abbrev S65536x256 : Shape := ⟨2, ![65536, 256]⟩
abbrev S65536x64 : Shape := ⟨2, ![65536, 64]⟩
abbrev S65536x128 : Shape := ⟨2, ![65536, 128]⟩
abbrev S8x256x8192 : Shape := ⟨3, ![8, 256, 8192]⟩
abbrev S256x1024 : Shape := ⟨2, ![256, 1024]⟩
abbrev S256x128 : Shape := ⟨2, ![256, 128]⟩
abbrev S256x2048 : Shape := ⟨2, ![256, 2048]⟩
abbrev S256x256 : Shape := ⟨2, ![256, 256]⟩
abbrev S256x64 : Shape := ⟨2, ![256, 64]⟩
abbrev S1x256x256 : Shape := ⟨3, ![1, 256, 256]⟩
abbrev S256x1 : Shape := ⟨2, ![256, 1]⟩
abbrev S256x512 : Shape := ⟨2, ![256, 512]⟩

abbrev nBuf : Space → Nat
  | .hbm => 125
  | .vmem => 41
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5704, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x64, .f32⟩
  | .hbm, ⟨16, _⟩ => ⟨S1024x8x64, .f32⟩
  | .hbm, ⟨17, _⟩ => ⟨S_, .f32⟩
  | .hbm, ⟨18, _⟩ => ⟨S1024x8x64, .f32⟩
  | .hbm, ⟨19, _⟩ => ⟨S1024x8x256, .f32⟩
  | .hbm, ⟨20, _⟩ => ⟨S1024x256, .f32⟩
  | .hbm, ⟨21, _⟩ => ⟨S_, .f32⟩
  | .hbm, ⟨22, _⟩ => ⟨S1024x120, .f32⟩
  | .hbm, ⟨23, _⟩ => ⟨S1024x128, .f32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x2048, .i32⟩
  | .hbm, ⟨39, _⟩ => ⟨S512x2048, .i32⟩
  | .hbm, ⟨40, _⟩ => ⟨S_, .i32⟩
  | .hbm, ⟨41, _⟩ => ⟨S512x2048, .i32⟩
  | .hbm, ⟨42, _⟩ => ⟨S512x2048, .i32⟩
  | .hbm, ⟨43, _⟩ => ⟨S_, .i32⟩
  | .hbm, ⟨44, _⟩ => ⟨S512x2048, .i32⟩
  | .hbm, ⟨45, _⟩ => ⟨S512x2048, .i32⟩
  | .hbm, ⟨46, _⟩ => ⟨S_, .i32⟩
  | .hbm, ⟨47, _⟩ => ⟨S512x2048, .i32⟩
  | .hbm, ⟨48, _⟩ => ⟨S512x2048, .i32⟩
  | .hbm, ⟨49, _⟩ => ⟨S_, .i32⟩
  | .hbm, ⟨50, _⟩ => ⟨S512x2048, .i32⟩
  | .hbm, ⟨51, _⟩ => ⟨S512x2048, .i32⟩
  | .hbm, ⟨52, _⟩ => ⟨S512x2048, .i32⟩
  | .hbm, ⟨53, _⟩ => ⟨S_, .i32⟩
  | .hbm, ⟨54, _⟩ => ⟨S512x2048, .i32⟩
  | .hbm, ⟨55, _⟩ => ⟨S512x2048, .i32⟩
  | .hbm, ⟨56, _⟩ => ⟨S512x2048, .i32⟩
  | .hbm, ⟨57, _⟩ => ⟨S512x2048, .i1⟩
  | .hbm, ⟨58, _⟩ => ⟨S_, .f32⟩
  | .hbm, ⟨59, _⟩ => ⟨S_, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S1x1024, .f32⟩
  | .hbm, ⟨64, _⟩ => ⟨S1024x512, .bf16⟩
  | .hbm, ⟨65, _⟩ => ⟨S1024x256, .bf16⟩
  | .hbm, ⟨66, _⟩ => ⟨S1024x256, .bf16⟩
  | .hbm, ⟨67, _⟩ => ⟨S1024x2048, .f32⟩
  | .hbm, ⟨68, _⟩ => ⟨S1024x2048, .bf16⟩
  | .hbm, ⟨69, _⟩ => ⟨S1024x256, .bf16⟩
  | .hbm, ⟨70, _⟩ => ⟨S1024x128, .bf16⟩
  | .hbm, ⟨71, _⟩ => ⟨S1024x2048, .bf16⟩
  | .hbm, ⟨72, _⟩ => ⟨S1024x2048, .bf16⟩
  | .hbm, ⟨73, _⟩ => ⟨S512x512, .bf16⟩
  | .hbm, ⟨74, _⟩ => ⟨S512x2048, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S1x64, .f32⟩
  | .hbm, ⟨80, _⟩ => ⟨S4x64, .f32⟩
  | .hbm, ⟨81, _⟩ => ⟨S256, .f32⟩
  | .hbm, ⟨82, _⟩ => ⟨S1x256, .f32⟩
  | .hbm, ⟨83, _⟩ => ⟨S65536x1024, .f32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S8192, .i32⟩
  | .hbm, ⟨100, _⟩ => ⟨S_, .i32⟩
  | .hbm, ⟨101, _⟩ => ⟨S8192, .i32⟩
  | .hbm, ⟨102, _⟩ => ⟨S8192, .i32⟩
  | .hbm, ⟨103, _⟩ => ⟨S8192, .f32⟩
  | .hbm, ⟨104, _⟩ => ⟨S8192x1, .f32⟩
  | .hbm, ⟨105, _⟩ => ⟨S1x128, .f32⟩
  | .hbm, ⟨106, _⟩ => ⟨S8192x128, .f32⟩
  | .hbm, ⟨107, _⟩ => ⟨S8192x128, .f32⟩
  | .hbm, ⟨108, _⟩ => ⟨S8192x128, .f32⟩
  | .hbm, ⟨109, _⟩ => ⟨S8192x128, .f32⟩
  | .hbm, ⟨110, _⟩ => ⟨S8192x128, .f32⟩
  | .hbm, ⟨111, _⟩ => ⟨S1x128, .f32⟩
  | .hbm, ⟨112, _⟩ => ⟨S8192x128, .f32⟩
  | .hbm, ⟨113, _⟩ => ⟨S8192x128, .f32⟩
  | .hbm, ⟨114, _⟩ => ⟨S65536x2048, .bf16⟩
  | .hbm, ⟨115, _⟩ => ⟨S65536x256, .f32⟩
  | .hbm, ⟨116, _⟩ => ⟨S65536x256, .f32⟩
  | .hbm, ⟨117, _⟩ => ⟨S65536x256, .bf16⟩
  | .hbm, ⟨118, _⟩ => ⟨S65536x2048, .bf16⟩
  | .hbm, ⟨119, _⟩ => ⟨S65536x64, .f32⟩
  | .hbm, ⟨120, _⟩ => ⟨S65536x128, .f32⟩
  | .hbm, ⟨121, _⟩ => ⟨S65536x2048, .f32⟩
  | .hbm, ⟨122, _⟩ => ⟨S65536x2048, .f32⟩
  | .hbm, ⟨123, _⟩ => ⟨S8x256x8192, .bf16⟩
  | .hbm, ⟨124, _⟩ => ⟨S8x256x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x2048, .bf16⟩
  | .local _ .vmem, ⟨7, _⟩ => ⟨S1024x256, .bf16⟩
  | .local _ .vmem, ⟨8, _⟩ => ⟨S1024x128, .bf16⟩
  | .local _ .vmem, ⟨9, _⟩ => ⟨S1024x2048, .bf16⟩
  | .local _ .vmem, ⟨10, _⟩ => ⟨S1024x2048, .bf16⟩
  | .local _ .vmem, ⟨11, _⟩ => ⟨S512x512, .bf16⟩
  | .local _ .vmem, ⟨12, _⟩ => ⟨S512x2048, .bf16⟩
  | .local _ .vmem, ⟨13, _⟩ => ⟨S1x512, .f32⟩
  | .local _ .vmem, ⟨14, _⟩ => ⟨S1x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x2048, .bf16⟩
  | .local _ .vmem, ⟨20, _⟩ => ⟨S256x2048, .bf16⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .bf16⟩
  | .local _ .vmem, ⟨26, _⟩ => ⟨S256x256, .bf16⟩
  | .local _ .vmem, ⟨27, _⟩ => ⟨S256x2048, .bf16⟩
  | .local _ .vmem, ⟨28, _⟩ => ⟨S256x2048, .bf16⟩
  | .local _ .vmem, ⟨29, _⟩ => ⟨S256x64, .f32⟩
  | .local _ .vmem, ⟨30, _⟩ => ⟨S256x64, .f32⟩
  | .local _ .vmem, ⟨31, _⟩ => ⟨S256x128, .f32⟩
  | .local _ .vmem, ⟨32, _⟩ => ⟨S256x128, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S1x256x256, .bf16⟩
  | .local _ .vmem, ⟨38, _⟩ => ⟨S1x256x256, .bf16⟩
  | .local _ .vmem, ⟨39, _⟩ => ⟨S1x256x256, .bf16⟩
  | .local _ .vmem, ⟨40, _⟩ => ⟨S1x256x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85_0 : Ref sig .tc := ⟨.hbm, 114, rfl⟩
abbrev main_v85_1 : Ref sig .tc := ⟨.hbm, 115, rfl⟩
abbrev main_v85_2 : Ref sig .tc := ⟨.hbm, 116, rfl⟩
abbrev main_v85_3 : Ref sig .tc := ⟨.hbm, 117, rfl⟩
abbrev main_v85_4 : Ref sig .tc := ⟨.hbm, 118, rfl⟩
abbrev main_v85_5 : Ref sig .tc := ⟨.hbm, 119, rfl⟩
abbrev main_v85_6 : Ref sig .tc := ⟨.hbm, 120, rfl⟩
abbrev main_v85_7 : Ref sig .tc := ⟨.hbm, 121, rfl⟩
abbrev main_v85_8 : Ref sig .tc := ⟨.hbm, 122, rfl⟩
abbrev main_v85_9 : Ref sig .tc := ⟨.hbm, 123, rfl⟩
abbrev main_v85_10 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_26 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ProjRefIdeal.lean ====
abbrev S8x8192x1024 : Shape := ⟨3, ![8, 8192, 1024]⟩
abbrev S1024 : Shape := ⟨1, ![1024]⟩
abbrev S1024x5704 : Shape := ⟨2, ![1024, 5704]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5704 : Shape := ⟨3, ![8, 8192, 5704]⟩
abbrev S8x8192x64 : Shape := ⟨3, ![8, 8192, 64]⟩
abbrev S8x8192x1x64 : Shape := ⟨4, ![8, 8192, 1, 64]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S8x8192x1x32 : Shape := ⟨4, ![8, 8192, 1, 32]⟩
abbrev S8x8192x256 : Shape := ⟨3, ![8, 8192, 256]⟩
abbrev S65536x256 : Shape := ⟨2, ![65536, 256]⟩
abbrev S65536x64 : Shape := ⟨2, ![65536, 64]⟩
abbrev S8x8192x2048 : Shape := ⟨3, ![8, 8192, 2048]⟩
abbrev S65536x2048 : Shape := ⟨2, ![65536, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5704, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x5704, .f32⟩
  | .hbm, ⟨22, _⟩ => ⟨S8x8192x64, .f32⟩
  | .hbm, ⟨23, _⟩ => ⟨S8x8192x1x64, .f32⟩
  | .hbm, ⟨24, _⟩ => ⟨S8192, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8192, .f32⟩
  | .hbm, ⟨37, _⟩ => ⟨S8192x1, .f32⟩
  | .hbm, ⟨38, _⟩ => ⟨S1x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S1x8192x1x32, .f32⟩
  | .hbm, ⟨44, _⟩ => ⟨S8192x32, .f32⟩
  | .hbm, ⟨45, _⟩ => ⟨S1x8192x1x32, .f32⟩
  | .hbm, ⟨46, _⟩ => ⟨S8x8192x1x32, .f32⟩
  | .hbm, ⟨47, _⟩ => ⟨S8x8192x1x32, .f32⟩
  | .hbm, ⟨48, _⟩ => ⟨S8x8192x1x32, .f32⟩
  | .hbm, ⟨49, _⟩ => ⟨S8x8192x1x32, .f32⟩
  | .hbm, ⟨50, _⟩ => ⟨S8x8192x1x32, .f32⟩
  | .hbm, ⟨51, _⟩ => ⟨S8x8192x1x32, .f32⟩
  | .hbm, ⟨52, _⟩ => ⟨S8x8192x1x32, .f32⟩
  | .hbm, ⟨53, _⟩ => ⟨S8x8192x1x32, .f32⟩
  | .hbm, ⟨54, _⟩ => ⟨S8x8192x1x32, .f32⟩
  | .hbm, ⟨55, _⟩ => ⟨S8x8192x1x32, .f32⟩
  | .hbm, ⟨56, _⟩ => ⟨S8x8192x1x32, .f32⟩
  | .hbm, ⟨57, _⟩ => ⟨S8x8192x1x32, .f32⟩
  | .hbm, ⟨58, _⟩ => ⟨S8x8192x1x64, .f32⟩
  | .hbm, ⟨59, _⟩ => ⟨S8x8192x256, .f32⟩
  | .hbm, ⟨60, _⟩ => ⟨S65536x256, .f32⟩
  | .hbm, ⟨61, _⟩ => ⟨S65536x64, .f32⟩
  | .hbm, ⟨62, _⟩ => ⟨S8x8192x2048, .f32⟩
  | .hbm, ⟨63, _⟩ => ⟨S65536x2048, .f32⟩
  | .hbm, ⟨64, _⟩ => ⟨S8x8192x2048, .f32⟩
  | .hbm, ⟨65, _⟩ => ⟨S65536x2048, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Keys.lean ====
abbrev S8x8192x1024 : Shape := ⟨3, ![8, 8192, 1024]⟩
abbrev S1024 : Shape := ⟨1, ![1024]⟩
abbrev S1024x5704 : Shape := ⟨2, ![1024, 5704]⟩
abbrev S64 : Shape := ⟨1, ![64]⟩
abbrev S128 : Shape := ⟨1, ![128]⟩
abbrev S1024x512 : Shape := ⟨2, ![1024, 512]⟩
abbrev S1024x256 : Shape := ⟨2, ![1024, 256]⟩
abbrev S1024x64 : Shape := ⟨2, ![1024, 64]⟩
abbrev S1024x8 : Shape := ⟨2, ![1024, 8]⟩
abbrev S1024x2048 : Shape := ⟨2, ![1024, 2048]⟩
abbrev S_ : Shape := ⟨0, ![]⟩
abbrev S1024x8x64 : Shape := ⟨3, ![1024, 8, 64]⟩
abbrev S1024x8x256 : Shape := ⟨3, ![1024, 8, 256]⟩
abbrev S1024x120 : Shape := ⟨2, ![1024, 120]⟩
abbrev S1024x128 : Shape := ⟨2, ![1024, 128]⟩
abbrev S512x512 : Shape := ⟨2, ![512, 512]⟩
abbrev S512x2048 : Shape := ⟨2, ![512, 2048]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S65536x1024 : Shape := ⟨2, ![65536, 1024]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S65536x2048 : Shape := ⟨2, ![65536, 2048]⟩
abbrev S65536x256 : Shape := ⟨2, ![65536, 256]⟩
abbrev S65536x64 : Shape := ⟨2, ![65536, 64]⟩
abbrev S65536x128 : Shape := ⟨2, ![65536, 128]⟩
abbrev S8x256x8192 : Shape := ⟨3, ![8, 256, 8192]⟩
abbrev S256x1024 : Shape := ⟨2, ![256, 1024]⟩
abbrev S256x128 : Shape := ⟨2, ![256, 128]⟩
abbrev S256x2048 : Shape := ⟨2, ![256, 2048]⟩
abbrev S256x256 : Shape := ⟨2, ![256, 256]⟩
abbrev S256x64 : Shape := ⟨2, ![256, 64]⟩
abbrev S1x256x256 : Shape := ⟨3, ![1, 256, 256]⟩
abbrev S256x1 : Shape := ⟨2, ![256, 1]⟩
abbrev S256x512 : Shape := ⟨2, ![256, 512]⟩

abbrev nBuf : Space → Nat
  | .hbm => 125
  | .vmem => 41
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5704, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x64, .f32⟩
  | .hbm, ⟨16, _⟩ => ⟨S1024x8x64, .f32⟩
  | .hbm, ⟨17, _⟩ => ⟨S_, .f32⟩
  | .hbm, ⟨18, _⟩ => ⟨S1024x8x64, .f32⟩
  | .hbm, ⟨19, _⟩ => ⟨S1024x8x256, .f32⟩
  | .hbm, ⟨20, _⟩ => ⟨S1024x256, .f32⟩
  | .hbm, ⟨21, _⟩ => ⟨S_, .f32⟩
  | .hbm, ⟨22, _⟩ => ⟨S1024x120, .f32⟩
  | .hbm, ⟨23, _⟩ => ⟨S1024x128, .f32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x2048, .i32⟩
  | .hbm, ⟨39, _⟩ => ⟨S512x2048, .i32⟩
  | .hbm, ⟨40, _⟩ => ⟨S_, .i32⟩
  | .hbm, ⟨41, _⟩ => ⟨S512x2048, .i32⟩
  | .hbm, ⟨42, _⟩ => ⟨S512x2048, .i32⟩
  | .hbm, ⟨43, _⟩ => ⟨S_, .i32⟩
  | .hbm, ⟨44, _⟩ => ⟨S512x2048, .i32⟩
  | .hbm, ⟨45, _⟩ => ⟨S512x2048, .i32⟩
  | .hbm, ⟨46, _⟩ => ⟨S_, .i32⟩
  | .hbm, ⟨47, _⟩ => ⟨S512x2048, .i32⟩
  | .hbm, ⟨48, _⟩ => ⟨S512x2048, .i32⟩
  | .hbm, ⟨49, _⟩ => ⟨S_, .i32⟩
  | .hbm, ⟨50, _⟩ => ⟨S512x2048, .i32⟩
  | .hbm, ⟨51, _⟩ => ⟨S512x2048, .i32⟩
  | .hbm, ⟨52, _⟩ => ⟨S512x2048, .i32⟩
  | .hbm, ⟨53, _⟩ => ⟨S_, .i32⟩
  | .hbm, ⟨54, _⟩ => ⟨S512x2048, .i32⟩
  | .hbm, ⟨55, _⟩ => ⟨S512x2048, .i32⟩
  | .hbm, ⟨56, _⟩ => ⟨S512x2048, .i32⟩
  | .hbm, ⟨57, _⟩ => ⟨S512x2048, .i1⟩
  | .hbm, ⟨58, _⟩ => ⟨S_, .f32⟩
  | .hbm, ⟨59, _⟩ => ⟨S_, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S1x1024, .f32⟩
  | .hbm, ⟨64, _⟩ => ⟨S1024x512, .bf16⟩
  | .hbm, ⟨65, _⟩ => ⟨S1024x256, .bf16⟩
  | .hbm, ⟨66, _⟩ => ⟨S1024x256, .bf16⟩
  | .hbm, ⟨67, _⟩ => ⟨S1024x2048, .f32⟩
  | .hbm, ⟨68, _⟩ => ⟨S1024x2048, .bf16⟩
  | .hbm, ⟨69, _⟩ => ⟨S1024x256, .bf16⟩
  | .hbm, ⟨70, _⟩ => ⟨S1024x128, .bf16⟩
  | .hbm, ⟨71, _⟩ => ⟨S1024x2048, .bf16⟩
  | .hbm, ⟨72, _⟩ => ⟨S1024x2048, .bf16⟩
  | .hbm, ⟨73, _⟩ => ⟨S512x512, .bf16⟩
  | .hbm, ⟨74, _⟩ => ⟨S512x2048, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S1x64, .f32⟩
  | .hbm, ⟨80, _⟩ => ⟨S4x64, .f32⟩
  | .hbm, ⟨81, _⟩ => ⟨S256, .f32⟩
  | .hbm, ⟨82, _⟩ => ⟨S1x256, .f32⟩
  | .hbm, ⟨83, _⟩ => ⟨S65536x1024, .f32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S8192, .i32⟩
  | .hbm, ⟨100, _⟩ => ⟨S_, .i32⟩
  | .hbm, ⟨101, _⟩ => ⟨S8192, .i32⟩
  | .hbm, ⟨102, _⟩ => ⟨S8192, .i32⟩
  | .hbm, ⟨103, _⟩ => ⟨S8192, .f32⟩
  | .hbm, ⟨104, _⟩ => ⟨S8192x1, .f32⟩
  | .hbm, ⟨105, _⟩ => ⟨S1x128, .f32⟩
  | .hbm, ⟨106, _⟩ => ⟨S8192x128, .f32⟩
  | .hbm, ⟨107, _⟩ => ⟨S8192x128, .f32⟩
  | .hbm, ⟨108, _⟩ => ⟨S8192x128, .f32⟩
  | .hbm, ⟨109, _⟩ => ⟨S8192x128, .f32⟩
  | .hbm, ⟨110, _⟩ => ⟨S8192x128, .f32⟩
  | .hbm, ⟨111, _⟩ => ⟨S1x128, .f32⟩
  | .hbm, ⟨112, _⟩ => ⟨S8192x128, .f32⟩
  | .hbm, ⟨113, _⟩ => ⟨S8192x128, .f32⟩
  | .hbm, ⟨114, _⟩ => ⟨S65536x2048, .bf16⟩
  | .hbm, ⟨115, _⟩ => ⟨S65536x256, .f32⟩
  | .hbm, ⟨116, _⟩ => ⟨S65536x256, .f32⟩
  | .hbm, ⟨117, _⟩ => ⟨S65536x256, .bf16⟩
  | .hbm, ⟨118, _⟩ => ⟨S65536x2048, .bf16⟩
  | .hbm, ⟨119, _⟩ => ⟨S65536x64, .f32⟩
  | .hbm, ⟨120, _⟩ => ⟨S65536x128, .f32⟩
  | .hbm, ⟨121, _⟩ => ⟨S65536x2048, .f32⟩
  | .hbm, ⟨122, _⟩ => ⟨S65536x2048, .f32⟩
  | .hbm, ⟨123, _⟩ => ⟨S8x256x8192, .bf16⟩
  | .hbm, ⟨124, _⟩ => ⟨S8x256x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x2048, .bf16⟩
  | .local _ .vmem, ⟨7, _⟩ => ⟨S1024x256, .bf16⟩
  | .local _ .vmem, ⟨8, _⟩ => ⟨S1024x128, .bf16⟩
  | .local _ .vmem, ⟨9, _⟩ => ⟨S1024x2048, .bf16⟩
  | .local _ .vmem, ⟨10, _⟩ => ⟨S1024x2048, .bf16⟩
  | .local _ .vmem, ⟨11, _⟩ => ⟨S512x512, .bf16⟩
  | .local _ .vmem, ⟨12, _⟩ => ⟨S512x2048, .bf16⟩
  | .local _ .vmem, ⟨13, _⟩ => ⟨S1x512, .f32⟩
  | .local _ .vmem, ⟨14, _⟩ => ⟨S1x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x2048, .bf16⟩
  | .local _ .vmem, ⟨20, _⟩ => ⟨S256x2048, .bf16⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .bf16⟩
  | .local _ .vmem, ⟨26, _⟩ => ⟨S256x256, .bf16⟩
  | .local _ .vmem, ⟨27, _⟩ => ⟨S256x2048, .bf16⟩
  | .local _ .vmem, ⟨28, _⟩ => ⟨S256x2048, .bf16⟩
  | .local _ .vmem, ⟨29, _⟩ => ⟨S256x64, .f32⟩
  | .local _ .vmem, ⟨30, _⟩ => ⟨S256x64, .f32⟩
  | .local _ .vmem, ⟨31, _⟩ => ⟨S256x128, .f32⟩
  | .local _ .vmem, ⟨32, _⟩ => ⟨S256x128, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S1x256x256, .bf16⟩
  | .local _ .vmem, ⟨38, _⟩ => ⟨S1x256x256, .bf16⟩
  | .local _ .vmem, ⟨39, _⟩ => ⟨S1x256x256, .bf16⟩
  | .local _ .vmem, ⟨40, _⟩ => ⟨S1x256x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85_0 : Ref sig .tc := ⟨.hbm, 114, rfl⟩
abbrev main_v85_1 : Ref sig .tc := ⟨.hbm, 115, rfl⟩
abbrev main_v85_2 : Ref sig .tc := ⟨.hbm, 116, rfl⟩
abbrev main_v85_3 : Ref sig .tc := ⟨.hbm, 117, rfl⟩
abbrev main_v85_4 : Ref sig .tc := ⟨.hbm, 118, rfl⟩
abbrev main_v85_5 : Ref sig .tc := ⟨.hbm, 119, rfl⟩
abbrev main_v85_6 : Ref sig .tc := ⟨.hbm, 120, rfl⟩
abbrev main_v85_7 : Ref sig .tc := ⟨.hbm, 121, rfl⟩
abbrev main_v85_8 : Ref sig .tc := ⟨.hbm, 122, rfl⟩
abbrev main_v85_9 : Ref sig .tc := ⟨.hbm, 123, rfl⟩
abbrev main_v85_10 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_26 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KeysRefIdeal.lean ====
abbrev S8x8192x1024 : Shape := ⟨3, ![8, 8192, 1024]⟩
abbrev S1024 : Shape := ⟨1, ![1024]⟩
abbrev S1024x5704 : Shape := ⟨2, ![1024, 5704]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5704 : Shape := ⟨3, ![8, 8192, 5704]⟩
abbrev S8x8192x256 : Shape := ⟨3, ![8, 8192, 256]⟩
abbrev S8x8192x4x64 : Shape := ⟨4, ![8, 8192, 4, 64]⟩
abbrev S8x8192x4 : Shape := ⟨3, ![8, 8192, 4]⟩
abbrev S8x8192x4x1 : Shape := ⟨4, ![8, 8192, 4, 1]⟩
abbrev S1x1x1x64 : Shape := ⟨4, ![1, 1, 1, 64]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S8x8192x4x32 : Shape := ⟨4, ![8, 8192, 4, 32]⟩
abbrev S65536x256 : Shape := ⟨2, ![65536, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5704, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x5704, .f32⟩
  | .hbm, ⟨22, _⟩ => ⟨S8x8192x256, .f32⟩
  | .hbm, ⟨23, _⟩ => ⟨S8x8192x4x64, .f32⟩
  | .hbm, ⟨24, _⟩ => ⟨S8x8192x4x64, .f32⟩
  | .hbm, ⟨25, _⟩ => ⟨S_, .f32⟩
  | .hbm, ⟨26, _⟩ => ⟨S8x8192x4, .f32⟩
  | .hbm, ⟨27, _⟩ => ⟨S8x8192x4x1, .f32⟩
  | .hbm, ⟨28, _⟩ => ⟨S_, .f32⟩
  | .hbm, ⟨29, _⟩ => ⟨S8x8192x4x1, .f32⟩
  | .hbm, ⟨30, _⟩ => ⟨S8x8192x4x1, .f32⟩
  | .hbm, ⟨31, _⟩ => ⟨S_, .f32⟩
  | .hbm, ⟨32, _⟩ => ⟨S8x8192x4x1, .f32⟩
  | .hbm, ⟨33, _⟩ => ⟨S8x8192x4x1, .f32⟩
  | .hbm, ⟨34, _⟩ => ⟨S8x8192x4x1, .f32⟩
  | .hbm, ⟨35, _⟩ => ⟨S8x8192x4x64, .f32⟩
  | .hbm, ⟨36, _⟩ => ⟨S8x8192x4x64, .f32⟩
  | .hbm, ⟨37, _⟩ => ⟨S1x1x1x64, .f32⟩
  | .hbm, ⟨38, _⟩ => ⟨S8x8192x4x64, .f32⟩
  | .hbm, ⟨39, _⟩ => ⟨S8x8192x4x64, .f32⟩
  | .hbm, ⟨40, _⟩ => ⟨S8192, .i32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S8192, .f32⟩
  | .hbm, ⟨53, _⟩ => ⟨S8192x1, .f32⟩
  | .hbm, ⟨54, _⟩ => ⟨S1x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S1x8192x1x32, .f32⟩
  | .hbm, ⟨60, _⟩ => ⟨S8192x32, .f32⟩
  | .hbm, ⟨61, _⟩ => ⟨S1x8192x1x32, .f32⟩
  | .hbm, ⟨62, _⟩ => ⟨S8x8192x4x32, .f32⟩
  | .hbm, ⟨63, _⟩ => ⟨S8x8192x4x32, .f32⟩
  | .hbm, ⟨64, _⟩ => ⟨S8x8192x4x32, .f32⟩
  | .hbm, ⟨65, _⟩ => ⟨S8x8192x4x32, .f32⟩
  | .hbm, ⟨66, _⟩ => ⟨S8x8192x4x32, .f32⟩
  | .hbm, ⟨67, _⟩ => ⟨S8x8192x4x32, .f32⟩
  | .hbm, ⟨68, _⟩ => ⟨S8x8192x4x32, .f32⟩
  | .hbm, ⟨69, _⟩ => ⟨S8x8192x4x32, .f32⟩
  | .hbm, ⟨70, _⟩ => ⟨S8x8192x4x32, .f32⟩
  | .hbm, ⟨71, _⟩ => ⟨S8x8192x4x32, .f32⟩
  | .hbm, ⟨72, _⟩ => ⟨S8x8192x4x32, .f32⟩
  | .hbm, ⟨73, _⟩ => ⟨S8x8192x4x32, .f32⟩
  | .hbm, ⟨74, _⟩ => ⟨S8x8192x4x64, .f32⟩
  | .hbm, ⟨75, _⟩ => ⟨S65536x256, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Proof.Keeps.lean ====
/- Programs that only load from and store to buffers they hold.

   `Keeps c R p`: from the resources `R` the program `p` runs on core `c` and hands `R` back, whatever it returns.
   The predicate goes through a program operation by operation: `R` need only hand out each buffer the program reads
   (`Read`) and each buffer it writes, taking it back at any contents (`Held`). -/
module

public import Idealize.ShloMosaic.Lib.Scf
public import Idealize.ShloMosaic.Lib.Tactic
public import Idealize.ShloMosaic.Lib.Exec
public import Idealize.ShloMosaic.Lib.Pipeline.Frame

@[expose] public section

noncomputable section

namespace Cert.Proof.Keeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : ℕ} {τ : Topo} {sig : RefSig} {Λ : Labels} {F : FTy → Type} [BitOps F]

local notation "𝕄" => MT nD τ sig Unit (Elt F) ℕ (UR sig nD τ) ℕ

variable {defs : Defs nD τ sig (Elt F) Λ}

/-- The program runs from `R` back to `R`, whatever it returns. -/
def Keeps (defs : Defs nD τ sig (Elt F) Λ) (c : Dev nD) (R : sProp 𝕄) {α : Type}
    (p : Prog (TpuEff nD τ sig (Elt F) Λ .tc) α) : Prop :=
  R ⊢ wp frame (wpE defs Variants.none (c : Thread nD τ) none) Set.univ p (fun _ => R)

/-- `R` lends the memref's buffer to be read, and takes it back as it was. -/
def Read (c : Dev nD) (R : sProp 𝕄) {sp : CoreSpace} {s : Shape} {e : EltTy} (m : Memref sig .tc sp s e) : Prop :=
  R ⊢ iprop(∃ X : s.Idx → Elt F e, owns (c : Thread nD τ) m fullShare X ∗ (owns (c : Thread nD τ) m fullShare X -∗ R))

/-- `R` lends the memref's buffer to be written, and takes it back at any contents. -/
def Held (c : Dev nD) (R : sProp 𝕄) {sp : CoreSpace} {s : Shape} {e : EltTy} (m : Memref sig .tc sp s e) : Prop :=
  R ⊢ iprop(∃ X : s.Idx → Elt F e, owns (c : Thread nD τ) m fullShare X ∗ (∀ Y : s.Idx → Elt F e, owns (c : Thread nD τ) m fullShare Y -∗ R))

variable {c : Dev nD} {R S : sProp (MT nD τ sig Unit (Elt F) ℕ (UR sig nD τ) ℕ)} {α β : Type}
variable {sp : CoreSpace} {s : Shape} {e : EltTy} {m : Memref sig .tc sp s e}

theorem Held.read (h : Held c R m) : Read c R m := by
  unfold Held at h
  unfold Read
  refine h.trans ?_
  iintro ⟨%X, Hf, Hk⟩
  iexists X
  isplitl [Hf]; · iexact Hf
  iintro H
  iapply Hk; iexact H

theorem Held.here : Held c iprop((∃ X : s.Idx → Elt F e, owns (c : Thread nD τ) m fullShare X) ∗ S) m := by
  unfold Held
  iintro ⟨⟨%f, Hf⟩, HS⟩
  iexists f
  isplitl [Hf]; · iexact Hf
  iintro %g Hg
  isplitl [Hg]
  · iexists g; iexact Hg
  iexact HS

theorem Held.last : Held c (iprop(∃ X : s.Idx → Elt F e, owns (c : Thread nD τ) m fullShare X) : sProp 𝕄) m := by
  unfold Held
  iintro ⟨%f, Hf⟩
  iexists f
  isplitl [Hf]; · iexact Hf
  iintro %g Hg
  iexists g; iexact Hg

theorem Read.here {X : s.Idx → Elt F e} : Read c iprop(owns (c : Thread nD τ) m fullShare X ∗ S) m := by
  unfold Read
  iintro ⟨Hf, HS⟩
  iexists X
  isplitl [Hf]; · iexact Hf
  iintro Hg
  isplitl [Hg]; · iexact Hg
  iexact HS

theorem Held.there (h : Held c S m) : Held c iprop(R ∗ S) m := by
  unfold Held
  iintro ⟨HR, HS⟩
  first | unfold Read at h | unfold Held at h
  ihave H := h $$ HS
  icases H with ⟨%f, Hf, Hk⟩
  iexists f
  isplitl [Hf]; · iexact Hf
  iintro %g Hg
  isplitl [HR]; · iexact HR
  iapply Hk; iexact Hg

theorem Read.there (h : Read c S m) : Read c iprop(R ∗ S) m := by
  unfold Read
  iintro ⟨HR, HS⟩
  first | unfold Read at h | unfold Held at h
  ihave H := h $$ HS
  icases H with ⟨%f, Hf, Hk⟩
  iexists f
  isplitl [Hf]; · iexact Hf
  iintro Hg
  isplitl [HR]; · iexact HR
  iapply Hk; iexact Hg

/-! ## The operations -/

theorem Keeps.pure {x : α} : Keeps defs c R (Pure.pure x) := by
  unfold Keeps
  rw [Prog.pure_eq_ret, wp_ret]
  iintro H
  imodintro
  iexact H

theorem Keeps.bind {p : Prog (TpuEff nD τ sig (Elt F) Λ .tc) α} {k : α → Prog (TpuEff nD τ sig (Elt F) Λ .tc) β}
    (hp : Keeps defs c R p) (hk : ∀ x, Keeps defs c R (k x)) : Keeps defs c R (p >>= k) := by
  unfold Keeps
  rw [wp_bind]
  iintro H
  iapply (wp_wand_r frame (wpE defs Variants.none (c : Thread nD τ) none) Set.univ)
  isplitl [H]
  · unfold Keeps at hp
    iapply hp; iexact H
  · iintro %x HR
    have hk' := hk x
    unfold Keeps at hk'
    iapply hk'; iexact HR

theorem Keeps.load {r : LoadRect s} {hl : m.view.LoadsAt r} (h : Read c R m) :
    Keeps defs c R (Prog.lift (.load m r hl)) := by
  unfold Keeps
  first | unfold Read at h | unfold Held at h
  refine h.trans ?_
  unfold owns Prog.lift
  iintro ⟨%X, ⟨%f, %hf, Hf⟩, Hk⟩
  iapply (wp_load Variants.none (c : Thread nD τ) none Set.univ (View.setOn_subset_set _ _)) $$ [Hf]
  · iexact Hf
  iintro Hf
  rw [wp_ret]
  imodintro
  iapply Hk
  iexists f
  isplitr
  · ipureintro; exact hf
  iexact Hf

theorem Keeps.store {r : Rect s} {w : r.shape.Idx → Elt F e} {Mk : Finset r.shape.Idx} {hx : (m.access r).Stores Mk}
    {hm : Mk = Finset.univ ∨ ∀ a, r.stride a = 1} (h : Held c R m) :
    Keeps defs c R (Prog.lift (.store m r w Mk hx hm)) := by
  unfold Keeps
  first | unfold Read at h | unfold Held at h
  refine h.trans ?_
  unfold owns Prog.lift
  iintro ⟨%X, ⟨%f, %hf, Hf⟩, Hk⟩
  iapply (wp_store Variants.none (c : Thread nD τ) none Set.univ (S := m.view.set)
    ((View.setOn_subset_set _ _).trans (View.set_slice_subset _ _))) $$ [Hf]
  · iexact Hf
  iintro Hf
  rw [wp_ret]
  imodintro
  iapply Hk $$ %(m.view.read (Elt F) ((m.access r).write (Elt F) f w Mk))
  iexists _
  isplitr
  swap
  · iexact Hf
  ipureintro; rfl

theorem Keeps.ite {q : Prop} [Decidable q] {p p' : Prog (TpuEff nD τ sig (Elt F) Λ .tc) α}
    (h : Keeps defs c R p) (h' : Keeps defs c R p') : Keeps defs c R (if q then p else p') := by
  split
  · exact h
  · exact h'

theorem Keeps.dite {q : Prop} [Decidable q] {p : q → Prog (TpuEff nD τ sig (Elt F) Λ .tc) α}
    {p' : ¬q → Prog (TpuEff nD τ sig (Elt F) Λ .tc) α}
    (h : ∀ hq, Keeps defs c R (p hq)) (h' : ∀ hq, Keeps defs c R (p' hq)) : Keeps defs c R (dite q p p') := by
  split
  · exact h _
  · exact h' _

theorem Keeps.loop {w : ℕ} {σ : Type} {l : Scf.Loop w} {hok : l.OK} {init : σ}
    {body : Fin l.trips → σ → Prog (TpuEff nD τ sig (Elt F) Λ .tc) σ}
    (h : ∀ k a, Keeps defs c R (body k a)) : Keeps defs c R (Scf.Loop.for l hok init body) := by
  unfold Keeps
  iintro H
  iapply (Scf.wp_for frame (wpE defs Variants.none (c : Thread nD τ) none) Set.univ _ _ _ hok init body (fun _ _ => R)
    (fun k a => h k a))
  isplitl [H]; · iexact H
  iintro %a H
  iexact H

end Cert.Proof.Keeps

end
-- ==== Proof.Pures.lean ====
/- The parts of the call that touch no buffer. -/
module

public import proofs.«01_k».proof.Proof.Keeps
public import proofs.«01_k».proof.Proof.Gen.Kernel.Skeleton

@[expose] public section

-- the parts of one call name several hundred operations
set_option maxRecDepth 16384

noncomputable section

namespace Cert.Proof.Parts

open Cert.Kernel Cert.Kernel.Gen Cert.Proof.Keeps
open Idealize.ShloMosaic Idealize.ShloMosaic.TcCoe Idealize.SL Idealize.SL.RA Idealize.SL.BI Idealize.SL.Sem
open Idealize.ShloMosaic.Pipeline

variable {F : FTy → Type} [BitOps F]

variable {defs : Defs nD τ sig (Elt F) Λ₀} {c : Dev nD} {R : sProp (MT nD τ sig Unit (Elt F) ℕ (UR sig nD τ) ℕ)} {i : grid0.Coords}
variable {arg2 : Memref sig .tc .vmem S1x256x2048 .bf16} {harg2 : arg2.IsWhole}
variable {arg3 : Memref sig .tc .vmem S1x256x2048 .bf16} {harg3 : arg3.IsWhole}
variable {arg4 : Memref sig .tc .vmem S1x256x128 .f32} {harg4 : arg4.IsWhole}
variable {arg5 : Memref sig .tc .vmem S1x256x8192 .bf16} {harg5 : arg5.IsWhole}
variable {arg6 : Memref sig .tc .vmem S1x256x8192 .bf16} {harg6 : arg6.IsWhole}
variable {arg7 : Memref sig .tc .vmem S1x8192x256 .bf16} {harg7 : arg7.IsWhole}
variable {arg8 : Memref sig .tc .vmem S512x512 .bf16} {harg8 : arg8.IsWhole}
variable {arg9 : Memref sig .tc .vmem S8x256x512 .bf16} {harg9 : arg9.IsWhole}
variable {arg10 : Memref sig .tc .vmem S1x256x512 .bf16} {harg10 : arg10.IsWhole}
variable {arg11 : Memref sig .tc .vmem S256x8192 .i32} {harg11 : arg11.IsWhole}
variable {arg12 : Memref sig .tc .vmem S32x256x256 .i32} {harg12 : arg12.IsWhole}
variable {arg13 : Memref sig .tc .vmem S256x256 .i32} {harg13 : arg13.IsWhole}
variable {arg14 : Memref sig .tc .vmem S2048x256 .bf16} {harg14 : arg14.IsWhole}
variable {arg15 : Memref sig .tc .vmem S2048x256 .bf16} {harg15 : arg15.IsWhole}
variable {arg16 : Memref sig .tc .vmem S8x256x128 .f32} {harg16 : arg16.IsWhole}
variable {arg17 : Memref sig .tc .vmem S2048x128 .f32} {harg17 : arg17.IsWhole}
variable {arg18 : Memref sig .tc .vmem S2048x128 .f32} {harg18 : arg18.IsWhole}
variable {arg19 : Memref sig .tc .vmem S2048x256 .f32} {harg19 : arg19.IsWhole}
variable {arg20 : Memref sig .tc .vmem S2048x512 .f32} {harg20 : arg20.IsWhole}
variable {arg21 : Memref sig .tc .vmem S2048x512 .bf16} {harg21 : arg21.IsWhole}
variable {arg22 : Memref sig .tc .vmem S256x512 .f32} {harg22 : arg22.IsWhole}

theorem keeps_k0_part4 {v2245 : IVec S8x256 32} {v2246 : IVec S8x256 32} {v2247 : IVec S8x256 32} {v2248 : IVec S8x256 32} {v2249 : IVec S8x256 32} {v2250 : IVec S8x256 32} {v2261 : IVec S8x256 32} {v2262 : IVec S8x256 32} {v2263 : IVec S8x256 32} {v2264 : IVec S8x256 32} {v2265 : IVec S8x256 32} {v2266 : IVec S8x256 32} {v2287 : IVec S8x256 32} {v2288 : IVec S8x256 32} :
    Keeps defs c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2245 v2246 v2247 v2248 v2249 v2250 v2261 v2262 v2263 v2264 v2265 v2266 v2287 v2288) := by
  rw [k0_part4_eq_skeleton]; unfold k0_part4_skel; with_reducible exact Keeps.pure

theorem keeps_k0_part5 {v2250 : IVec S8x256 32} {v2251 : IVec S8x256 32} {v2252 : IVec S8x256 32} {v2253 : IVec S8x256 32} {v2254 : IVec S8x256 32} {v2255 : IVec S8x256 32} {v2266 : IVec S8x256 32} {v2267 : IVec S8x256 32} {v2268 : IVec S8x256 32} {v2269 : IVec S8x256 32} {v2270 : IVec S8x256 32} {v2271 : IVec S8x256 32} {v2332 : IVec S8x256 32} {v2333 : IVec S8x256 32} :
    Keeps defs c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2250 v2251 v2252 v2253 v2254 v2255 v2266 v2267 v2268 v2269 v2270 v2271 v2332 v2333) := by
  rw [k0_part5_eq_skeleton]; unfold k0_part5_skel; with_reducible exact Keeps.pure

theorem keeps_k0_part6 {v2255 : IVec S8x256 32} {v2256 : IVec S8x256 32} {v2257 : IVec S8x256 32} {v2258 : IVec S8x256 32} {v2259 : IVec S8x256 32} {v2271 : IVec S8x256 32} {v2272 : IVec S8x256 32} {v2273 : IVec S8x256 32} {v2274 : IVec S8x256 32} {v2275 : IVec S8x256 32} {v2281 : IVec S8x256 32} {v2353 : IVec S8x256 32} {v2377 : IVec S8x256 32} {v2378 : IVec S8x256 32} :
    Keeps defs c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2255 v2256 v2257 v2258 v2259 v2271 v2272 v2273 v2274 v2275 v2281 v2353 v2377 v2378) := by
  rw [k0_part6_eq_skeleton]; unfold k0_part6_skel; with_reducible exact Keeps.pure

theorem keeps_k0_part7 {v2281 : IVec S8x256 32} {v2290 : IVec S8x256 32} {v2299 : IVec S8x256 32} {v2308 : IVec S8x256 32} {v2317 : IVec S8x256 32} {v2326 : IVec S8x256 32} {v2353 : IVec S8x256 32} {v2362 : IVec S8x256 32} {v2371 : IVec S8x256 32} {v2380 : IVec S8x256 32} {v2389 : IVec S8x256 32} {v2398 : IVec S8x256 32} {v2422 : IVec S8x256 32} {v2423 : IVec S8x256 32} :
    Keeps defs c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2281 v2290 v2299 v2308 v2317 v2326 v2353 v2362 v2371 v2380 v2389 v2398 v2422 v2423) := by
  rw [k0_part7_eq_skeleton]; unfold k0_part7_skel; with_reducible exact Keeps.pure

theorem keeps_k0_part8 {v2284 : IVec S8x256 32} {v2293 : IVec S8x256 32} {v2302 : IVec S8x256 32} {v2326 : IVec S8x256 32} {v2335 : IVec S8x256 32} {v2344 : IVec S8x256 32} {v2356 : IVec S8x256 32} {v2365 : IVec S8x256 32} {v2374 : IVec S8x256 32} {v2398 : IVec S8x256 32} {v2407 : IVec S8x256 32} {v2416 : IVec S8x256 32} {v2467 : IVec S8x256 32} {v2468 : IVec S8x256 32} :
    Keeps defs c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2284 v2293 v2302 v2326 v2335 v2344 v2356 v2365 v2374 v2398 v2407 v2416 v2467 v2468) := by
  rw [k0_part8_eq_skeleton]; unfold k0_part8_skel; with_reducible exact Keeps.pure

theorem keeps_k0_part9 {v2302 : IVec S8x256 32} {v2311 : IVec S8x256 32} {v2320 : IVec S8x256 32} {v2329 : IVec S8x256 32} {v2338 : IVec S8x256 32} {v2347 : IVec S8x256 32} {v2374 : IVec S8x256 32} {v2383 : IVec S8x256 32} {v2392 : IVec S8x256 32} {v2401 : IVec S8x256 32} {v2410 : IVec S8x256 32} {v2419 : IVec S8x256 32} {v2512 : IVec S8x256 32} {v2513 : IVec S8x256 32} :
    Keeps defs c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2302 v2311 v2320 v2329 v2338 v2347 v2374 v2383 v2392 v2401 v2410 v2419 v2512 v2513) := by
  rw [k0_part9_eq_skeleton]; unfold k0_part9_skel; with_reducible exact Keeps.pure

theorem keeps_k0_part10 {v2347 : IVec S8x256 32} {v2419 : IVec S8x256 32} {v2425 : IVec S8x256 32} {v2428 : IVec S8x256 32} {v2434 : IVec S8x256 32} {v2443 : IVec S8x256 32} {v2452 : IVec S8x256 32} {v2461 : IVec S8x256 32} {v2464 : IVec S8x256 32} {v2470 : IVec S8x256 32} {v2479 : IVec S8x256 32} {v2488 : IVec S8x256 32} {v2557 : IVec S8x256 32} {v2558 : IVec S8x256 32} :
    Keeps defs c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2347 v2419 v2425 v2428 v2434 v2443 v2452 v2461 v2464 v2470 v2479 v2488 v2557 v2558) := by
  rw [k0_part10_eq_skeleton]; unfold k0_part10_skel; with_reducible exact Keeps.pure

theorem keeps_k0_part11 {v2428 : IVec S8x256 32} {v2437 : IVec S8x256 32} {v2446 : IVec S8x256 32} {v2455 : IVec S8x256 32} {v2464 : IVec S8x256 32} {v2473 : IVec S8x256 32} {v2482 : IVec S8x256 32} {v2491 : IVec S8x256 32} {v2497 : IVec S8x256 32} {v2506 : IVec S8x256 32} {v2533 : IVec S8x256 32} {v2542 : IVec S8x256 32} {v2602 : IVec S8x256 32} {v2603 : IVec S8x256 32} :
    Keeps defs c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2428 v2437 v2446 v2455 v2464 v2473 v2482 v2491 v2497 v2506 v2533 v2542 v2602 v2603) := by
  rw [k0_part11_eq_skeleton]; unfold k0_part11_skel; with_reducible exact Keeps.pure

theorem keeps_k0_part12 {v2500 : IVec S8x256 32} {v2506 : IVec S8x256 32} {v2509 : IVec S8x256 32} {v2515 : IVec S8x256 32} {v2518 : IVec S8x256 32} {v2524 : IVec S8x256 32} {v2536 : IVec S8x256 32} {v2542 : IVec S8x256 32} {v2545 : IVec S8x256 32} {v2551 : IVec S8x256 32} {v2554 : IVec S8x256 32} {v2560 : IVec S8x256 32} {v2647 : IVec S8x256 32} {v2648 : IVec S8x256 32} :
    Keeps defs c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2500 v2506 v2509 v2515 v2518 v2524 v2536 v2542 v2545 v2551 v2554 v2560 v2647 v2648) := by
  rw [k0_part12_eq_skeleton]; unfold k0_part12_skel; with_reducible exact Keeps.pure

theorem keeps_k0_part13 {v2518 : IVec S8x256 32} {v2527 : IVec S8x256 32} {v2554 : IVec S8x256 32} {v2563 : IVec S8x256 32} {v2569 : IVec S8x256 32} {v2572 : IVec S8x256 32} {v2578 : IVec S8x256 32} {v2581 : IVec S8x256 32} {v2587 : IVec S8x256 32} {v2590 : IVec S8x256 32} {v2596 : IVec S8x256 32} {v2599 : IVec S8x256 32} {v2692 : IVec S8x256 32} {v2693 : IVec S8x256 32} :
    Keeps defs c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2518 v2527 v2554 v2563 v2569 v2572 v2578 v2581 v2587 v2590 v2596 v2599 v2692 v2693) := by
  rw [k0_part13_eq_skeleton]; unfold k0_part13_skel; with_reducible exact Keeps.pure

theorem keeps_k0_part14 {v2581 : IVec S8x256 32} {v2599 : IVec S8x256 32} {v2605 : IVec S8x256 32} {v2608 : IVec S8x256 32} {v2614 : IVec S8x256 32} {v2617 : IVec S8x256 32} {v2623 : IVec S8x256 32} {v2626 : IVec S8x256 32} {v2632 : IVec S8x256 32} {v2635 : IVec S8x256 32} {v2641 : IVec S8x256 32} {v2659 : IVec S8x256 32} {v2737 : IVec S8x256 32} {v2738 : IVec S8x256 32} :
    Keeps defs c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2581 v2599 v2605 v2608 v2614 v2617 v2623 v2626 v2632 v2635 v2641 v2659 v2737 v2738) := by
  rw [k0_part14_eq_skeleton]; unfold k0_part14_skel; with_reducible exact Keeps.pure

theorem keeps_k0_part15 {v2641 : IVec S8x256 32} {v2644 : IVec S8x256 32} {v2650 : IVec S8x256 32} {v2653 : IVec S8x256 32} {v2659 : IVec S8x256 32} {v2662 : IVec S8x256 32} {v2668 : IVec S8x256 32} {v2671 : IVec S8x256 32} {v2677 : IVec S8x256 32} {v2686 : IVec S8x256 32} {v2695 : IVec S8x256 32} {v2704 : IVec S8x256 32} {v2782 : IVec S8x256 32} {v2783 : IVec S8x256 32} :
    Keeps defs c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2641 v2644 v2650 v2653 v2659 v2662 v2668 v2671 v2677 v2686 v2695 v2704 v2782 v2783) := by
  rw [k0_part15_eq_skeleton]; unfold k0_part15_skel; with_reducible exact Keeps.pure

theorem keeps_k0_part16 {v2680 : IVec S8x256 32} {v2686 : IVec S8x256 32} {v2689 : IVec S8x256 32} {v2698 : IVec S8x256 32} {v2704 : IVec S8x256 32} {v2707 : IVec S8x256 32} {v2713 : IVec S8x256 32} {v2716 : IVec S8x256 32} {v2722 : IVec S8x256 32} {v2725 : IVec S8x256 32} {v2731 : IVec S8x256 32} {v2740 : IVec S8x256 32} {v2827 : IVec S8x256 32} {v2828 : IVec S8x256 32} :
    Keeps defs c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2680 v2686 v2689 v2698 v2704 v2707 v2713 v2716 v2722 v2725 v2731 v2740 v2827 v2828) := by
  rw [k0_part16_eq_skeleton]; unfold k0_part16_skel; with_reducible exact Keeps.pure

theorem keeps_k0_part17 {v2731 : IVec S8x256 32} {v2734 : IVec S8x256 32} {v2740 : IVec S8x256 32} {v2743 : IVec S8x256 32} {v2749 : IVec S8x256 32} {v2752 : IVec S8x256 32} {v2758 : IVec S8x256 32} {v2761 : IVec S8x256 32} {v2767 : IVec S8x256 32} {v2770 : IVec S8x256 32} {v2776 : IVec S8x256 32} {v2779 : IVec S8x256 32} {v2872 : IVec S8x256 32} {v2873 : IVec S8x256 32} :
    Keeps defs c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2731 v2734 v2740 v2743 v2749 v2752 v2758 v2761 v2767 v2770 v2776 v2779 v2872 v2873) := by
  rw [k0_part17_eq_skeleton]; unfold k0_part17_skel; with_reducible exact Keeps.pure

theorem keeps_k0_part18 {v2770 : IVec S8x256 32} {v2779 : IVec S8x256 32} {v2785 : IVec S8x256 32} {v2788 : IVec S8x256 32} {v2794 : IVec S8x256 32} {v2797 : IVec S8x256 32} {v2803 : IVec S8x256 32} {v2806 : IVec S8x256 32} {v2812 : IVec S8x256 32} {v2815 : IVec S8x256 32} {v2821 : IVec S8x256 32} {v2830 : IVec S8x256 32} {v2917 : IVec S8x256 32} {v2918 : IVec S8x256 32} :
    Keeps defs c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2770 v2779 v2785 v2788 v2794 v2797 v2803 v2806 v2812 v2815 v2821 v2830 v2917 v2918) := by
  rw [k0_part18_eq_skeleton]; unfold k0_part18_skel; with_reducible exact Keeps.pure

theorem keeps_k0_part24 {v2243 : IVec S512x256 32} {v3127 : IVec S8x256 32} {v3128 : IVec S8x256 32} {v3129 : IVec S8x256 32} {v3130 : IVec S8x256 32} {v3131 : IVec S8x256 32} {v3143 : IVec S8x256 32} {v3144 : IVec S8x256 32} {v3145 : IVec S8x256 32} {v3146 : IVec S8x256 32} {v3147 : IVec S8x256 32} :
    Keeps defs c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2243 v3127 v3128 v3129 v3130 v3131 v3143 v3144 v3145 v3146 v3147) := by
  rw [k0_part24_eq_skeleton]; unfold k0_part24_skel; with_reducible exact Keeps.pure

theorem keeps_k0_part25 {v3132 : IVec S8x256 32} {v3133 : IVec S8x256 32} {v3134 : IVec S8x256 32} {v3135 : IVec S8x256 32} {v3136 : IVec S8x256 32} {v3147 : IVec S8x256 32} {v3148 : IVec S8x256 32} {v3149 : IVec S8x256 32} {v3150 : IVec S8x256 32} {v3151 : IVec S8x256 32} {v3152 : IVec S8x256 32} {v3199 : IVec S8x256 32} {c16_i32_1210 : BitVec 32} :
    Keeps defs c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3132 v3133 v3134 v3135 v3136 v3147 v3148 v3149 v3150 v3151 v3152 v3199 c16_i32_1210) := by
  rw [k0_part25_eq_skeleton]; unfold k0_part25_skel; with_reducible exact Keeps.pure

theorem keeps_k0_part26 {v3137 : IVec S8x256 32} {v3138 : IVec S8x256 32} {v3139 : IVec S8x256 32} {v3140 : IVec S8x256 32} {v3141 : IVec S8x256 32} {v3152 : IVec S8x256 32} {v3153 : IVec S8x256 32} {v3154 : IVec S8x256 32} {v3155 : IVec S8x256 32} {v3156 : IVec S8x256 32} {v3157 : IVec S8x256 32} {v3244 : IVec S8x256 32} {c16_i32_1225 : BitVec 32} :
    Keeps defs c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3137 v3138 v3139 v3140 v3141 v3152 v3153 v3154 v3155 v3156 v3157 v3244 c16_i32_1225) := by
  rw [k0_part26_eq_skeleton]; unfold k0_part26_skel; with_reducible exact Keeps.pure

theorem keeps_k0_part27 {v3142 : IVec S8x256 32} {v3157 : IVec S8x256 32} {v3158 : IVec S8x256 32} {v3164 : IVec S8x256 32} {v3173 : IVec S8x256 32} {v3182 : IVec S8x256 32} {v3191 : IVec S8x256 32} {v3236 : IVec S8x256 32} {v3245 : IVec S8x256 32} {v3254 : IVec S8x256 32} {v3263 : IVec S8x256 32} {v3289 : IVec S8x256 32} {c16_i32_1240 : BitVec 32} :
    Keeps defs c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3142 v3157 v3158 v3164 v3173 v3182 v3191 v3236 v3245 v3254 v3263 v3289 c16_i32_1240) := by
  rw [k0_part27_eq_skeleton]; unfold k0_part27_skel; with_reducible exact Keeps.pure

theorem keeps_k0_part28 {v3167 : IVec S8x256 32} {v3200 : IVec S8x256 32} {v3209 : IVec S8x256 32} {v3218 : IVec S8x256 32} {v3227 : IVec S8x256 32} {v3239 : IVec S8x256 32} {v3263 : IVec S8x256 32} {v3272 : IVec S8x256 32} {v3281 : IVec S8x256 32} {v3290 : IVec S8x256 32} {v3299 : IVec S8x256 32} {v3334 : IVec S8x256 32} {c8_i32_1255 : BitVec 32} :
    Keeps defs c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3167 v3200 v3209 v3218 v3227 v3239 v3263 v3272 v3281 v3290 v3299 v3334 c8_i32_1255) := by
  rw [k0_part28_eq_skeleton]; unfold k0_part28_skel; with_reducible exact Keeps.pure

theorem keeps_k0_part29 {v3176 : IVec S8x256 32} {v3185 : IVec S8x256 32} {v3194 : IVec S8x256 32} {v3203 : IVec S8x256 32} {v3212 : IVec S8x256 32} {v3239 : IVec S8x256 32} {v3248 : IVec S8x256 32} {v3257 : IVec S8x256 32} {v3266 : IVec S8x256 32} {v3275 : IVec S8x256 32} {v3284 : IVec S8x256 32} {v3379 : IVec S8x256 32} {c8_i32_1270 : BitVec 32} :
    Keeps defs c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3176 v3185 v3194 v3203 v3212 v3239 v3248 v3257 v3266 v3275 v3284 v3379 c8_i32_1270) := by
  rw [k0_part29_eq_skeleton]; unfold k0_part29_skel; with_reducible exact Keeps.pure

theorem keeps_k0_part30 {v3221 : IVec S8x256 32} {v3230 : IVec S8x256 32} {v3284 : IVec S8x256 32} {v3293 : IVec S8x256 32} {v3302 : IVec S8x256 32} {v3308 : IVec S8x256 32} {v3317 : IVec S8x256 32} {v3326 : IVec S8x256 32} {v3344 : IVec S8x256 32} {v3353 : IVec S8x256 32} {v3362 : IVec S8x256 32} {v3424 : IVec S8x256 32} {c8_i32_1285 : BitVec 32} :
    Keeps defs c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3221 v3230 v3284 v3293 v3302 v3308 v3317 v3326 v3344 v3353 v3362 v3424 c8_i32_1285) := by
  rw [k0_part30_eq_skeleton]; unfold k0_part30_skel; with_reducible exact Keeps.pure

theorem keeps_k0_part31 {v3311 : IVec S8x256 32} {v3320 : IVec S8x256 32} {v3329 : IVec S8x256 32} {v3335 : IVec S8x256 32} {v3338 : IVec S8x256 32} {v3347 : IVec S8x256 32} {v3356 : IVec S8x256 32} {v3362 : IVec S8x256 32} {v3365 : IVec S8x256 32} {v3371 : IVec S8x256 32} {v3374 : IVec S8x256 32} {v3469 : IVec S8x256 32} {c4_i32_1300 : BitVec 32} :
    Keeps defs c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3311 v3320 v3329 v3335 v3338 v3347 v3356 v3362 v3365 v3371 v3374 v3469 c4_i32_1300) := by
  rw [k0_part31_eq_skeleton]; unfold k0_part31_skel; with_reducible exact Keeps.pure

theorem keeps_k0_part32 {v3374 : IVec S8x256 32} {v3380 : IVec S8x256 32} {v3383 : IVec S8x256 32} {v3389 : IVec S8x256 32} {v3398 : IVec S8x256 32} {v3407 : IVec S8x256 32} {v3416 : IVec S8x256 32} {v3419 : IVec S8x256 32} {v3425 : IVec S8x256 32} {v3434 : IVec S8x256 32} {v3443 : IVec S8x256 32} {v3514 : IVec S8x256 32} {c4_i32_1315 : BitVec 32} :
    Keeps defs c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3374 v3380 v3383 v3389 v3398 v3407 v3416 v3419 v3425 v3434 v3443 v3514 c4_i32_1315) := by
  rw [k0_part32_eq_skeleton]; unfold k0_part32_skel; with_reducible exact Keeps.pure

theorem keeps_k0_part33 {v3392 : IVec S8x256 32} {v3401 : IVec S8x256 32} {v3410 : IVec S8x256 32} {v3419 : IVec S8x256 32} {v3428 : IVec S8x256 32} {v3437 : IVec S8x256 32} {v3446 : IVec S8x256 32} {v3452 : IVec S8x256 32} {v3461 : IVec S8x256 32} {v3470 : IVec S8x256 32} {v3479 : IVec S8x256 32} {v3559 : IVec S8x256 32} {c4_i32_1330 : BitVec 32} :
    Keeps defs c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3392 v3401 v3410 v3419 v3428 v3437 v3446 v3452 v3461 v3470 v3479 v3559 c4_i32_1330) := by
  rw [k0_part33_eq_skeleton]; unfold k0_part33_skel; with_reducible exact Keeps.pure

theorem keeps_k0_part34 {v3455 : IVec S8x256 32} {v3464 : IVec S8x256 32} {v3473 : IVec S8x256 32} {v3479 : IVec S8x256 32} {v3482 : IVec S8x256 32} {v3488 : IVec S8x256 32} {v3491 : IVec S8x256 32} {v3497 : IVec S8x256 32} {v3506 : IVec S8x256 32} {v3509 : IVec S8x256 32} {v3515 : IVec S8x256 32} {v3604 : IVec S8x256 32} {c2_i32_1345 : BitVec 32} :
    Keeps defs c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3455 v3464 v3473 v3479 v3482 v3488 v3491 v3497 v3506 v3509 v3515 v3604 c2_i32_1345) := by
  rw [k0_part34_eq_skeleton]; unfold k0_part34_skel; with_reducible exact Keeps.pure

theorem keeps_k0_part35 {v3500 : IVec S8x256 32} {v3509 : IVec S8x256 32} {v3518 : IVec S8x256 32} {v3524 : IVec S8x256 32} {v3527 : IVec S8x256 32} {v3533 : IVec S8x256 32} {v3536 : IVec S8x256 32} {v3542 : IVec S8x256 32} {v3545 : IVec S8x256 32} {v3551 : IVec S8x256 32} {v3554 : IVec S8x256 32} {v3649 : IVec S8x256 32} {c2_i32_1360 : BitVec 32} :
    Keeps defs c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3500 v3509 v3518 v3524 v3527 v3533 v3536 v3542 v3545 v3551 v3554 v3649 c2_i32_1360) := by
  rw [k0_part35_eq_skeleton]; unfold k0_part35_skel; with_reducible exact Keeps.pure

theorem keeps_k0_part36 {v3554 : IVec S8x256 32} {v3560 : IVec S8x256 32} {v3563 : IVec S8x256 32} {v3569 : IVec S8x256 32} {v3572 : IVec S8x256 32} {v3578 : IVec S8x256 32} {v3581 : IVec S8x256 32} {v3587 : IVec S8x256 32} {v3590 : IVec S8x256 32} {v3596 : IVec S8x256 32} {v3605 : IVec S8x256 32} {v3694 : IVec S8x256 32} {c2_i32_1375 : BitVec 32} :
    Keeps defs c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3554 v3560 v3563 v3569 v3572 v3578 v3581 v3587 v3590 v3596 v3605 v3694 c2_i32_1375) := by
  rw [k0_part36_eq_skeleton]; unfold k0_part36_skel; with_reducible exact Keeps.pure

theorem keeps_k0_part37 {v3599 : IVec S8x256 32} {v3605 : IVec S8x256 32} {v3608 : IVec S8x256 32} {v3614 : IVec S8x256 32} {v3617 : IVec S8x256 32} {v3623 : IVec S8x256 32} {v3626 : IVec S8x256 32} {v3632 : IVec S8x256 32} {v3635 : IVec S8x256 32} {v3641 : IVec S8x256 32} {v3644 : IVec S8x256 32} {v3739 : IVec S8x256 32} {c1_i32_1390 : BitVec 32} :
    Keeps defs c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3599 v3605 v3608 v3614 v3617 v3623 v3626 v3632 v3635 v3641 v3644 v3739 c1_i32_1390) := by
  rw [k0_part37_eq_skeleton]; unfold k0_part37_skel; with_reducible exact Keeps.pure

theorem keeps_k0_part38 {v3644 : IVec S8x256 32} {v3650 : IVec S8x256 32} {v3653 : IVec S8x256 32} {v3659 : IVec S8x256 32} {v3662 : IVec S8x256 32} {v3668 : IVec S8x256 32} {v3671 : IVec S8x256 32} {v3677 : IVec S8x256 32} {v3680 : IVec S8x256 32} {v3686 : IVec S8x256 32} {v3695 : IVec S8x256 32} {v3784 : IVec S8x256 32} {c1_i32_1405 : BitVec 32} :
    Keeps defs c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3644 v3650 v3653 v3659 v3662 v3668 v3671 v3677 v3680 v3686 v3695 v3784 c1_i32_1405) := by
  rw [k0_part38_eq_skeleton]; unfold k0_part38_skel; with_reducible exact Keeps.pure

theorem keeps_k0_part39 {v3689 : IVec S8x256 32} {v3695 : IVec S8x256 32} {v3698 : IVec S8x256 32} {v3704 : IVec S8x256 32} {v3707 : IVec S8x256 32} {v3713 : IVec S8x256 32} {v3716 : IVec S8x256 32} {v3722 : IVec S8x256 32} {v3725 : IVec S8x256 32} {v3731 : IVec S8x256 32} {v3734 : IVec S8x256 32} {v3829 : IVec S8x256 32} {c1_i32_1420 : BitVec 32} :
    Keeps defs c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3689 v3695 v3698 v3704 v3707 v3713 v3716 v3722 v3725 v3731 v3734 v3829 c1_i32_1420) := by
  rw [k0_part39_eq_skeleton]; unfold k0_part39_skel; with_reducible exact Keeps.pure

theorem keeps_k0_part47 {v2245 : IVec S8x256 32} {v2246 : IVec S8x256 32} {v2247 : IVec S8x256 32} {v2248 : IVec S8x256 32} {v2249 : IVec S8x256 32} {v2250 : IVec S8x256 32} {v2261 : IVec S8x256 32} {v2262 : IVec S8x256 32} {v2263 : IVec S8x256 32} {v2264 : IVec S8x256 32} {v2265 : IVec S8x256 32} {v2266 : IVec S8x256 32} {v2287 : IVec S8x256 32} {v2288 : IVec S8x256 32} :
    Keeps defs c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2245 v2246 v2247 v2248 v2249 v2250 v2261 v2262 v2263 v2264 v2265 v2266 v2287 v2288) := by
  rw [k0_part47_eq_skeleton]; unfold k0_part47_skel; with_reducible exact Keeps.pure

theorem keeps_k0_part48 {v2250 : IVec S8x256 32} {v2251 : IVec S8x256 32} {v2252 : IVec S8x256 32} {v2253 : IVec S8x256 32} {v2254 : IVec S8x256 32} {v2255 : IVec S8x256 32} {v2266 : IVec S8x256 32} {v2267 : IVec S8x256 32} {v2268 : IVec S8x256 32} {v2269 : IVec S8x256 32} {v2270 : IVec S8x256 32} {v2271 : IVec S8x256 32} {v2332 : IVec S8x256 32} {v2333 : IVec S8x256 32} :
    Keeps defs c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2250 v2251 v2252 v2253 v2254 v2255 v2266 v2267 v2268 v2269 v2270 v2271 v2332 v2333) := by
  rw [k0_part48_eq_skeleton]; unfold k0_part48_skel; with_reducible exact Keeps.pure

theorem keeps_k0_part49 {v2255 : IVec S8x256 32} {v2256 : IVec S8x256 32} {v2257 : IVec S8x256 32} {v2258 : IVec S8x256 32} {v2259 : IVec S8x256 32} {v2271 : IVec S8x256 32} {v2272 : IVec S8x256 32} {v2273 : IVec S8x256 32} {v2274 : IVec S8x256 32} {v2275 : IVec S8x256 32} {v2281 : IVec S8x256 32} {v2353 : IVec S8x256 32} {v2377 : IVec S8x256 32} {v2378 : IVec S8x256 32} :
    Keeps defs c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2255 v2256 v2257 v2258 v2259 v2271 v2272 v2273 v2274 v2275 v2281 v2353 v2377 v2378) := by
  rw [k0_part49_eq_skeleton]; unfold k0_part49_skel; with_reducible exact Keeps.pure

theorem keeps_k0_part50 {v2281 : IVec S8x256 32} {v2290 : IVec S8x256 32} {v2299 : IVec S8x256 32} {v2308 : IVec S8x256 32} {v2317 : IVec S8x256 32} {v2326 : IVec S8x256 32} {v2353 : IVec S8x256 32} {v2362 : IVec S8x256 32} {v2371 : IVec S8x256 32} {v2380 : IVec S8x256 32} {v2389 : IVec S8x256 32} {v2398 : IVec S8x256 32} {v2422 : IVec S8x256 32} {v2423 : IVec S8x256 32} :
    Keeps defs c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2281 v2290 v2299 v2308 v2317 v2326 v2353 v2362 v2371 v2380 v2389 v2398 v2422 v2423) := by
  rw [k0_part50_eq_skeleton]; unfold k0_part50_skel; with_reducible exact Keeps.pure

theorem keeps_k0_part51 {v2284 : IVec S8x256 32} {v2293 : IVec S8x256 32} {v2302 : IVec S8x256 32} {v2326 : IVec S8x256 32} {v2335 : IVec S8x256 32} {v2344 : IVec S8x256 32} {v2356 : IVec S8x256 32} {v2365 : IVec S8x256 32} {v2374 : IVec S8x256 32} {v2398 : IVec S8x256 32} {v2407 : IVec S8x256 32} {v2416 : IVec S8x256 32} {v2467 : IVec S8x256 32} {v2468 : IVec S8x256 32} :
    Keeps defs c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2284 v2293 v2302 v2326 v2335 v2344 v2356 v2365 v2374 v2398 v2407 v2416 v2467 v2468) := by
  rw [k0_part51_eq_skeleton]; unfold k0_part51_skel; with_reducible exact Keeps.pure

theorem keeps_k0_part52 {v2302 : IVec S8x256 32} {v2311 : IVec S8x256 32} {v2320 : IVec S8x256 32} {v2329 : IVec S8x256 32} {v2338 : IVec S8x256 32} {v2347 : IVec S8x256 32} {v2374 : IVec S8x256 32} {v2383 : IVec S8x256 32} {v2392 : IVec S8x256 32} {v2401 : IVec S8x256 32} {v2410 : IVec S8x256 32} {v2419 : IVec S8x256 32} {v2512 : IVec S8x256 32} {v2513 : IVec S8x256 32} :
    Keeps defs c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2302 v2311 v2320 v2329 v2338 v2347 v2374 v2383 v2392 v2401 v2410 v2419 v2512 v2513) := by
  rw [k0_part52_eq_skeleton]; unfold k0_part52_skel; with_reducible exact Keeps.pure

theorem keeps_k0_part53 {v2347 : IVec S8x256 32} {v2419 : IVec S8x256 32} {v2425 : IVec S8x256 32} {v2428 : IVec S8x256 32} {v2434 : IVec S8x256 32} {v2443 : IVec S8x256 32} {v2452 : IVec S8x256 32} {v2461 : IVec S8x256 32} {v2464 : IVec S8x256 32} {v2470 : IVec S8x256 32} {v2479 : IVec S8x256 32} {v2488 : IVec S8x256 32} {v2557 : IVec S8x256 32} {v2558 : IVec S8x256 32} :
    Keeps defs c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2347 v2419 v2425 v2428 v2434 v2443 v2452 v2461 v2464 v2470 v2479 v2488 v2557 v2558) := by
  rw [k0_part53_eq_skeleton]; unfold k0_part53_skel; with_reducible exact Keeps.pure

theorem keeps_k0_part54 {v2428 : IVec S8x256 32} {v2437 : IVec S8x256 32} {v2446 : IVec S8x256 32} {v2455 : IVec S8x256 32} {v2464 : IVec S8x256 32} {v2473 : IVec S8x256 32} {v2482 : IVec S8x256 32} {v2491 : IVec S8x256 32} {v2497 : IVec S8x256 32} {v2506 : IVec S8x256 32} {v2533 : IVec S8x256 32} {v2542 : IVec S8x256 32} {v2602 : IVec S8x256 32} {v2603 : IVec S8x256 32} :
    Keeps defs c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2428 v2437 v2446 v2455 v2464 v2473 v2482 v2491 v2497 v2506 v2533 v2542 v2602 v2603) := by
  rw [k0_part54_eq_skeleton]; unfold k0_part54_skel; with_reducible exact Keeps.pure

theorem keeps_k0_part55 {v2500 : IVec S8x256 32} {v2506 : IVec S8x256 32} {v2509 : IVec S8x256 32} {v2515 : IVec S8x256 32} {v2518 : IVec S8x256 32} {v2524 : IVec S8x256 32} {v2536 : IVec S8x256 32} {v2542 : IVec S8x256 32} {v2545 : IVec S8x256 32} {v2551 : IVec S8x256 32} {v2554 : IVec S8x256 32} {v2560 : IVec S8x256 32} {v2647 : IVec S8x256 32} {v2648 : IVec S8x256 32} :
    Keeps defs c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2500 v2506 v2509 v2515 v2518 v2524 v2536 v2542 v2545 v2551 v2554 v2560 v2647 v2648) := by
  rw [k0_part55_eq_skeleton]; unfold k0_part55_skel; with_reducible exact Keeps.pure

theorem keeps_k0_part56 {v2518 : IVec S8x256 32} {v2527 : IVec S8x256 32} {v2554 : IVec S8x256 32} {v2563 : IVec S8x256 32} {v2569 : IVec S8x256 32} {v2572 : IVec S8x256 32} {v2578 : IVec S8x256 32} {v2581 : IVec S8x256 32} {v2587 : IVec S8x256 32} {v2590 : IVec S8x256 32} {v2596 : IVec S8x256 32} {v2599 : IVec S8x256 32} {v2692 : IVec S8x256 32} {v2693 : IVec S8x256 32} :
    Keeps defs c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2518 v2527 v2554 v2563 v2569 v2572 v2578 v2581 v2587 v2590 v2596 v2599 v2692 v2693) := by
  rw [k0_part56_eq_skeleton]; unfold k0_part56_skel; with_reducible exact Keeps.pure

theorem keeps_k0_part57 {v2581 : IVec S8x256 32} {v2599 : IVec S8x256 32} {v2605 : IVec S8x256 32} {v2608 : IVec S8x256 32} {v2614 : IVec S8x256 32} {v2617 : IVec S8x256 32} {v2623 : IVec S8x256 32} {v2626 : IVec S8x256 32} {v2632 : IVec S8x256 32} {v2635 : IVec S8x256 32} {v2641 : IVec S8x256 32} {v2659 : IVec S8x256 32} {v2737 : IVec S8x256 32} {v2738 : IVec S8x256 32} :
    Keeps defs c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2581 v2599 v2605 v2608 v2614 v2617 v2623 v2626 v2632 v2635 v2641 v2659 v2737 v2738) := by
  rw [k0_part57_eq_skeleton]; unfold k0_part57_skel; with_reducible exact Keeps.pure

theorem keeps_k0_part58 {v2641 : IVec S8x256 32} {v2644 : IVec S8x256 32} {v2650 : IVec S8x256 32} {v2653 : IVec S8x256 32} {v2659 : IVec S8x256 32} {v2662 : IVec S8x256 32} {v2668 : IVec S8x256 32} {v2671 : IVec S8x256 32} {v2677 : IVec S8x256 32} {v2686 : IVec S8x256 32} {v2695 : IVec S8x256 32} {v2704 : IVec S8x256 32} {v2782 : IVec S8x256 32} {v2783 : IVec S8x256 32} :
    Keeps defs c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2641 v2644 v2650 v2653 v2659 v2662 v2668 v2671 v2677 v2686 v2695 v2704 v2782 v2783) := by
  rw [k0_part58_eq_skeleton]; unfold k0_part58_skel; with_reducible exact Keeps.pure

theorem keeps_k0_part59 {v2680 : IVec S8x256 32} {v2686 : IVec S8x256 32} {v2689 : IVec S8x256 32} {v2698 : IVec S8x256 32} {v2704 : IVec S8x256 32} {v2707 : IVec S8x256 32} {v2713 : IVec S8x256 32} {v2716 : IVec S8x256 32} {v2722 : IVec S8x256 32} {v2725 : IVec S8x256 32} {v2731 : IVec S8x256 32} {v2740 : IVec S8x256 32} {v2827 : IVec S8x256 32} {v2828 : IVec S8x256 32} :
    Keeps defs c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2680 v2686 v2689 v2698 v2704 v2707 v2713 v2716 v2722 v2725 v2731 v2740 v2827 v2828) := by
  rw [k0_part59_eq_skeleton]; unfold k0_part59_skel; with_reducible exact Keeps.pure

theorem keeps_k0_part60 {v2731 : IVec S8x256 32} {v2734 : IVec S8x256 32} {v2740 : IVec S8x256 32} {v2743 : IVec S8x256 32} {v2749 : IVec S8x256 32} {v2752 : IVec S8x256 32} {v2758 : IVec S8x256 32} {v2761 : IVec S8x256 32} {v2767 : IVec S8x256 32} {v2770 : IVec S8x256 32} {v2776 : IVec S8x256 32} {v2779 : IVec S8x256 32} {v2872 : IVec S8x256 32} {v2873 : IVec S8x256 32} :
    Keeps defs c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2731 v2734 v2740 v2743 v2749 v2752 v2758 v2761 v2767 v2770 v2776 v2779 v2872 v2873) := by
  rw [k0_part60_eq_skeleton]; unfold k0_part60_skel; with_reducible exact Keeps.pure

theorem keeps_k0_part61 {v2770 : IVec S8x256 32} {v2779 : IVec S8x256 32} {v2785 : IVec S8x256 32} {v2788 : IVec S8x256 32} {v2794 : IVec S8x256 32} {v2797 : IVec S8x256 32} {v2803 : IVec S8x256 32} {v2806 : IVec S8x256 32} {v2812 : IVec S8x256 32} {v2815 : IVec S8x256 32} {v2821 : IVec S8x256 32} {v2830 : IVec S8x256 32} {v2917 : IVec S8x256 32} {v2918 : IVec S8x256 32} :
    Keeps defs c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2770 v2779 v2785 v2788 v2794 v2797 v2803 v2806 v2812 v2815 v2821 v2830 v2917 v2918) := by
  rw [k0_part61_eq_skeleton]; unfold k0_part61_skel; with_reducible exact Keeps.pure

theorem keeps_k0_part67 {v2243 : IVec S512x256 32} {v3127 : IVec S8x256 32} {v3128 : IVec S8x256 32} {v3129 : IVec S8x256 32} {v3130 : IVec S8x256 32} {v3131 : IVec S8x256 32} {v3143 : IVec S8x256 32} {v3144 : IVec S8x256 32} {v3145 : IVec S8x256 32} {v3146 : IVec S8x256 32} {v3147 : IVec S8x256 32} :
    Keeps defs c R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2243 v3127 v3128 v3129 v3130 v3131 v3143 v3144 v3145 v3146 v3147) := by
  rw [k0_part67_eq_skeleton]; unfold k0_part67_skel; with_reducible exact Keeps.pure

theorem keeps_k0_part68 {v3132 : IVec S8x256 32} {v3133 : IVec S8x256 32} {v3134 : IVec S8x256 32} {v3135 : IVec S8x256 32} {v3136 : IVec S8x256 32} {v3147 : IVec S8x256 32} {v3148 : IVec S8x256 32} {v3149 : IVec S8x256 32} {v3150 : IVec S8x256 32} {v3151 : IVec S8x256 32} {v3152 : IVec S8x256 32} {v3199 : IVec S8x256 32} {c16_i32_1210 : BitVec 32} :
    Keeps defs c R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3132 v3133 v3134 v3135 v3136 v3147 v3148 v3149 v3150 v3151 v3152 v3199 c16_i32_1210) := by
  rw [k0_part68_eq_skeleton]; unfold k0_part68_skel; with_reducible exact Keeps.pure

theorem keeps_k0_part69 {v3137 : IVec S8x256 32} {v3138 : IVec S8x256 32} {v3139 : IVec S8x256 32} {v3140 : IVec S8x256 32} {v3141 : IVec S8x256 32} {v3152 : IVec S8x256 32} {v3153 : IVec S8x256 32} {v3154 : IVec S8x256 32} {v3155 : IVec S8x256 32} {v3156 : IVec S8x256 32} {v3157 : IVec S8x256 32} {v3244 : IVec S8x256 32} {c16_i32_1225 : BitVec 32} :
    Keeps defs c R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3137 v3138 v3139 v3140 v3141 v3152 v3153 v3154 v3155 v3156 v3157 v3244 c16_i32_1225) := by
  rw [k0_part69_eq_skeleton]; unfold k0_part69_skel; with_reducible exact Keeps.pure

theorem keeps_k0_part70 {v3142 : IVec S8x256 32} {v3157 : IVec S8x256 32} {v3158 : IVec S8x256 32} {v3164 : IVec S8x256 32} {v3173 : IVec S8x256 32} {v3182 : IVec S8x256 32} {v3191 : IVec S8x256 32} {v3236 : IVec S8x256 32} {v3245 : IVec S8x256 32} {v3254 : IVec S8x256 32} {v3263 : IVec S8x256 32} {v3289 : IVec S8x256 32} {c16_i32_1240 : BitVec 32} :
    Keeps defs c R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3142 v3157 v3158 v3164 v3173 v3182 v3191 v3236 v3245 v3254 v3263 v3289 c16_i32_1240) := by
  rw [k0_part70_eq_skeleton]; unfold k0_part70_skel; with_reducible exact Keeps.pure

theorem keeps_k0_part71 {v3167 : IVec S8x256 32} {v3200 : IVec S8x256 32} {v3209 : IVec S8x256 32} {v3218 : IVec S8x256 32} {v3227 : IVec S8x256 32} {v3239 : IVec S8x256 32} {v3263 : IVec S8x256 32} {v3272 : IVec S8x256 32} {v3281 : IVec S8x256 32} {v3290 : IVec S8x256 32} {v3299 : IVec S8x256 32} {v3334 : IVec S8x256 32} {c8_i32_1255 : BitVec 32} :
    Keeps defs c R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3167 v3200 v3209 v3218 v3227 v3239 v3263 v3272 v3281 v3290 v3299 v3334 c8_i32_1255) := by
  rw [k0_part71_eq_skeleton]; unfold k0_part71_skel; with_reducible exact Keeps.pure

theorem keeps_k0_part72 {v3176 : IVec S8x256 32} {v3185 : IVec S8x256 32} {v3194 : IVec S8x256 32} {v3203 : IVec S8x256 32} {v3212 : IVec S8x256 32} {v3239 : IVec S8x256 32} {v3248 : IVec S8x256 32} {v3257 : IVec S8x256 32} {v3266 : IVec S8x256 32} {v3275 : IVec S8x256 32} {v3284 : IVec S8x256 32} {v3379 : IVec S8x256 32} {c8_i32_1270 : BitVec 32} :
    Keeps defs c R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3176 v3185 v3194 v3203 v3212 v3239 v3248 v3257 v3266 v3275 v3284 v3379 c8_i32_1270) := by
  rw [k0_part72_eq_skeleton]; unfold k0_part72_skel; with_reducible exact Keeps.pure

theorem keeps_k0_part73 {v3221 : IVec S8x256 32} {v3230 : IVec S8x256 32} {v3284 : IVec S8x256 32} {v3293 : IVec S8x256 32} {v3302 : IVec S8x256 32} {v3308 : IVec S8x256 32} {v3317 : IVec S8x256 32} {v3326 : IVec S8x256 32} {v3344 : IVec S8x256 32} {v3353 : IVec S8x256 32} {v3362 : IVec S8x256 32} {v3424 : IVec S8x256 32} {c8_i32_1285 : BitVec 32} :
    Keeps defs c R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3221 v3230 v3284 v3293 v3302 v3308 v3317 v3326 v3344 v3353 v3362 v3424 c8_i32_1285) := by
  rw [k0_part73_eq_skeleton]; unfold k0_part73_skel; with_reducible exact Keeps.pure

theorem keeps_k0_part74 {v3311 : IVec S8x256 32} {v3320 : IVec S8x256 32} {v3329 : IVec S8x256 32} {v3335 : IVec S8x256 32} {v3338 : IVec S8x256 32} {v3347 : IVec S8x256 32} {v3356 : IVec S8x256 32} {v3362 : IVec S8x256 32} {v3365 : IVec S8x256 32} {v3371 : IVec S8x256 32} {v3374 : IVec S8x256 32} {v3469 : IVec S8x256 32} {c4_i32_1300 : BitVec 32} :
    Keeps defs c R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3311 v3320 v3329 v3335 v3338 v3347 v3356 v3362 v3365 v3371 v3374 v3469 c4_i32_1300) := by
  rw [k0_part74_eq_skeleton]; unfold k0_part74_skel; with_reducible exact Keeps.pure

theorem keeps_k0_part75 {v3374 : IVec S8x256 32} {v3380 : IVec S8x256 32} {v3383 : IVec S8x256 32} {v3389 : IVec S8x256 32} {v3398 : IVec S8x256 32} {v3407 : IVec S8x256 32} {v3416 : IVec S8x256 32} {v3419 : IVec S8x256 32} {v3425 : IVec S8x256 32} {v3434 : IVec S8x256 32} {v3443 : IVec S8x256 32} {v3514 : IVec S8x256 32} {c4_i32_1315 : BitVec 32} :
    Keeps defs c R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3374 v3380 v3383 v3389 v3398 v3407 v3416 v3419 v3425 v3434 v3443 v3514 c4_i32_1315) := by
  rw [k0_part75_eq_skeleton]; unfold k0_part75_skel; with_reducible exact Keeps.pure

theorem keeps_k0_part76 {v3392 : IVec S8x256 32} {v3401 : IVec S8x256 32} {v3410 : IVec S8x256 32} {v3419 : IVec S8x256 32} {v3428 : IVec S8x256 32} {v3437 : IVec S8x256 32} {v3446 : IVec S8x256 32} {v3452 : IVec S8x256 32} {v3461 : IVec S8x256 32} {v3470 : IVec S8x256 32} {v3479 : IVec S8x256 32} {v3559 : IVec S8x256 32} {c4_i32_1330 : BitVec 32} :
    Keeps defs c R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3392 v3401 v3410 v3419 v3428 v3437 v3446 v3452 v3461 v3470 v3479 v3559 c4_i32_1330) := by
  rw [k0_part76_eq_skeleton]; unfold k0_part76_skel; with_reducible exact Keeps.pure

theorem keeps_k0_part77 {v3455 : IVec S8x256 32} {v3464 : IVec S8x256 32} {v3473 : IVec S8x256 32} {v3479 : IVec S8x256 32} {v3482 : IVec S8x256 32} {v3488 : IVec S8x256 32} {v3491 : IVec S8x256 32} {v3497 : IVec S8x256 32} {v3506 : IVec S8x256 32} {v3509 : IVec S8x256 32} {v3515 : IVec S8x256 32} {v3604 : IVec S8x256 32} {c2_i32_1345 : BitVec 32} :
    Keeps defs c R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3455 v3464 v3473 v3479 v3482 v3488 v3491 v3497 v3506 v3509 v3515 v3604 c2_i32_1345) := by
  rw [k0_part77_eq_skeleton]; unfold k0_part77_skel; with_reducible exact Keeps.pure

theorem keeps_k0_part78 {v3500 : IVec S8x256 32} {v3509 : IVec S8x256 32} {v3518 : IVec S8x256 32} {v3524 : IVec S8x256 32} {v3527 : IVec S8x256 32} {v3533 : IVec S8x256 32} {v3536 : IVec S8x256 32} {v3542 : IVec S8x256 32} {v3545 : IVec S8x256 32} {v3551 : IVec S8x256 32} {v3554 : IVec S8x256 32} {v3649 : IVec S8x256 32} {c2_i32_1360 : BitVec 32} :
    Keeps defs c R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3500 v3509 v3518 v3524 v3527 v3533 v3536 v3542 v3545 v3551 v3554 v3649 c2_i32_1360) := by
  rw [k0_part78_eq_skeleton]; unfold k0_part78_skel; with_reducible exact Keeps.pure

theorem keeps_k0_part79 {v3554 : IVec S8x256 32} {v3560 : IVec S8x256 32} {v3563 : IVec S8x256 32} {v3569 : IVec S8x256 32} {v3572 : IVec S8x256 32} {v3578 : IVec S8x256 32} {v3581 : IVec S8x256 32} {v3587 : IVec S8x256 32} {v3590 : IVec S8x256 32} {v3596 : IVec S8x256 32} {v3605 : IVec S8x256 32} {v3694 : IVec S8x256 32} {c2_i32_1375 : BitVec 32} :
    Keeps defs c R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3554 v3560 v3563 v3569 v3572 v3578 v3581 v3587 v3590 v3596 v3605 v3694 c2_i32_1375) := by
  rw [k0_part79_eq_skeleton]; unfold k0_part79_skel; with_reducible exact Keeps.pure

theorem keeps_k0_part80 {v3599 : IVec S8x256 32} {v3605 : IVec S8x256 32} {v3608 : IVec S8x256 32} {v3614 : IVec S8x256 32} {v3617 : IVec S8x256 32} {v3623 : IVec S8x256 32} {v3626 : IVec S8x256 32} {v3632 : IVec S8x256 32} {v3635 : IVec S8x256 32} {v3641 : IVec S8x256 32} {v3644 : IVec S8x256 32} {v3739 : IVec S8x256 32} {c1_i32_1390 : BitVec 32} :
    Keeps defs c R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3599 v3605 v3608 v3614 v3617 v3623 v3626 v3632 v3635 v3641 v3644 v3739 c1_i32_1390) := by
  rw [k0_part80_eq_skeleton]; unfold k0_part80_skel; with_reducible exact Keeps.pure

theorem keeps_k0_part81 {v3644 : IVec S8x256 32} {v3650 : IVec S8x256 32} {v3653 : IVec S8x256 32} {v3659 : IVec S8x256 32} {v3662 : IVec S8x256 32} {v3668 : IVec S8x256 32} {v3671 : IVec S8x256 32} {v3677 : IVec S8x256 32} {v3680 : IVec S8x256 32} {v3686 : IVec S8x256 32} {v3695 : IVec S8x256 32} {v3784 : IVec S8x256 32} {c1_i32_1405 : BitVec 32} :
    Keeps defs c R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3644 v3650 v3653 v3659 v3662 v3668 v3671 v3677 v3680 v3686 v3695 v3784 c1_i32_1405) := by
  rw [k0_part81_eq_skeleton]; unfold k0_part81_skel; with_reducible exact Keeps.pure

theorem keeps_k0_part82 {v3689 : IVec S8x256 32} {v3695 : IVec S8x256 32} {v3698 : IVec S8x256 32} {v3704 : IVec S8x256 32} {v3707 : IVec S8x256 32} {v3713 : IVec S8x256 32} {v3716 : IVec S8x256 32} {v3722 : IVec S8x256 32} {v3725 : IVec S8x256 32} {v3731 : IVec S8x256 32} {v3734 : IVec S8x256 32} {v3829 : IVec S8x256 32} {c1_i32_1420 : BitVec 32} :
    Keeps defs c R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3689 v3695 v3698 v3704 v3707 v3713 v3716 v3722 v3725 v3731 v3734 v3829 c1_i32_1420) := by
  rw [k0_part82_eq_skeleton]; unfold k0_part82_skel; with_reducible exact Keeps.pure

theorem keeps_k0_part144 {v265 : IVec S8x256 32} {v266 : IVec S8x256 32} {v267 : IVec S8x256 32} {v268 : IVec S8x256 32} {v269 : IVec S8x256 32} {v280 : IVec S8x256 32} {v281 : IVec S8x256 32} {v282 : IVec S8x256 32} {v283 : IVec S8x256 32} {v284 : IVec S8x256 32} {v285 : IVec S8x256 32} {v308 : IVec S8x256 32} {v310 : IVec S8x256 32} :
    Keeps defs c R (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v265 v266 v267 v268 v269 v280 v281 v282 v283 v284 v285 v308 v310) := by
  rw [k0_part144_eq_skeleton]; unfold k0_part144_skel; with_reducible exact Keeps.pure

theorem keeps_k0_part145 {v270 : IVec S8x256 32} {v271 : IVec S8x256 32} {v272 : IVec S8x256 32} {v273 : IVec S8x256 32} {v274 : IVec S8x256 32} {v285 : IVec S8x256 32} {v286 : IVec S8x256 32} {v287 : IVec S8x256 32} {v288 : IVec S8x256 32} {v289 : IVec S8x256 32} {v290 : IVec S8x256 32} {v353 : IVec S8x256 32} {v355 : IVec S8x256 32} :
    Keeps defs c R (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v270 v271 v272 v273 v274 v285 v286 v287 v288 v289 v290 v353 v355) := by
  rw [k0_part145_eq_skeleton]; unfold k0_part145_skel; with_reducible exact Keeps.pure

theorem keeps_k0_part146 {v275 : IVec S8x256 32} {v276 : IVec S8x256 32} {v277 : IVec S8x256 32} {v278 : IVec S8x256 32} {v290 : IVec S8x256 32} {v291 : IVec S8x256 32} {v292 : IVec S8x256 32} {v293 : IVec S8x256 32} {v294 : IVec S8x256 32} {v300 : IVec S8x256 32} {v372 : IVec S8x256 32} {v398 : IVec S8x256 32} {v400 : IVec S8x256 32} :
    Keeps defs c R (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v275 v276 v277 v278 v290 v291 v292 v293 v294 v300 v372 v398 v400) := by
  rw [k0_part146_eq_skeleton]; unfold k0_part146_skel; with_reducible exact Keeps.pure

theorem keeps_k0_part147 {v309 : IVec S8x256 32} {v318 : IVec S8x256 32} {v327 : IVec S8x256 32} {v336 : IVec S8x256 32} {v345 : IVec S8x256 32} {v372 : IVec S8x256 32} {v381 : IVec S8x256 32} {v390 : IVec S8x256 32} {v399 : IVec S8x256 32} {v408 : IVec S8x256 32} {v417 : IVec S8x256 32} {v443 : IVec S8x256 32} {v445 : IVec S8x256 32} :
    Keeps defs c R (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v309 v318 v327 v336 v345 v372 v381 v390 v399 v408 v417 v443 v445) := by
  rw [k0_part147_eq_skeleton]; unfold k0_part147_skel; with_reducible exact Keeps.pure

theorem keeps_k0_part148 {v303 : IVec S8x256 32} {v312 : IVec S8x256 32} {v321 : IVec S8x256 32} {v354 : IVec S8x256 32} {v363 : IVec S8x256 32} {v375 : IVec S8x256 32} {v384 : IVec S8x256 32} {v393 : IVec S8x256 32} {v417 : IVec S8x256 32} {v426 : IVec S8x256 32} {v435 : IVec S8x256 32} {v488 : IVec S8x256 32} {v490 : IVec S8x256 32} :
    Keeps defs c R (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v303 v312 v321 v354 v363 v375 v384 v393 v417 v426 v435 v488 v490) := by
  rw [k0_part148_eq_skeleton]; unfold k0_part148_skel; with_reducible exact Keeps.pure

theorem keeps_k0_part149 {v330 : IVec S8x256 32} {v339 : IVec S8x256 32} {v348 : IVec S8x256 32} {v357 : IVec S8x256 32} {v366 : IVec S8x256 32} {v393 : IVec S8x256 32} {v402 : IVec S8x256 32} {v411 : IVec S8x256 32} {v420 : IVec S8x256 32} {v429 : IVec S8x256 32} {v438 : IVec S8x256 32} {v533 : IVec S8x256 32} {v535 : IVec S8x256 32} :
    Keeps defs c R (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v330 v339 v348 v357 v366 v393 v402 v411 v420 v429 v438 v533 v535) := by
  rw [k0_part149_eq_skeleton]; unfold k0_part149_skel; with_reducible exact Keeps.pure

theorem keeps_k0_part150 {v438 : IVec S8x256 32} {v444 : IVec S8x256 32} {v447 : IVec S8x256 32} {v453 : IVec S8x256 32} {v462 : IVec S8x256 32} {v471 : IVec S8x256 32} {v480 : IVec S8x256 32} {v483 : IVec S8x256 32} {v489 : IVec S8x256 32} {v498 : IVec S8x256 32} {v507 : IVec S8x256 32} {v578 : IVec S8x256 32} {v580 : IVec S8x256 32} :
    Keeps defs c R (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v438 v444 v447 v453 v462 v471 v480 v483 v489 v498 v507 v578 v580) := by
  rw [k0_part150_eq_skeleton]; unfold k0_part150_skel; with_reducible exact Keeps.pure

theorem keeps_k0_part151 {v456 : IVec S8x256 32} {v465 : IVec S8x256 32} {v474 : IVec S8x256 32} {v483 : IVec S8x256 32} {v492 : IVec S8x256 32} {v501 : IVec S8x256 32} {v510 : IVec S8x256 32} {v516 : IVec S8x256 32} {v525 : IVec S8x256 32} {v552 : IVec S8x256 32} {v561 : IVec S8x256 32} {v623 : IVec S8x256 32} {v625 : IVec S8x256 32} :
    Keeps defs c R (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v456 v465 v474 v483 v492 v501 v510 v516 v525 v552 v561 v623 v625) := by
  rw [k0_part151_eq_skeleton]; unfold k0_part151_skel; with_reducible exact Keeps.pure

theorem keeps_k0_part152 {v519 : IVec S8x256 32} {v528 : IVec S8x256 32} {v534 : IVec S8x256 32} {v537 : IVec S8x256 32} {v543 : IVec S8x256 32} {v555 : IVec S8x256 32} {v561 : IVec S8x256 32} {v564 : IVec S8x256 32} {v570 : IVec S8x256 32} {v573 : IVec S8x256 32} {v579 : IVec S8x256 32} {v668 : IVec S8x256 32} {v670 : IVec S8x256 32} :
    Keeps defs c R (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v519 v528 v534 v537 v543 v555 v561 v564 v570 v573 v579 v668 v670) := by
  rw [k0_part152_eq_skeleton]; unfold k0_part152_skel; with_reducible exact Keeps.pure

theorem keeps_k0_part153 {v546 : IVec S8x256 32} {v573 : IVec S8x256 32} {v582 : IVec S8x256 32} {v588 : IVec S8x256 32} {v591 : IVec S8x256 32} {v597 : IVec S8x256 32} {v600 : IVec S8x256 32} {v606 : IVec S8x256 32} {v609 : IVec S8x256 32} {v615 : IVec S8x256 32} {v618 : IVec S8x256 32} {v713 : IVec S8x256 32} {v715 : IVec S8x256 32} :
    Keeps defs c R (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v546 v573 v582 v588 v591 v597 v600 v606 v609 v615 v618 v713 v715) := by
  rw [k0_part153_eq_skeleton]; unfold k0_part153_skel; with_reducible exact Keeps.pure

theorem keeps_k0_part154 {v618 : IVec S8x256 32} {v624 : IVec S8x256 32} {v627 : IVec S8x256 32} {v633 : IVec S8x256 32} {v636 : IVec S8x256 32} {v642 : IVec S8x256 32} {v645 : IVec S8x256 32} {v651 : IVec S8x256 32} {v654 : IVec S8x256 32} {v660 : IVec S8x256 32} {v678 : IVec S8x256 32} {v758 : IVec S8x256 32} {v760 : IVec S8x256 32} :
    Keeps defs c R (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v618 v624 v627 v633 v636 v642 v645 v651 v654 v660 v678 v758 v760) := by
  rw [k0_part154_eq_skeleton]; unfold k0_part154_skel; with_reducible exact Keeps.pure

theorem keeps_k0_part155 {v663 : IVec S8x256 32} {v669 : IVec S8x256 32} {v672 : IVec S8x256 32} {v678 : IVec S8x256 32} {v681 : IVec S8x256 32} {v687 : IVec S8x256 32} {v690 : IVec S8x256 32} {v696 : IVec S8x256 32} {v705 : IVec S8x256 32} {v714 : IVec S8x256 32} {v723 : IVec S8x256 32} {v803 : IVec S8x256 32} {v805 : IVec S8x256 32} :
    Keeps defs c R (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v663 v669 v672 v678 v681 v687 v690 v696 v705 v714 v723 v803 v805) := by
  rw [k0_part155_eq_skeleton]; unfold k0_part155_skel; with_reducible exact Keeps.pure

theorem keeps_k0_part156 {v699 : IVec S8x256 32} {v708 : IVec S8x256 32} {v717 : IVec S8x256 32} {v723 : IVec S8x256 32} {v726 : IVec S8x256 32} {v732 : IVec S8x256 32} {v735 : IVec S8x256 32} {v741 : IVec S8x256 32} {v744 : IVec S8x256 32} {v750 : IVec S8x256 32} {v759 : IVec S8x256 32} {v848 : IVec S8x256 32} {v850 : IVec S8x256 32} :
    Keeps defs c R (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v699 v708 v717 v723 v726 v732 v735 v741 v744 v750 v759 v848 v850) := by
  rw [k0_part156_eq_skeleton]; unfold k0_part156_skel; with_reducible exact Keeps.pure

theorem keeps_k0_part157 {v753 : IVec S8x256 32} {v759 : IVec S8x256 32} {v762 : IVec S8x256 32} {v768 : IVec S8x256 32} {v771 : IVec S8x256 32} {v777 : IVec S8x256 32} {v780 : IVec S8x256 32} {v786 : IVec S8x256 32} {v789 : IVec S8x256 32} {v795 : IVec S8x256 32} {v798 : IVec S8x256 32} {v893 : IVec S8x256 32} {v895 : IVec S8x256 32} :
    Keeps defs c R (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v753 v759 v762 v768 v771 v777 v780 v786 v789 v795 v798 v893 v895) := by
  rw [k0_part157_eq_skeleton]; unfold k0_part157_skel; with_reducible exact Keeps.pure

theorem keeps_k0_part158 {v798 : IVec S8x256 32} {v804 : IVec S8x256 32} {v807 : IVec S8x256 32} {v813 : IVec S8x256 32} {v816 : IVec S8x256 32} {v822 : IVec S8x256 32} {v825 : IVec S8x256 32} {v831 : IVec S8x256 32} {v834 : IVec S8x256 32} {v840 : IVec S8x256 32} {v849 : IVec S8x256 32} {v938 : IVec S8x256 32} {v940 : IVec S8x256 32} :
    Keeps defs c R (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v798 v804 v807 v813 v816 v822 v825 v831 v834 v840 v849 v938 v940) := by
  rw [k0_part158_eq_skeleton]; unfold k0_part158_skel; with_reducible exact Keeps.pure

theorem keeps_k0_part164 {v1146 : IVec S8x256 32} {v1147 : IVec S8x256 32} {v1148 : IVec S8x256 32} {v1149 : IVec S8x256 32} {v1150 : IVec S8x256 32} {v1162 : IVec S8x256 32} {v1163 : IVec S8x256 32} {v1164 : IVec S8x256 32} {v1165 : IVec S8x256 32} {v1166 : IVec S8x256 32} {c16_i32_445 : BitVec 32} :
    Keeps defs c R (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1146 v1147 v1148 v1149 v1150 v1162 v1163 v1164 v1165 v1166 c16_i32_445) := by
  rw [k0_part164_eq_skeleton]; unfold k0_part164_skel; with_reducible exact Keeps.pure

theorem keeps_k0_part165 {v1151 : IVec S8x256 32} {v1152 : IVec S8x256 32} {v1153 : IVec S8x256 32} {v1154 : IVec S8x256 32} {v1155 : IVec S8x256 32} {v1167 : IVec S8x256 32} {v1168 : IVec S8x256 32} {v1169 : IVec S8x256 32} {v1170 : IVec S8x256 32} {v1171 : IVec S8x256 32} {c16_i32_460 : BitVec 32} :
    Keeps defs c R (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1151 v1152 v1153 v1154 v1155 v1167 v1168 v1169 v1170 v1171 c16_i32_460) := by
  rw [k0_part165_eq_skeleton]; unfold k0_part165_skel; with_reducible exact Keeps.pure

theorem keeps_k0_part166 {v1156 : IVec S8x256 32} {v1157 : IVec S8x256 32} {v1158 : IVec S8x256 32} {v1159 : IVec S8x256 32} {v1160 : IVec S8x256 32} {v1172 : IVec S8x256 32} {v1173 : IVec S8x256 32} {v1174 : IVec S8x256 32} {v1175 : IVec S8x256 32} {v1176 : IVec S8x256 32} {c16_i32_475 : BitVec 32} :
    Keeps defs c R (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1156 v1157 v1158 v1159 v1160 v1172 v1173 v1174 v1175 v1176 c16_i32_475) := by
  rw [k0_part166_eq_skeleton]; unfold k0_part166_skel; with_reducible exact Keeps.pure

theorem keeps_k0_part167 {v1161 : IVec S8x256 32} {v1177 : IVec S8x256 32} {v1183 : IVec S8x256 32} {v1192 : IVec S8x256 32} {v1201 : IVec S8x256 32} {v1210 : IVec S8x256 32} {v1255 : IVec S8x256 32} {v1264 : IVec S8x256 32} {v1273 : IVec S8x256 32} {v1282 : IVec S8x256 32} {c16_i32_490 : BitVec 32} :
    Keeps defs c R (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1161 v1177 v1183 v1192 v1201 v1210 v1255 v1264 v1273 v1282 c16_i32_490) := by
  rw [k0_part167_eq_skeleton]; unfold k0_part167_skel; with_reducible exact Keeps.pure

theorem keeps_k0_part168 {v1186 : IVec S8x256 32} {v1219 : IVec S8x256 32} {v1228 : IVec S8x256 32} {v1237 : IVec S8x256 32} {v1246 : IVec S8x256 32} {v1258 : IVec S8x256 32} {v1291 : IVec S8x256 32} {v1300 : IVec S8x256 32} {v1309 : IVec S8x256 32} {v1318 : IVec S8x256 32} {c8_i32_505 : BitVec 32} :
    Keeps defs c R (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1186 v1219 v1228 v1237 v1246 v1258 v1291 v1300 v1309 v1318 c8_i32_505) := by
  rw [k0_part168_eq_skeleton]; unfold k0_part168_skel; with_reducible exact Keeps.pure

theorem keeps_k0_part169 {v1195 : IVec S8x256 32} {v1204 : IVec S8x256 32} {v1213 : IVec S8x256 32} {v1222 : IVec S8x256 32} {v1231 : IVec S8x256 32} {v1267 : IVec S8x256 32} {v1276 : IVec S8x256 32} {v1285 : IVec S8x256 32} {v1294 : IVec S8x256 32} {v1303 : IVec S8x256 32} {c8_i32_520 : BitVec 32} :
    Keeps defs c R (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1195 v1204 v1213 v1222 v1231 v1267 v1276 v1285 v1294 v1303 c8_i32_520) := by
  rw [k0_part169_eq_skeleton]; unfold k0_part169_skel; with_reducible exact Keeps.pure

theorem keeps_k0_part170 {v1240 : IVec S8x256 32} {v1249 : IVec S8x256 32} {v1312 : IVec S8x256 32} {v1321 : IVec S8x256 32} {v1327 : IVec S8x256 32} {v1336 : IVec S8x256 32} {v1345 : IVec S8x256 32} {v1363 : IVec S8x256 32} {v1372 : IVec S8x256 32} {v1381 : IVec S8x256 32} {c8_i32_535 : BitVec 32} :
    Keeps defs c R (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1240 v1249 v1312 v1321 v1327 v1336 v1345 v1363 v1372 v1381 c8_i32_535) := by
  rw [k0_part170_eq_skeleton]; unfold k0_part170_skel; with_reducible exact Keeps.pure

theorem keeps_k0_part171 {v1330 : IVec S8x256 32} {v1339 : IVec S8x256 32} {v1348 : IVec S8x256 32} {v1354 : IVec S8x256 32} {v1357 : IVec S8x256 32} {v1366 : IVec S8x256 32} {v1375 : IVec S8x256 32} {v1384 : IVec S8x256 32} {v1390 : IVec S8x256 32} {v1393 : IVec S8x256 32} {c4_i32_550 : BitVec 32} :
    Keeps defs c R (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1330 v1339 v1348 v1354 v1357 v1366 v1375 v1384 v1390 v1393 c4_i32_550) := by
  rw [k0_part171_eq_skeleton]; unfold k0_part171_skel; with_reducible exact Keeps.pure

theorem keeps_k0_part172 {v1399 : IVec S8x256 32} {v1402 : IVec S8x256 32} {v1408 : IVec S8x256 32} {v1417 : IVec S8x256 32} {v1426 : IVec S8x256 32} {v1435 : IVec S8x256 32} {v1438 : IVec S8x256 32} {v1444 : IVec S8x256 32} {v1453 : IVec S8x256 32} {v1462 : IVec S8x256 32} {c4_i32_565 : BitVec 32} :
    Keeps defs c R (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1399 v1402 v1408 v1417 v1426 v1435 v1438 v1444 v1453 v1462 c4_i32_565) := by
  rw [k0_part172_eq_skeleton]; unfold k0_part172_skel; with_reducible exact Keeps.pure

theorem keeps_k0_part173 {v1411 : IVec S8x256 32} {v1420 : IVec S8x256 32} {v1429 : IVec S8x256 32} {v1447 : IVec S8x256 32} {v1456 : IVec S8x256 32} {v1465 : IVec S8x256 32} {v1471 : IVec S8x256 32} {v1480 : IVec S8x256 32} {v1489 : IVec S8x256 32} {v1498 : IVec S8x256 32} {c4_i32_580 : BitVec 32} :
    Keeps defs c R (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1411 v1420 v1429 v1447 v1456 v1465 v1471 v1480 v1489 v1498 c4_i32_580) := by
  rw [k0_part173_eq_skeleton]; unfold k0_part173_skel; with_reducible exact Keeps.pure

theorem keeps_k0_part174 {v1474 : IVec S8x256 32} {v1483 : IVec S8x256 32} {v1492 : IVec S8x256 32} {v1501 : IVec S8x256 32} {v1507 : IVec S8x256 32} {v1510 : IVec S8x256 32} {v1516 : IVec S8x256 32} {v1525 : IVec S8x256 32} {v1528 : IVec S8x256 32} {v1534 : IVec S8x256 32} {c2_i32_595 : BitVec 32} :
    Keeps defs c R (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1474 v1483 v1492 v1501 v1507 v1510 v1516 v1525 v1528 v1534 c2_i32_595) := by
  rw [k0_part174_eq_skeleton]; unfold k0_part174_skel; with_reducible exact Keeps.pure

theorem keeps_k0_part175 {v1519 : IVec S8x256 32} {v1537 : IVec S8x256 32} {v1543 : IVec S8x256 32} {v1546 : IVec S8x256 32} {v1552 : IVec S8x256 32} {v1555 : IVec S8x256 32} {v1561 : IVec S8x256 32} {v1564 : IVec S8x256 32} {v1570 : IVec S8x256 32} {v1573 : IVec S8x256 32} {c2_i32_610 : BitVec 32} :
    Keeps defs c R (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1519 v1537 v1543 v1546 v1552 v1555 v1561 v1564 v1570 v1573 c2_i32_610) := by
  rw [k0_part175_eq_skeleton]; unfold k0_part175_skel; with_reducible exact Keeps.pure

theorem keeps_k0_part176 {v1579 : IVec S8x256 32} {v1582 : IVec S8x256 32} {v1588 : IVec S8x256 32} {v1591 : IVec S8x256 32} {v1597 : IVec S8x256 32} {v1600 : IVec S8x256 32} {v1606 : IVec S8x256 32} {v1609 : IVec S8x256 32} {v1615 : IVec S8x256 32} {v1624 : IVec S8x256 32} {c2_i32_625 : BitVec 32} :
    Keeps defs c R (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1579 v1582 v1588 v1591 v1597 v1600 v1606 v1609 v1615 v1624 c2_i32_625) := by
  rw [k0_part176_eq_skeleton]; unfold k0_part176_skel; with_reducible exact Keeps.pure

theorem keeps_k0_part177 {v1618 : IVec S8x256 32} {v1627 : IVec S8x256 32} {v1633 : IVec S8x256 32} {v1636 : IVec S8x256 32} {v1642 : IVec S8x256 32} {v1645 : IVec S8x256 32} {v1651 : IVec S8x256 32} {v1654 : IVec S8x256 32} {v1660 : IVec S8x256 32} {v1663 : IVec S8x256 32} {c1_i32_640 : BitVec 32} :
    Keeps defs c R (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1618 v1627 v1633 v1636 v1642 v1645 v1651 v1654 v1660 v1663 c1_i32_640) := by
  rw [k0_part177_eq_skeleton]; unfold k0_part177_skel; with_reducible exact Keeps.pure

theorem keeps_k0_part178 {v1669 : IVec S8x256 32} {v1672 : IVec S8x256 32} {v1678 : IVec S8x256 32} {v1681 : IVec S8x256 32} {v1687 : IVec S8x256 32} {v1690 : IVec S8x256 32} {v1696 : IVec S8x256 32} {v1699 : IVec S8x256 32} {v1705 : IVec S8x256 32} {v1714 : IVec S8x256 32} {c1_i32_655 : BitVec 32} :
    Keeps defs c R (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1669 v1672 v1678 v1681 v1687 v1690 v1696 v1699 v1705 v1714 c1_i32_655) := by
  rw [k0_part178_eq_skeleton]; unfold k0_part178_skel; with_reducible exact Keeps.pure

theorem keeps_k0_part179 {v1708 : IVec S8x256 32} {v1717 : IVec S8x256 32} {v1723 : IVec S8x256 32} {v1726 : IVec S8x256 32} {v1732 : IVec S8x256 32} {v1735 : IVec S8x256 32} {v1741 : IVec S8x256 32} {v1744 : IVec S8x256 32} {v1750 : IVec S8x256 32} {v1753 : IVec S8x256 32} {c1_i32_670 : BitVec 32} :
    Keeps defs c R (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1708 v1717 v1723 v1726 v1732 v1735 v1741 v1744 v1750 v1753 c1_i32_670) := by
  rw [k0_part179_eq_skeleton]; unfold k0_part179_skel; with_reducible exact Keeps.pure

end Cert.Proof.Parts

end
-- ==== Proof.Parts.lean ====
/- The body of the call, part by part: every part runs from the buffers it is lent back to the same buffers (`Keeps`),
   the eight staged inputs unchanged, the output and the scratch at some contents. -/
module

public import proofs.«01_k».proof.Proof.Pures
public import proofs.«01_k».proof.Proof.Gen.Kernel.Skeleton

@[expose] public section

-- the parts of one call name several hundred operations
set_option maxRecDepth 16384

noncomputable section

namespace Cert.Proof.Parts

open Cert.Kernel Cert.Kernel.Gen Cert.Proof.Keeps
open Idealize.ShloMosaic Idealize.ShloMosaic.TcCoe Idealize.SL Idealize.SL.RA Idealize.SL.BI Idealize.SL.Sem
open Idealize.ShloMosaic.Pipeline

variable {F : FTy → Type} [BitOps F]

/-- The buffers the body is handed: its eight inputs to be read, its output and its scratch to be read and written. -/
structure Bufs (c : Dev nD) (R : sProp (MT nD τ sig Unit (Elt F) ℕ (UR sig nD τ) ℕ))
    (arg2 : Memref sig .tc .vmem S1x256x2048 .bf16)
    (arg3 : Memref sig .tc .vmem S1x256x2048 .bf16)
    (arg4 : Memref sig .tc .vmem S1x256x128 .f32)
    (arg5 : Memref sig .tc .vmem S1x256x8192 .bf16)
    (arg6 : Memref sig .tc .vmem S1x256x8192 .bf16)
    (arg7 : Memref sig .tc .vmem S1x8192x256 .bf16)
    (arg8 : Memref sig .tc .vmem S512x512 .bf16)
    (arg9 : Memref sig .tc .vmem S8x256x512 .bf16)
    (arg10 : Memref sig .tc .vmem S1x256x512 .bf16)
    (arg11 : Memref sig .tc .vmem S256x8192 .i32)
    (arg12 : Memref sig .tc .vmem S32x256x256 .i32)
    (arg13 : Memref sig .tc .vmem S256x256 .i32)
    (arg14 : Memref sig .tc .vmem S2048x256 .bf16)
    (arg15 : Memref sig .tc .vmem S2048x256 .bf16)
    (arg16 : Memref sig .tc .vmem S8x256x128 .f32)
    (arg17 : Memref sig .tc .vmem S2048x128 .f32)
    (arg18 : Memref sig .tc .vmem S2048x128 .f32)
    (arg19 : Memref sig .tc .vmem S2048x256 .f32)
    (arg20 : Memref sig .tc .vmem S2048x512 .f32)
    (arg21 : Memref sig .tc .vmem S2048x512 .bf16)
    (arg22 : Memref sig .tc .vmem S256x512 .f32) : Prop where
  h2 : Read c R arg2
  h3 : Read c R arg3
  h4 : Read c R arg4
  h5 : Read c R arg5
  h6 : Read c R arg6
  h7 : Read c R arg7
  h8 : Read c R arg8
  h9 : Read c R arg9
  h10 : Held c R arg10
  h11 : Held c R arg11
  h12 : Held c R arg12
  h13 : Held c R arg13
  h14 : Held c R arg14
  h15 : Held c R arg15
  h16 : Held c R arg16
  h17 : Held c R arg17
  h18 : Held c R arg18
  h19 : Held c R arg19
  h20 : Held c R arg20
  h21 : Held c R arg21
  h22 : Held c R arg22

variable {defs : Defs nD τ sig (Elt F) Λ₀} {c : Dev nD} {R : sProp (MT nD τ sig Unit (Elt F) ℕ (UR sig nD τ) ℕ)} {i : grid0.Coords}
variable {arg2 : Memref sig .tc .vmem S1x256x2048 .bf16} {harg2 : arg2.IsWhole}
variable {arg3 : Memref sig .tc .vmem S1x256x2048 .bf16} {harg3 : arg3.IsWhole}
variable {arg4 : Memref sig .tc .vmem S1x256x128 .f32} {harg4 : arg4.IsWhole}
variable {arg5 : Memref sig .tc .vmem S1x256x8192 .bf16} {harg5 : arg5.IsWhole}
variable {arg6 : Memref sig .tc .vmem S1x256x8192 .bf16} {harg6 : arg6.IsWhole}
variable {arg7 : Memref sig .tc .vmem S1x8192x256 .bf16} {harg7 : arg7.IsWhole}
variable {arg8 : Memref sig .tc .vmem S512x512 .bf16} {harg8 : arg8.IsWhole}
variable {arg9 : Memref sig .tc .vmem S8x256x512 .bf16} {harg9 : arg9.IsWhole}
variable {arg10 : Memref sig .tc .vmem S1x256x512 .bf16} {harg10 : arg10.IsWhole}
variable {arg11 : Memref sig .tc .vmem S256x8192 .i32} {harg11 : arg11.IsWhole}
variable {arg12 : Memref sig .tc .vmem S32x256x256 .i32} {harg12 : arg12.IsWhole}
variable {arg13 : Memref sig .tc .vmem S256x256 .i32} {harg13 : arg13.IsWhole}
variable {arg14 : Memref sig .tc .vmem S2048x256 .bf16} {harg14 : arg14.IsWhole}
variable {arg15 : Memref sig .tc .vmem S2048x256 .bf16} {harg15 : arg15.IsWhole}
variable {arg16 : Memref sig .tc .vmem S8x256x128 .f32} {harg16 : arg16.IsWhole}
variable {arg17 : Memref sig .tc .vmem S2048x128 .f32} {harg17 : arg17.IsWhole}
variable {arg18 : Memref sig .tc .vmem S2048x128 .f32} {harg18 : arg18.IsWhole}
variable {arg19 : Memref sig .tc .vmem S2048x256 .f32} {harg19 : arg19.IsWhole}
variable {arg20 : Memref sig .tc .vmem S2048x512 .f32} {harg20 : arg20.IsWhole}
variable {arg21 : Memref sig .tc .vmem S2048x512 .bf16} {harg21 : arg21.IsWhole}
variable {arg22 : Memref sig .tc .vmem S256x512 .f32} {harg22 : arg22.IsWhole}

theorem keeps_k0_part135  (hB : Bufs c R arg2 arg3 arg4 arg5 arg6 arg7 arg8 arg9 arg10 arg11 arg12 arg13 arg14 arg15 arg16 arg17 arg18 arg19 arg20 arg21 arg22) :
    Keeps defs c R (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [k0_part135_eq_skeleton]; unfold k0_part135_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part136 {v31 : Vec F S1x256x1 .f32} (hB : Bufs c R arg2 arg3 arg4 arg5 arg6 arg7 arg8 arg9 arg10 arg11 arg12 arg13 arg14 arg15 arg16 arg17 arg18 arg19 arg20 arg21 arg22) :
    Keeps defs c R (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v31) := by
  rw [k0_part136_eq_skeleton]; unfold k0_part136_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part137  (hB : Bufs c R arg2 arg3 arg4 arg5 arg6 arg7 arg8 arg9 arg10 arg11 arg12 arg13 arg14 arg15 arg16 arg17 arg18 arg19 arg20 arg21 arg22) :
    Keeps defs c R (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [k0_part137_eq_skeleton]; unfold k0_part137_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part138  (hB : Bufs c R arg2 arg3 arg4 arg5 arg6 arg7 arg8 arg9 arg10 arg11 arg12 arg13 arg14 arg15 arg16 arg17 arg18 arg19 arg20 arg21 arg22) :
    Keeps defs c R (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [k0_part138_eq_skeleton]; unfold k0_part138_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part139 {v116 : Vec F S1x256x1 .f32} (hB : Bufs c R arg2 arg3 arg4 arg5 arg6 arg7 arg8 arg9 arg10 arg11 arg12 arg13 arg14 arg15 arg16 arg17 arg18 arg19 arg20 arg21 arg22) :
    Keeps defs c R (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v116) := by
  rw [k0_part139_eq_skeleton]; unfold k0_part139_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part1 {c0_i32_125 : BitVec 32} {c1_i32_127 : BitVec 32} {k0_t1 : Fin (k0_t1_loop i).trips} (hB : Bufs c R arg2 arg3 arg4 arg5 arg6 arg7 arg8 arg9 arg10 arg11 arg12 arg13 arg14 arg15 arg16 arg17 arg18 arg19 arg20 arg21 arg22) :
    Keeps defs c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_125 c1_i32_127 k0_t1) := by
  rw [k0_part1_eq_skeleton]; unfold k0_part1_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part2 {v2165 : FVec F S2048x512 .f32} {v2190 : FVec F S256x512 .f32} {v2193 : FVec F S256x512 .f32} {v2194 : Vec F S1x256x128 .f32} (hB : Bufs c R arg2 arg3 arg4 arg5 arg6 arg7 arg8 arg9 arg10 arg11 arg12 arg13 arg14 arg15 arg16 arg17 arg18 arg19 arg20 arg21 arg22) :
    Keeps defs c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2165 v2190 v2193 v2194) := by
  rw [k0_part2_eq_skeleton]; unfold k0_part2_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part3 {k0_t1 : Fin (k0_t1_loop i).trips} {v2160 : BitVec 32} {v2236 : IVec S256x512 32} (hB : Bufs c R arg2 arg3 arg4 arg5 arg6 arg7 arg8 arg9 arg10 arg11 arg12 arg13 arg14 arg15 arg16 arg17 arg18 arg19 arg20 arg21 arg22) :
    Keeps defs c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v2160 v2236) := by
  rw [k0_part3_eq_skeleton]; unfold k0_part3_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part19 {k0_t1 : Fin (k0_t1_loop i).trips} {arg23 : BitVec 32} {v2821 : IVec S8x256 32} {v2824 : IVec S8x256 32} {v2830 : IVec S8x256 32} {v2833 : IVec S8x256 32} {v2839 : IVec S8x256 32} {v2842 : IVec S8x256 32} {v2848 : IVec S8x256 32} {v2851 : IVec S8x256 32} {v2857 : IVec S8x256 32} {v2860 : IVec S8x256 32} {v2962 : IVec S8x256 32} {v2963 : IVec S8x256 32} (hB : Bufs c R arg2 arg3 arg4 arg5 arg6 arg7 arg8 arg9 arg10 arg11 arg12 arg13 arg14 arg15 arg16 arg17 arg18 arg19 arg20 arg21 arg22) :
    Keeps defs c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 arg23 v2821 v2824 v2830 v2833 v2839 v2842 v2848 v2851 v2857 v2860 v2962 v2963) := by
  rw [k0_part19_eq_skeleton]; unfold k0_part19_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part20 {k0_t1 : Fin (k0_t1_loop i).trips} {v2866 : IVec S8x256 32} {v2869 : IVec S8x256 32} {v2875 : IVec S8x256 32} {v2878 : IVec S8x256 32} {v2884 : IVec S8x256 32} {v2887 : IVec S8x256 32} {v2893 : IVec S8x256 32} {v2896 : IVec S8x256 32} {v2998 : BitVec 32} {v3006 : IVec S1x8x256 32} (hB : Bufs c R arg2 arg3 arg4 arg5 arg6 arg7 arg8 arg9 arg10 arg11 arg12 arg13 arg14 arg15 arg16 arg17 arg18 arg19 arg20 arg21 arg22) :
    Keeps defs c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v2866 v2869 v2875 v2878 v2884 v2887 v2893 v2896 v2998 v3006) := by
  rw [k0_part20_eq_skeleton]; unfold k0_part20_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part21 {k0_t1 : Fin (k0_t1_loop i).trips} {v2902 : IVec S8x256 32} {v2905 : IVec S8x256 32} {v2911 : IVec S8x256 32} {v2914 : IVec S8x256 32} {v2920 : IVec S8x256 32} {v2923 : IVec S8x256 32} {v2929 : IVec S8x256 32} {v2932 : IVec S8x256 32} {v2938 : IVec S8x256 32} {v2998 : BitVec 32} (hB : Bufs c R arg2 arg3 arg4 arg5 arg6 arg7 arg8 arg9 arg10 arg11 arg12 arg13 arg14 arg15 arg16 arg17 arg18 arg19 arg20 arg21 arg22) :
    Keeps defs c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v2902 v2905 v2911 v2914 v2920 v2923 v2929 v2932 v2938 v2998) := by
  rw [k0_part21_eq_skeleton]; unfold k0_part21_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part22 {k0_t1 : Fin (k0_t1_loop i).trips} {v2941 : IVec S8x256 32} {v2947 : IVec S8x256 32} {v2950 : IVec S8x256 32} {v2956 : IVec S8x256 32} {v2959 : IVec S8x256 32} {v2965 : IVec S8x256 32} {v2968 : IVec S8x256 32} {v2974 : IVec S8x256 32} {v2998 : BitVec 32} (hB : Bufs c R arg2 arg3 arg4 arg5 arg6 arg7 arg8 arg9 arg10 arg11 arg12 arg13 arg14 arg15 arg16 arg17 arg18 arg19 arg20 arg21 arg22) :
    Keeps defs c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v2941 v2947 v2950 v2956 v2959 v2965 v2968 v2974 v2998) := by
  rw [k0_part22_eq_skeleton]; unfold k0_part22_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part23 {k0_t1 : Fin (k0_t1_loop i).trips} {v2243 : IVec S512x256 32} {v2977 : IVec S8x256 32} {v2983 : IVec S8x256 32} {v2986 : IVec S8x256 32} {v2992 : IVec S8x256 32} {v2995 : IVec S8x256 32} {v2998 : BitVec 32} {v3108 : Vec F S1x8x256 .i32} (hB : Bufs c R arg2 arg3 arg4 arg5 arg6 arg7 arg8 arg9 arg10 arg11 arg12 arg13 arg14 arg15 arg16 arg17 arg18 arg19 arg20 arg21 arg22) :
    Keeps defs c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v2243 v2977 v2983 v2986 v2992 v2995 v2998 v3108) := by
  rw [k0_part23_eq_skeleton]; unfold k0_part23_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part40 {k0_t1 : Fin (k0_t1_loop i).trips} {arg23 : BitVec 32} {v3734 : IVec S8x256 32} {v3740 : IVec S8x256 32} {v3743 : IVec S8x256 32} {v3749 : IVec S8x256 32} {v3752 : IVec S8x256 32} {v3758 : IVec S8x256 32} {v3761 : IVec S8x256 32} {v3767 : IVec S8x256 32} {v3874 : IVec S8x256 32} {c1_i32_1435 : BitVec 32} (hB : Bufs c R arg2 arg3 arg4 arg5 arg6 arg7 arg8 arg9 arg10 arg11 arg12 arg13 arg14 arg15 arg16 arg17 arg18 arg19 arg20 arg21 arg22) :
    Keeps defs c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 arg23 v3734 v3740 v3743 v3749 v3752 v3758 v3761 v3767 v3874 c1_i32_1435) := by
  rw [k0_part40_eq_skeleton]; unfold k0_part40_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part41 {k0_t1 : Fin (k0_t1_loop i).trips} {v3770 : IVec S8x256 32} {v3776 : IVec S8x256 32} {v3779 : IVec S8x256 32} {v3785 : IVec S8x256 32} {v3788 : IVec S8x256 32} {v3794 : IVec S8x256 32} {v3797 : IVec S8x256 32} {v3803 : IVec S8x256 32} {v3806 : IVec S8x256 32} {v3881 : BitVec 32} (hB : Bufs c R arg2 arg3 arg4 arg5 arg6 arg7 arg8 arg9 arg10 arg11 arg12 arg13 arg14 arg15 arg16 arg17 arg18 arg19 arg20 arg21 arg22) :
    Keeps defs c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v3770 v3776 v3779 v3785 v3788 v3794 v3797 v3803 v3806 v3881) := by
  rw [k0_part41_eq_skeleton]; unfold k0_part41_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part42 {k0_t1 : Fin (k0_t1_loop i).trips} {v3812 : IVec S8x256 32} {v3815 : IVec S8x256 32} {v3821 : IVec S8x256 32} {v3824 : IVec S8x256 32} {v3830 : IVec S8x256 32} {v3833 : IVec S8x256 32} {v3839 : IVec S8x256 32} {v3842 : IVec S8x256 32} {v3881 : BitVec 32} (hB : Bufs c R arg2 arg3 arg4 arg5 arg6 arg7 arg8 arg9 arg10 arg11 arg12 arg13 arg14 arg15 arg16 arg17 arg18 arg19 arg20 arg21 arg22) :
    Keeps defs c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v3812 v3815 v3821 v3824 v3830 v3833 v3839 v3842 v3881) := by
  rw [k0_part42_eq_skeleton]; unfold k0_part42_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part43 {c0_i32_125 : BitVec 32} {c1_i32_127 : BitVec 32} {k0_t1 : Fin (k0_t1_loop i).trips} (hB : Bufs c R arg2 arg3 arg4 arg5 arg6 arg7 arg8 arg9 arg10 arg11 arg12 arg13 arg14 arg15 arg16 arg17 arg18 arg19 arg20 arg21 arg22) :
    Keeps defs c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_125 c1_i32_127 k0_t1) := by
  rw [k0_part43_eq_skeleton]; unfold k0_part43_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part1 hB
    | with_reducible exact keeps_k0_part2 hB
    | with_reducible exact keeps_k0_part3 hB
    | with_reducible exact keeps_k0_part19 hB
    | with_reducible exact keeps_k0_part20 hB
    | with_reducible exact keeps_k0_part21 hB
    | with_reducible exact keeps_k0_part22 hB
    | with_reducible exact keeps_k0_part23 hB
    | with_reducible exact keeps_k0_part40 hB
    | with_reducible exact keeps_k0_part41 hB
    | with_reducible exact keeps_k0_part42 hB
    | with_reducible exact keeps_k0_part4
    | with_reducible exact keeps_k0_part5
    | with_reducible exact keeps_k0_part6
    | with_reducible exact keeps_k0_part7
    | with_reducible exact keeps_k0_part8
    | with_reducible exact keeps_k0_part9
    | with_reducible exact keeps_k0_part10
    | with_reducible exact keeps_k0_part11
    | with_reducible exact keeps_k0_part12
    | with_reducible exact keeps_k0_part13
    | with_reducible exact keeps_k0_part14
    | with_reducible exact keeps_k0_part15
    | with_reducible exact keeps_k0_part16
    | with_reducible exact keeps_k0_part17
    | with_reducible exact keeps_k0_part18
    | with_reducible exact keeps_k0_part24
    | with_reducible exact keeps_k0_part25
    | with_reducible exact keeps_k0_part26
    | with_reducible exact keeps_k0_part27
    | with_reducible exact keeps_k0_part28
    | with_reducible exact keeps_k0_part29
    | with_reducible exact keeps_k0_part30
    | with_reducible exact keeps_k0_part31
    | with_reducible exact keeps_k0_part32
    | with_reducible exact keeps_k0_part33
    | with_reducible exact keeps_k0_part34
    | with_reducible exact keeps_k0_part35
    | with_reducible exact keeps_k0_part36
    | with_reducible exact keeps_k0_part37
    | with_reducible exact keeps_k0_part38
    | with_reducible exact keeps_k0_part39
    | with_reducible refine Keeps.bind ?_ fun _ => ?_
    | split

theorem keeps_k0_t1_body {arg0 : BitVec 32} {arg1 : BitVec 32} {v0 : BitVec 32} {v20 : BitVec 32} (hB : Bufs c R arg2 arg3 arg4 arg5 arg6 arg7 arg8 arg9 arg10 arg11 arg12 arg13 arg14 arg15 arg16 arg17 arg18 arg19 arg20 arg21 arg22) {k} {a} :
    Keeps defs c R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 arg1 v0 v20 k a) := by
  unfold k0_t1_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part43 hB
    | with_reducible refine Keeps.bind ?_ fun _ => ?_
    | split

theorem keeps_k0_part44 {v171 : BitVec 32} {c1_i32_128 : BitVec 32} {k0_t2 : Fin (k0_t2_loop i).trips} (hB : Bufs c R arg2 arg3 arg4 arg5 arg6 arg7 arg8 arg9 arg10 arg11 arg12 arg13 arg14 arg15 arg16 arg17 arg18 arg19 arg20 arg21 arg22) :
    Keeps defs c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v171 c1_i32_128 k0_t2) := by
  rw [k0_part44_eq_skeleton]; unfold k0_part44_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part45 {v2165 : FVec F S2048x512 .f32} {v2190 : FVec F S256x512 .f32} {v2193 : FVec F S256x512 .f32} {v2194 : Vec F S1x256x128 .f32} (hB : Bufs c R arg2 arg3 arg4 arg5 arg6 arg7 arg8 arg9 arg10 arg11 arg12 arg13 arg14 arg15 arg16 arg17 arg18 arg19 arg20 arg21 arg22) :
    Keeps defs c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2165 v2190 v2193 v2194) := by
  rw [k0_part45_eq_skeleton]; unfold k0_part45_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part46 {k0_t2 : Fin (k0_t2_loop i).trips} {v2160 : BitVec 32} {v2236 : IVec S256x512 32} (hB : Bufs c R arg2 arg3 arg4 arg5 arg6 arg7 arg8 arg9 arg10 arg11 arg12 arg13 arg14 arg15 arg16 arg17 arg18 arg19 arg20 arg21 arg22) :
    Keeps defs c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v2160 v2236) := by
  rw [k0_part46_eq_skeleton]; unfold k0_part46_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part62 {k0_t2 : Fin (k0_t2_loop i).trips} {arg23 : BitVec 32} {v2821 : IVec S8x256 32} {v2824 : IVec S8x256 32} {v2830 : IVec S8x256 32} {v2833 : IVec S8x256 32} {v2839 : IVec S8x256 32} {v2842 : IVec S8x256 32} {v2848 : IVec S8x256 32} {v2851 : IVec S8x256 32} {v2857 : IVec S8x256 32} {v2860 : IVec S8x256 32} {v2962 : IVec S8x256 32} {v2963 : IVec S8x256 32} (hB : Bufs c R arg2 arg3 arg4 arg5 arg6 arg7 arg8 arg9 arg10 arg11 arg12 arg13 arg14 arg15 arg16 arg17 arg18 arg19 arg20 arg21 arg22) :
    Keeps defs c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 arg23 v2821 v2824 v2830 v2833 v2839 v2842 v2848 v2851 v2857 v2860 v2962 v2963) := by
  rw [k0_part62_eq_skeleton]; unfold k0_part62_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part63 {k0_t2 : Fin (k0_t2_loop i).trips} {v2866 : IVec S8x256 32} {v2869 : IVec S8x256 32} {v2875 : IVec S8x256 32} {v2878 : IVec S8x256 32} {v2884 : IVec S8x256 32} {v2887 : IVec S8x256 32} {v2893 : IVec S8x256 32} {v2896 : IVec S8x256 32} {v2998 : BitVec 32} {v3006 : IVec S1x8x256 32} (hB : Bufs c R arg2 arg3 arg4 arg5 arg6 arg7 arg8 arg9 arg10 arg11 arg12 arg13 arg14 arg15 arg16 arg17 arg18 arg19 arg20 arg21 arg22) :
    Keeps defs c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v2866 v2869 v2875 v2878 v2884 v2887 v2893 v2896 v2998 v3006) := by
  rw [k0_part63_eq_skeleton]; unfold k0_part63_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part64 {k0_t2 : Fin (k0_t2_loop i).trips} {v2902 : IVec S8x256 32} {v2905 : IVec S8x256 32} {v2911 : IVec S8x256 32} {v2914 : IVec S8x256 32} {v2920 : IVec S8x256 32} {v2923 : IVec S8x256 32} {v2929 : IVec S8x256 32} {v2932 : IVec S8x256 32} {v2938 : IVec S8x256 32} {v2998 : BitVec 32} (hB : Bufs c R arg2 arg3 arg4 arg5 arg6 arg7 arg8 arg9 arg10 arg11 arg12 arg13 arg14 arg15 arg16 arg17 arg18 arg19 arg20 arg21 arg22) :
    Keeps defs c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v2902 v2905 v2911 v2914 v2920 v2923 v2929 v2932 v2938 v2998) := by
  rw [k0_part64_eq_skeleton]; unfold k0_part64_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part65 {k0_t2 : Fin (k0_t2_loop i).trips} {v2941 : IVec S8x256 32} {v2947 : IVec S8x256 32} {v2950 : IVec S8x256 32} {v2956 : IVec S8x256 32} {v2959 : IVec S8x256 32} {v2965 : IVec S8x256 32} {v2968 : IVec S8x256 32} {v2974 : IVec S8x256 32} {v2998 : BitVec 32} (hB : Bufs c R arg2 arg3 arg4 arg5 arg6 arg7 arg8 arg9 arg10 arg11 arg12 arg13 arg14 arg15 arg16 arg17 arg18 arg19 arg20 arg21 arg22) :
    Keeps defs c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v2941 v2947 v2950 v2956 v2959 v2965 v2968 v2974 v2998) := by
  rw [k0_part65_eq_skeleton]; unfold k0_part65_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part66 {k0_t2 : Fin (k0_t2_loop i).trips} {v2243 : IVec S512x256 32} {v2977 : IVec S8x256 32} {v2983 : IVec S8x256 32} {v2986 : IVec S8x256 32} {v2992 : IVec S8x256 32} {v2995 : IVec S8x256 32} {v2998 : BitVec 32} {v3108 : Vec F S1x8x256 .i32} (hB : Bufs c R arg2 arg3 arg4 arg5 arg6 arg7 arg8 arg9 arg10 arg11 arg12 arg13 arg14 arg15 arg16 arg17 arg18 arg19 arg20 arg21 arg22) :
    Keeps defs c R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v2243 v2977 v2983 v2986 v2992 v2995 v2998 v3108) := by
  rw [k0_part66_eq_skeleton]; unfold k0_part66_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part83 {k0_t2 : Fin (k0_t2_loop i).trips} {arg23 : BitVec 32} {v3734 : IVec S8x256 32} {v3740 : IVec S8x256 32} {v3743 : IVec S8x256 32} {v3749 : IVec S8x256 32} {v3752 : IVec S8x256 32} {v3758 : IVec S8x256 32} {v3761 : IVec S8x256 32} {v3767 : IVec S8x256 32} {v3874 : IVec S8x256 32} {c1_i32_1435 : BitVec 32} (hB : Bufs c R arg2 arg3 arg4 arg5 arg6 arg7 arg8 arg9 arg10 arg11 arg12 arg13 arg14 arg15 arg16 arg17 arg18 arg19 arg20 arg21 arg22) :
    Keeps defs c R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 arg23 v3734 v3740 v3743 v3749 v3752 v3758 v3761 v3767 v3874 c1_i32_1435) := by
  rw [k0_part83_eq_skeleton]; unfold k0_part83_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part84 {k0_t2 : Fin (k0_t2_loop i).trips} {v3770 : IVec S8x256 32} {v3776 : IVec S8x256 32} {v3779 : IVec S8x256 32} {v3785 : IVec S8x256 32} {v3788 : IVec S8x256 32} {v3794 : IVec S8x256 32} {v3797 : IVec S8x256 32} {v3803 : IVec S8x256 32} {v3806 : IVec S8x256 32} {v3881 : BitVec 32} (hB : Bufs c R arg2 arg3 arg4 arg5 arg6 arg7 arg8 arg9 arg10 arg11 arg12 arg13 arg14 arg15 arg16 arg17 arg18 arg19 arg20 arg21 arg22) :
    Keeps defs c R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v3770 v3776 v3779 v3785 v3788 v3794 v3797 v3803 v3806 v3881) := by
  rw [k0_part84_eq_skeleton]; unfold k0_part84_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part85 {k0_t2 : Fin (k0_t2_loop i).trips} {v3812 : IVec S8x256 32} {v3815 : IVec S8x256 32} {v3821 : IVec S8x256 32} {v3824 : IVec S8x256 32} {v3830 : IVec S8x256 32} {v3833 : IVec S8x256 32} {v3839 : IVec S8x256 32} {v3842 : IVec S8x256 32} {v3881 : BitVec 32} (hB : Bufs c R arg2 arg3 arg4 arg5 arg6 arg7 arg8 arg9 arg10 arg11 arg12 arg13 arg14 arg15 arg16 arg17 arg18 arg19 arg20 arg21 arg22) :
    Keeps defs c R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v3812 v3815 v3821 v3824 v3830 v3833 v3839 v3842 v3881) := by
  rw [k0_part85_eq_skeleton]; unfold k0_part85_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part86 {v171 : BitVec 32} {c1_i32_128 : BitVec 32} {k0_t2 : Fin (k0_t2_loop i).trips} (hB : Bufs c R arg2 arg3 arg4 arg5 arg6 arg7 arg8 arg9 arg10 arg11 arg12 arg13 arg14 arg15 arg16 arg17 arg18 arg19 arg20 arg21 arg22) :
    Keeps defs c R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v171 c1_i32_128 k0_t2) := by
  rw [k0_part86_eq_skeleton]; unfold k0_part86_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part44 hB
    | with_reducible exact keeps_k0_part45 hB
    | with_reducible exact keeps_k0_part46 hB
    | with_reducible exact keeps_k0_part62 hB
    | with_reducible exact keeps_k0_part63 hB
    | with_reducible exact keeps_k0_part64 hB
    | with_reducible exact keeps_k0_part65 hB
    | with_reducible exact keeps_k0_part66 hB
    | with_reducible exact keeps_k0_part83 hB
    | with_reducible exact keeps_k0_part84 hB
    | with_reducible exact keeps_k0_part85 hB
    | with_reducible exact keeps_k0_part47
    | with_reducible exact keeps_k0_part48
    | with_reducible exact keeps_k0_part49
    | with_reducible exact keeps_k0_part50
    | with_reducible exact keeps_k0_part51
    | with_reducible exact keeps_k0_part52
    | with_reducible exact keeps_k0_part53
    | with_reducible exact keeps_k0_part54
    | with_reducible exact keeps_k0_part55
    | with_reducible exact keeps_k0_part56
    | with_reducible exact keeps_k0_part57
    | with_reducible exact keeps_k0_part58
    | with_reducible exact keeps_k0_part59
    | with_reducible exact keeps_k0_part60
    | with_reducible exact keeps_k0_part61
    | with_reducible exact keeps_k0_part67
    | with_reducible exact keeps_k0_part68
    | with_reducible exact keeps_k0_part69
    | with_reducible exact keeps_k0_part70
    | with_reducible exact keeps_k0_part71
    | with_reducible exact keeps_k0_part72
    | with_reducible exact keeps_k0_part73
    | with_reducible exact keeps_k0_part74
    | with_reducible exact keeps_k0_part75
    | with_reducible exact keeps_k0_part76
    | with_reducible exact keeps_k0_part77
    | with_reducible exact keeps_k0_part78
    | with_reducible exact keeps_k0_part79
    | with_reducible exact keeps_k0_part80
    | with_reducible exact keeps_k0_part81
    | with_reducible exact keeps_k0_part82
    | with_reducible refine Keeps.bind ?_ fun _ => ?_
    | split

theorem keeps_k0_t2_body {arg0 : BitVec 32} {arg1 : BitVec 32} {v0 : BitVec 32} {v20 : BitVec 32} {v171 : BitVec 32} (hB : Bufs c R arg2 arg3 arg4 arg5 arg6 arg7 arg8 arg9 arg10 arg11 arg12 arg13 arg14 arg15 arg16 arg17 arg18 arg19 arg20 arg21 arg22) {k} {a} :
    Keeps defs c R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 arg1 v0 v20 v171 k a) := by
  unfold k0_t2_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part86 hB
    | with_reducible refine Keeps.bind ?_ fun _ => ?_
    | split

theorem keeps_k0_part140 {arg0 : BitVec 32} {arg1 : BitVec 32} {v0 : BitVec 32} {v20 : BitVec 32} (hB : Bufs c R arg2 arg3 arg4 arg5 arg6 arg7 arg8 arg9 arg10 arg11 arg12 arg13 arg14 arg15 arg16 arg17 arg18 arg19 arg20 arg21 arg22) :
    Keeps defs c R (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg0 arg1 v0 v20) := by
  rw [k0_part140_eq_skeleton]; unfold k0_part140_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_
    | with_reducible refine Keeps.ite ?_ ?_
    | with_reducible refine Keeps.dite (fun _ => ?_) (fun _ => ?_)
    | (with_reducible refine Keeps.loop ?_; intro k a; with_reducible exact keeps_k0_t1_body hB)
    | (with_reducible refine Keeps.loop ?_; intro k a; with_reducible exact keeps_k0_t2_body hB)

theorem keeps_k0_part141 {v175 : Vec F S2048x256 .bf16} (hB : Bufs c R arg2 arg3 arg4 arg5 arg6 arg7 arg8 arg9 arg10 arg11 arg12 arg13 arg14 arg15 arg16 arg17 arg18 arg19 arg20 arg21 arg22) :
    Keeps defs c R (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v175) := by
  rw [k0_part141_eq_skeleton]; unfold k0_part141_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part142 {v159 : IVec S256x512 32} {v160 : IVec S256x512 32} {v174 : BitVec 32} {v179 : FVec F S2048x512 .f32} {v212 : FVec F S256x512 .f32} {v215 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v159 v160 v174 v179 v212 v215) := by
  rw [k0_part142_eq_skeleton]; unfold k0_part142_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part143 {v255 : IVec S256x512 32} (hB : Bufs c R arg2 arg3 arg4 arg5 arg6 arg7 arg8 arg9 arg10 arg11 arg12 arg13 arg14 arg15 arg16 arg17 arg18 arg19 arg20 arg21 arg22) :
    Keeps defs c R (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v255) := by
  rw [k0_part143_eq_skeleton]; unfold k0_part143_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part159 {v172 : BitVec 32} {v843 : IVec S8x256 32} {v849 : IVec S8x256 32} {v852 : IVec S8x256 32} {v858 : IVec S8x256 32} {v861 : IVec S8x256 32} {v867 : IVec S8x256 32} {v870 : IVec S8x256 32} {v876 : IVec S8x256 32} {v879 : IVec S8x256 32} {v983 : IVec S8x256 32} {v985 : IVec S8x256 32} (hB : Bufs c R arg2 arg3 arg4 arg5 arg6 arg7 arg8 arg9 arg10 arg11 arg12 arg13 arg14 arg15 arg16 arg17 arg18 arg19 arg20 arg21 arg22) :
    Keeps defs c R (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v172 v843 v849 v852 v858 v861 v867 v870 v876 v879 v983 v985) := by
  rw [k0_part159_eq_skeleton]; unfold k0_part159_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part160 {v885 : IVec S8x256 32} {v888 : IVec S8x256 32} {v894 : IVec S8x256 32} {v897 : IVec S8x256 32} {v903 : IVec S8x256 32} {v906 : IVec S8x256 32} {v912 : IVec S8x256 32} {v915 : IVec S8x256 32} {v921 : IVec S8x256 32} {v1017 : BitVec 32} (hB : Bufs c R arg2 arg3 arg4 arg5 arg6 arg7 arg8 arg9 arg10 arg11 arg12 arg13 arg14 arg15 arg16 arg17 arg18 arg19 arg20 arg21 arg22) :
    Keeps defs c R (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v885 v888 v894 v897 v903 v906 v912 v915 v921 v1017) := by
  rw [k0_part160_eq_skeleton]; unfold k0_part160_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part161 {v924 : IVec S8x256 32} {v930 : IVec S8x256 32} {v933 : IVec S8x256 32} {v939 : IVec S8x256 32} {v942 : IVec S8x256 32} {v948 : IVec S8x256 32} {v951 : IVec S8x256 32} {v957 : IVec S8x256 32} {v1017 : BitVec 32} (hB : Bufs c R arg2 arg3 arg4 arg5 arg6 arg7 arg8 arg9 arg10 arg11 arg12 arg13 arg14 arg15 arg16 arg17 arg18 arg19 arg20 arg21 arg22) :
    Keeps defs c R (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v924 v930 v933 v939 v942 v948 v951 v957 v1017) := by
  rw [k0_part161_eq_skeleton]; unfold k0_part161_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part162 {v960 : IVec S8x256 32} {v966 : IVec S8x256 32} {v969 : IVec S8x256 32} {v975 : IVec S8x256 32} {v978 : IVec S8x256 32} {v984 : IVec S8x256 32} {v987 : IVec S8x256 32} {v993 : IVec S8x256 32} {v996 : IVec S8x256 32} {v1017 : BitVec 32} {v1095 : Vec F S1x8x256 .i32} (hB : Bufs c R arg2 arg3 arg4 arg5 arg6 arg7 arg8 arg9 arg10 arg11 arg12 arg13 arg14 arg15 arg16 arg17 arg18 arg19 arg20 arg21 arg22) :
    Keeps defs c R (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v960 v966 v969 v975 v978 v984 v987 v993 v996 v1017 v1095) := by
  rw [k0_part162_eq_skeleton]; unfold k0_part162_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part163 {v262 : IVec S512x256 32} {v1002 : IVec S8x256 32} {v1005 : IVec S8x256 32} {v1011 : IVec S8x256 32} {v1014 : IVec S8x256 32} {v1017 : BitVec 32} (hB : Bufs c R arg2 arg3 arg4 arg5 arg6 arg7 arg8 arg9 arg10 arg11 arg12 arg13 arg14 arg15 arg16 arg17 arg18 arg19 arg20 arg21 arg22) :
    Keeps defs c R (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v262 v1002 v1005 v1011 v1014 v1017) := by
  rw [k0_part163_eq_skeleton]; unfold k0_part163_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part180 {v172 : BitVec 32} {v1759 : IVec S8x256 32} {v1762 : IVec S8x256 32} {v1768 : IVec S8x256 32} {v1771 : IVec S8x256 32} {v1777 : IVec S8x256 32} {v1780 : IVec S8x256 32} {v1786 : IVec S8x256 32} {v1789 : IVec S8x256 32} {c16_i32_685 : BitVec 32} (hB : Bufs c R arg2 arg3 arg4 arg5 arg6 arg7 arg8 arg9 arg10 arg11 arg12 arg13 arg14 arg15 arg16 arg17 arg18 arg19 arg20 arg21 arg22) :
    Keeps defs c R (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v172 v1759 v1762 v1768 v1771 v1777 v1780 v1786 v1789 c16_i32_685) := by
  rw [k0_part180_eq_skeleton]; unfold k0_part180_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part181 {v1795 : IVec S8x256 32} {v1798 : IVec S8x256 32} {v1804 : IVec S8x256 32} {v1807 : IVec S8x256 32} {v1813 : IVec S8x256 32} {v1816 : IVec S8x256 32} {v1822 : IVec S8x256 32} {v1825 : IVec S8x256 32} {v1900 : BitVec 32} (hB : Bufs c R arg2 arg3 arg4 arg5 arg6 arg7 arg8 arg9 arg10 arg11 arg12 arg13 arg14 arg15 arg16 arg17 arg18 arg19 arg20 arg21 arg22) :
    Keeps defs c R (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1795 v1798 v1804 v1807 v1813 v1816 v1822 v1825 v1900) := by
  rw [k0_part181_eq_skeleton]; unfold k0_part181_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part182 {v1831 : IVec S8x256 32} {v1834 : IVec S8x256 32} {v1840 : IVec S8x256 32} {v1843 : IVec S8x256 32} {v1849 : IVec S8x256 32} {v1852 : IVec S8x256 32} {v1858 : IVec S8x256 32} {v1861 : IVec S8x256 32} {v1867 : IVec S8x256 32} {v1900 : BitVec 32} {v1966 : Vec F S1x8x256 .i32} (hB : Bufs c R arg2 arg3 arg4 arg5 arg6 arg7 arg8 arg9 arg10 arg11 arg12 arg13 arg14 arg15 arg16 arg17 arg18 arg19 arg20 arg21 arg22) :
    Keeps defs c R (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1831 v1834 v1840 v1843 v1849 v1852 v1858 v1861 v1867 v1900 v1966) := by
  rw [k0_part182_eq_skeleton]; unfold k0_part182_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part183 {v20 : BitVec 32} {v1870 : IVec S8x256 32} {v1876 : IVec S8x256 32} {v1879 : IVec S8x256 32} {v1885 : IVec S8x256 32} {v1888 : IVec S8x256 32} {v1894 : IVec S8x256 32} {v1897 : IVec S8x256 32} {v1900 : BitVec 32} (hB : Bufs c R arg2 arg3 arg4 arg5 arg6 arg7 arg8 arg9 arg10 arg11 arg12 arg13 arg14 arg15 arg16 arg17 arg18 arg19 arg20 arg21 arg22) :
    Keeps defs c R (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v1870 v1876 v1879 v1885 v1888 v1894 v1897 v1900) := by
  rw [k0_part183_eq_skeleton]; unfold k0_part183_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_t3_body {v2035 : IVec S256x256 32} (hB : Bufs c R arg2 arg3 arg4 arg5 arg6 arg7 arg8 arg9 arg10 arg11 arg12 arg13 arg14 arg15 arg16 arg17 arg18 arg19 arg20 arg21 arg22) {k} {a} :
    Keeps defs c R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2035 k a) := by
  unfold k0_t3_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part184 {v2035 : IVec S256x256 32} (hB : Bufs c R arg2 arg3 arg4 arg5 arg6 arg7 arg8 arg9 arg10 arg11 arg12 arg13 arg14 arg15 arg16 arg17 arg18 arg19 arg20 arg21 arg22) :
    Keeps defs c R (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2035) := by
  rw [k0_part184_eq_skeleton]; unfold k0_part184_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_
    | split
    | (with_reducible refine Keeps.loop ?_; intro k a; with_reducible exact keeps_k0_t3_body hB)

theorem keeps_k0_part87 {v2159 : IVec S256x512 32} {v2166 : FVec F S256x1 .f32} {c0_i32_849 : BitVec 32} {c1_i32_851 : BitVec 32} {k0_t4 : Fin (k0_t4_loop i).trips} {arg24 : FVec F S256x1 .f32} (hB : Bufs c R arg2 arg3 arg4 arg5 arg6 arg7 arg8 arg9 arg10 arg11 arg12 arg13 arg14 arg15 arg16 arg17 arg18 arg19 arg20 arg21 arg22) :
    Keeps defs c R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2159 v2166 c0_i32_849 c1_i32_851 k0_t4 arg24) := by
  rw [k0_part87_eq_skeleton]; unfold k0_part87_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part88 {v2211 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2211) := by
  rw [k0_part88_eq_skeleton]; unfold k0_part88_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part89 {k0_t4 : Fin (k0_t4_loop i).trips} {v2176 : BitVec 32} {v2245 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2245) := by
  rw [k0_part89_eq_skeleton]; unfold k0_part89_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part90 {k0_t4 : Fin (k0_t4_loop i).trips} {v2176 : BitVec 32} {v2275 : FVec F S256x128 .f32} {v2279 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2275 v2279) := by
  rw [k0_part90_eq_skeleton]; unfold k0_part90_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part91 {v2311 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2311) := by
  rw [k0_part91_eq_skeleton]; unfold k0_part91_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part92 {k0_t4 : Fin (k0_t4_loop i).trips} {v2176 : BitVec 32} {v2345 : FVec F S256x256 .f32} {v2346 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2345 v2346) := by
  rw [k0_part92_eq_skeleton]; unfold k0_part92_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part93 {k0_t4 : Fin (k0_t4_loop i).trips} {v2176 : BitVec 32} {v2375 : FVec F S256x128 .f32} {v2379 : FVec F S256x512 .f32} {v2380 : FVec F S256x512 .bf16} (hB : Bufs c R arg2 arg3 arg4 arg5 arg6 arg7 arg8 arg9 arg10 arg11 arg12 arg13 arg14 arg15 arg16 arg17 arg18 arg19 arg20 arg21 arg22) :
    Keeps defs c R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2375 v2379 v2380) := by
  rw [k0_part93_eq_skeleton]; unfold k0_part93_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part94 {v2176 : BitVec 32} {v2411 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2176 v2411) := by
  rw [k0_part94_eq_skeleton]; unfold k0_part94_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part95 {k0_t4 : Fin (k0_t4_loop i).trips} {v2176 : BitVec 32} {v2445 : FVec F S256x256 .f32} {v2446 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2445 v2446) := by
  rw [k0_part95_eq_skeleton]; unfold k0_part95_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part96 {k0_t4 : Fin (k0_t4_loop i).trips} {v2176 : BitVec 32} {v2475 : FVec F S256x128 .f32} {v2479 : FVec F S256x512 .f32} {v2480 : FVec F S256x512 .bf16} {v2481 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2475 v2479 v2480 v2481) := by
  rw [k0_part96_eq_skeleton]; unfold k0_part96_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part97 {k0_t4 : Fin (k0_t4_loop i).trips} {v2176 : BitVec 32} (hB : Bufs c R arg2 arg3 arg4 arg5 arg6 arg7 arg8 arg9 arg10 arg11 arg12 arg13 arg14 arg15 arg16 arg17 arg18 arg19 arg20 arg21 arg22) :
    Keeps defs c R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176) := by
  rw [k0_part97_eq_skeleton]; unfold k0_part97_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part98 {k0_t4 : Fin (k0_t4_loop i).trips} {v2176 : BitVec 32} {v2545 : FVec F S256x256 .f32} {v2546 : Vec F S256x512 .bf16} {v2549 : FVec F S512x256 .bf16} (hB : Bufs c R arg2 arg3 arg4 arg5 arg6 arg7 arg8 arg9 arg10 arg11 arg12 arg13 arg14 arg15 arg16 arg17 arg18 arg19 arg20 arg21 arg22) :
    Keeps defs c R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t4 v2176 v2545 v2546 v2549) := by
  rw [k0_part98_eq_skeleton]; unfold k0_part98_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_t4_body {v20 : BitVec 32} {v2041_1 : IVec S1x256 32} {v2059 : IVec S256x128 32} {v2064 : BitVec 1} {v2072 : FVec F S2048x128 .f32} (hB : Bufs c R arg2 arg3 arg4 arg5 arg6 arg7 arg8 arg9 arg10 arg11 arg12 arg13 arg14 arg15 arg16 arg17 arg18 arg19 arg20 arg21 arg22) {k} {a} :
    Keeps defs c R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v2041_1 v2059 v2064 v2072 k a) := by
  unfold k0_t4_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part87 hB
    | with_reducible exact keeps_k0_part88 hB
    | with_reducible exact keeps_k0_part89 hB
    | with_reducible exact keeps_k0_part90 hB
    | with_reducible exact keeps_k0_part91 hB
    | with_reducible exact keeps_k0_part92 hB
    | with_reducible exact keeps_k0_part93 hB
    | with_reducible exact keeps_k0_part94 hB
    | with_reducible exact keeps_k0_part95 hB
    | with_reducible exact keeps_k0_part96 hB
    | with_reducible exact keeps_k0_part97 hB
    | with_reducible exact keeps_k0_part98 hB
    | with_reducible refine Keeps.bind ?_ fun _ => ?_
    | split

theorem keeps_k0_part99 {v2159 : IVec S256x512 32} {v2166 : FVec F S256x1 .f32} {v2172 : BitVec 32} {c1_i32_852 : BitVec 32} {k0_t5 : Fin (k0_t5_loop i).trips} {arg24 : FVec F S256x1 .f32} (hB : Bufs c R arg2 arg3 arg4 arg5 arg6 arg7 arg8 arg9 arg10 arg11 arg12 arg13 arg14 arg15 arg16 arg17 arg18 arg19 arg20 arg21 arg22) :
    Keeps defs c R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2159 v2166 v2172 c1_i32_852 k0_t5 arg24) := by
  rw [k0_part99_eq_skeleton]; unfold k0_part99_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part100 {v2211 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2211) := by
  rw [k0_part100_eq_skeleton]; unfold k0_part100_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part101 {k0_t5 : Fin (k0_t5_loop i).trips} {v2176 : BitVec 32} {v2245 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2245) := by
  rw [k0_part101_eq_skeleton]; unfold k0_part101_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part102 {k0_t5 : Fin (k0_t5_loop i).trips} {v2176 : BitVec 32} {v2275 : FVec F S256x128 .f32} {v2279 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2275 v2279) := by
  rw [k0_part102_eq_skeleton]; unfold k0_part102_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part103 {v2311 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2311) := by
  rw [k0_part103_eq_skeleton]; unfold k0_part103_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part104 {k0_t5 : Fin (k0_t5_loop i).trips} {v2176 : BitVec 32} {v2345 : FVec F S256x256 .f32} {v2346 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2345 v2346) := by
  rw [k0_part104_eq_skeleton]; unfold k0_part104_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part105 {k0_t5 : Fin (k0_t5_loop i).trips} {v2176 : BitVec 32} {v2375 : FVec F S256x128 .f32} {v2379 : FVec F S256x512 .f32} {v2380 : FVec F S256x512 .bf16} (hB : Bufs c R arg2 arg3 arg4 arg5 arg6 arg7 arg8 arg9 arg10 arg11 arg12 arg13 arg14 arg15 arg16 arg17 arg18 arg19 arg20 arg21 arg22) :
    Keeps defs c R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2375 v2379 v2380) := by
  rw [k0_part105_eq_skeleton]; unfold k0_part105_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part106 {v2176 : BitVec 32} {v2411 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2176 v2411) := by
  rw [k0_part106_eq_skeleton]; unfold k0_part106_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part107 {k0_t5 : Fin (k0_t5_loop i).trips} {v2176 : BitVec 32} {v2445 : FVec F S256x256 .f32} {v2446 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2445 v2446) := by
  rw [k0_part107_eq_skeleton]; unfold k0_part107_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part108 {k0_t5 : Fin (k0_t5_loop i).trips} {v2176 : BitVec 32} {v2475 : FVec F S256x128 .f32} {v2479 : FVec F S256x512 .f32} {v2480 : FVec F S256x512 .bf16} {v2481 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2475 v2479 v2480 v2481) := by
  rw [k0_part108_eq_skeleton]; unfold k0_part108_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part109 {k0_t5 : Fin (k0_t5_loop i).trips} {v2176 : BitVec 32} (hB : Bufs c R arg2 arg3 arg4 arg5 arg6 arg7 arg8 arg9 arg10 arg11 arg12 arg13 arg14 arg15 arg16 arg17 arg18 arg19 arg20 arg21 arg22) :
    Keeps defs c R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176) := by
  rw [k0_part109_eq_skeleton]; unfold k0_part109_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part110 {k0_t5 : Fin (k0_t5_loop i).trips} {v2176 : BitVec 32} {v2545 : FVec F S256x256 .f32} {v2546 : Vec F S256x512 .bf16} {v2549 : FVec F S512x256 .bf16} (hB : Bufs c R arg2 arg3 arg4 arg5 arg6 arg7 arg8 arg9 arg10 arg11 arg12 arg13 arg14 arg15 arg16 arg17 arg18 arg19 arg20 arg21 arg22) :
    Keeps defs c R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t5 v2176 v2545 v2546 v2549) := by
  rw [k0_part110_eq_skeleton]; unfold k0_part110_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_t5_body {v20 : BitVec 32} {v2041_1 : IVec S1x256 32} {v2059 : IVec S256x128 32} {v2064 : BitVec 1} {v2072 : FVec F S2048x128 .f32} {v2172 : BitVec 32} (hB : Bufs c R arg2 arg3 arg4 arg5 arg6 arg7 arg8 arg9 arg10 arg11 arg12 arg13 arg14 arg15 arg16 arg17 arg18 arg19 arg20 arg21 arg22) {k} {a} :
    Keeps defs c R (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v2041_1 v2059 v2064 v2072 v2172 k a) := by
  unfold k0_t5_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part99 hB
    | with_reducible exact keeps_k0_part100 hB
    | with_reducible exact keeps_k0_part101 hB
    | with_reducible exact keeps_k0_part102 hB
    | with_reducible exact keeps_k0_part103 hB
    | with_reducible exact keeps_k0_part104 hB
    | with_reducible exact keeps_k0_part105 hB
    | with_reducible exact keeps_k0_part106 hB
    | with_reducible exact keeps_k0_part107 hB
    | with_reducible exact keeps_k0_part108 hB
    | with_reducible exact keeps_k0_part109 hB
    | with_reducible exact keeps_k0_part110 hB
    | with_reducible refine Keeps.bind ?_ fun _ => ?_
    | split

theorem keeps_k0_part111 {v2159 : IVec S256x512 32} {c0_i32_848 : BitVec 32} {c1_i32_850 : BitVec 32} {k0_t6 : Fin (k0_t6_loop i).trips} (hB : Bufs c R arg2 arg3 arg4 arg5 arg6 arg7 arg8 arg9 arg10 arg11 arg12 arg13 arg14 arg15 arg16 arg17 arg18 arg19 arg20 arg21 arg22) :
    Keeps defs c R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2159 c0_i32_848 c1_i32_850 k0_t6) := by
  rw [k0_part111_eq_skeleton]; unfold k0_part111_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part112 {k0_t6 : Fin (k0_t6_loop i).trips} {v2167 : BitVec 32} {v2192 : FVec F S256x128 .f32} {v2197 : FVec F S256x128 .f32} (hB : Bufs c R arg2 arg3 arg4 arg5 arg6 arg7 arg8 arg9 arg10 arg11 arg12 arg13 arg14 arg15 arg16 arg17 arg18 arg19 arg20 arg21 arg22) :
    Keeps defs c R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2192 v2197) := by
  rw [k0_part112_eq_skeleton]; unfold k0_part112_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part113 {v2231 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2231) := by
  rw [k0_part113_eq_skeleton]; unfold k0_part113_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part114 {k0_t6 : Fin (k0_t6_loop i).trips} {v2167 : BitVec 32} {v2267 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2267) := by
  rw [k0_part114_eq_skeleton]; unfold k0_part114_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part115 {k0_t6 : Fin (k0_t6_loop i).trips} {v2167 : BitVec 32} {v2297 : FVec F S256x128 .f32} {v2298 : Vec F S256x512 .f32} {v2299 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2297 v2298 v2299) := by
  rw [k0_part115_eq_skeleton]; unfold k0_part115_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part116 {v2333 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2333) := by
  rw [k0_part116_eq_skeleton]; unfold k0_part116_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part117 {k0_t6 : Fin (k0_t6_loop i).trips} {v2167 : BitVec 32} {v2367 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2367) := by
  rw [k0_part117_eq_skeleton]; unfold k0_part117_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part118 {k0_t6 : Fin (k0_t6_loop i).trips} {v2167 : BitVec 32} {v2397 : FVec F S256x128 .f32} {v2401 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2397 v2401) := by
  rw [k0_part118_eq_skeleton]; unfold k0_part118_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part119 {v2433 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2433) := by
  rw [k0_part119_eq_skeleton]; unfold k0_part119_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part120 {k0_t6 : Fin (k0_t6_loop i).trips} {v2167 : BitVec 32} {v2467 : FVec F S256x256 .f32} {v2468 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2467 v2468) := by
  rw [k0_part120_eq_skeleton]; unfold k0_part120_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part121 {k0_t6 : Fin (k0_t6_loop i).trips} {v2167 : BitVec 32} {v2497 : FVec F S256x128 .f32} {v2501 : FVec F S256x512 .f32} {v2502 : FVec F S256x512 .bf16} (hB : Bufs c R arg2 arg3 arg4 arg5 arg6 arg7 arg8 arg9 arg10 arg11 arg12 arg13 arg14 arg15 arg16 arg17 arg18 arg19 arg20 arg21 arg22) :
    Keeps defs c R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t6 v2167 v2497 v2501 v2502) := by
  rw [k0_part121_eq_skeleton]; unfold k0_part121_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part122 {v2167 : BitVec 32} {v2533 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2167 v2533) := by
  rw [k0_part122_eq_skeleton]; unfold k0_part122_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_t6_body {v20 : BitVec 32} {v2041_1 : IVec S1x256 32} {v2059 : IVec S256x128 32} {v2064 : BitVec 1} {v2072 : FVec F S2048x128 .f32} (hB : Bufs c R arg2 arg3 arg4 arg5 arg6 arg7 arg8 arg9 arg10 arg11 arg12 arg13 arg14 arg15 arg16 arg17 arg18 arg19 arg20 arg21 arg22) {k} {a} :
    Keeps defs c R (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v2041_1 v2059 v2064 v2072 k a) := by
  unfold k0_t6_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part111 hB
    | with_reducible exact keeps_k0_part112 hB
    | with_reducible exact keeps_k0_part113 hB
    | with_reducible exact keeps_k0_part114 hB
    | with_reducible exact keeps_k0_part115 hB
    | with_reducible exact keeps_k0_part116 hB
    | with_reducible exact keeps_k0_part117 hB
    | with_reducible exact keeps_k0_part118 hB
    | with_reducible exact keeps_k0_part119 hB
    | with_reducible exact keeps_k0_part120 hB
    | with_reducible exact keeps_k0_part121 hB
    | with_reducible exact keeps_k0_part122 hB
    | with_reducible refine Keeps.bind ?_ fun _ => ?_
    | split

theorem keeps_k0_part123 {v2159 : IVec S256x512 32} {v2165 : BitVec 32} {c1_i32_851 : BitVec 32} {k0_t7 : Fin (k0_t7_loop i).trips} (hB : Bufs c R arg2 arg3 arg4 arg5 arg6 arg7 arg8 arg9 arg10 arg11 arg12 arg13 arg14 arg15 arg16 arg17 arg18 arg19 arg20 arg21 arg22) :
    Keeps defs c R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2159 v2165 c1_i32_851 k0_t7) := by
  rw [k0_part123_eq_skeleton]; unfold k0_part123_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part124 {k0_t7 : Fin (k0_t7_loop i).trips} {v2167 : BitVec 32} {v2192 : FVec F S256x128 .f32} {v2197 : FVec F S256x128 .f32} (hB : Bufs c R arg2 arg3 arg4 arg5 arg6 arg7 arg8 arg9 arg10 arg11 arg12 arg13 arg14 arg15 arg16 arg17 arg18 arg19 arg20 arg21 arg22) :
    Keeps defs c R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2192 v2197) := by
  rw [k0_part124_eq_skeleton]; unfold k0_part124_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part125 {v2231 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2231) := by
  rw [k0_part125_eq_skeleton]; unfold k0_part125_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part126 {k0_t7 : Fin (k0_t7_loop i).trips} {v2167 : BitVec 32} {v2267 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2267) := by
  rw [k0_part126_eq_skeleton]; unfold k0_part126_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part127 {k0_t7 : Fin (k0_t7_loop i).trips} {v2167 : BitVec 32} {v2297 : FVec F S256x128 .f32} {v2298 : Vec F S256x512 .f32} {v2299 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2297 v2298 v2299) := by
  rw [k0_part127_eq_skeleton]; unfold k0_part127_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part128 {v2333 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2333) := by
  rw [k0_part128_eq_skeleton]; unfold k0_part128_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part129 {k0_t7 : Fin (k0_t7_loop i).trips} {v2167 : BitVec 32} {v2367 : FVec F S256x256 .f32} (hB : Bufs c R arg2 arg3 arg4 arg5 arg6 arg7 arg8 arg9 arg10 arg11 arg12 arg13 arg14 arg15 arg16 arg17 arg18 arg19 arg20 arg21 arg22) :
    Keeps defs c R (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2367) := by
  rw [k0_part129_eq_skeleton]; unfold k0_part129_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part130 {k0_t7 : Fin (k0_t7_loop i).trips} {v2167 : BitVec 32} {v2397 : FVec F S256x128 .f32} {v2401 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2397 v2401) := by
  rw [k0_part130_eq_skeleton]; unfold k0_part130_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part131 {v2433 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2433) := by
  rw [k0_part131_eq_skeleton]; unfold k0_part131_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part132 {k0_t7 : Fin (k0_t7_loop i).trips} {v2167 : BitVec 32} {v2467 : FVec F S256x256 .f32} {v2468 : Vec F S256x512 .bf16} (hB : Bufs c R arg2 arg3 arg4 arg5 arg6 arg7 arg8 arg9 arg10 arg11 arg12 arg13 arg14 arg15 arg16 arg17 arg18 arg19 arg20 arg21 arg22) :
    Keeps defs c R (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2467 v2468) := by
  rw [k0_part132_eq_skeleton]; unfold k0_part132_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part133 {k0_t7 : Fin (k0_t7_loop i).trips} {v2167 : BitVec 32} {v2497 : FVec F S256x128 .f32} {v2501 : FVec F S256x512 .f32} {v2502 : FVec F S256x512 .bf16} (hB : Bufs c R arg2 arg3 arg4 arg5 arg6 arg7 arg8 arg9 arg10 arg11 arg12 arg13 arg14 arg15 arg16 arg17 arg18 arg19 arg20 arg21 arg22) :
    Keeps defs c R (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t7 v2167 v2497 v2501 v2502) := by
  rw [k0_part133_eq_skeleton]; unfold k0_part133_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part134 {v2167 : BitVec 32} {v2533 : FVec F S256x512 .f32} (hB : Bufs c R arg2 arg3 arg4 arg5 arg6 arg7 arg8 arg9 arg10 arg11 arg12 arg13 arg14 arg15 arg16 arg17 arg18 arg19 arg20 arg21 arg22) :
    Keeps defs c R (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2167 v2533) := by
  rw [k0_part134_eq_skeleton]; unfold k0_part134_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_t7_body {v20 : BitVec 32} {v2041_1 : IVec S1x256 32} {v2059 : IVec S256x128 32} {v2064 : BitVec 1} {v2072 : FVec F S2048x128 .f32} {v2165 : BitVec 32} (hB : Bufs c R arg2 arg3 arg4 arg5 arg6 arg7 arg8 arg9 arg10 arg11 arg12 arg13 arg14 arg15 arg16 arg17 arg18 arg19 arg20 arg21 arg22) {k} {a} :
    Keeps defs c R (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v2041_1 v2059 v2064 v2072 v2165 k a) := by
  unfold k0_t7_body
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part123 hB
    | with_reducible exact keeps_k0_part124 hB
    | with_reducible exact keeps_k0_part125 hB
    | with_reducible exact keeps_k0_part126 hB
    | with_reducible exact keeps_k0_part127 hB
    | with_reducible exact keeps_k0_part128 hB
    | with_reducible exact keeps_k0_part129 hB
    | with_reducible exact keeps_k0_part130 hB
    | with_reducible exact keeps_k0_part131 hB
    | with_reducible exact keeps_k0_part132 hB
    | with_reducible exact keeps_k0_part133 hB
    | with_reducible exact keeps_k0_part134 hB
    | with_reducible refine Keeps.bind ?_ fun _ => ?_
    | split

theorem keeps_k0_part185 {v20 : BitVec 32} {v2041_1 : IVec S1x256 32} {v2059 : IVec S256x128 32} {v2064 : BitVec 1} {v2072 : FVec F S2048x128 .f32} (hB : Bufs c R arg2 arg3 arg4 arg5 arg6 arg7 arg8 arg9 arg10 arg11 arg12 arg13 arg14 arg15 arg16 arg17 arg18 arg19 arg20 arg21 arg22) :
    Keeps defs c R (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v20 v2041_1 v2059 v2064 v2072) := by
  rw [k0_part185_eq_skeleton]; unfold k0_part185_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_
    | with_reducible refine Keeps.ite ?_ ?_
    | with_reducible refine Keeps.dite (fun _ => ?_) (fun _ => ?_)
    | (with_reducible refine Keeps.loop ?_; intro k a; with_reducible exact keeps_k0_t4_body hB)
    | (with_reducible refine Keeps.loop ?_; intro k a; with_reducible exact keeps_k0_t5_body hB)
    | (with_reducible refine Keeps.loop ?_; intro k a; with_reducible exact keeps_k0_t6_body hB)
    | (with_reducible refine Keeps.loop ?_; intro k a; with_reducible exact keeps_k0_t7_body hB)

theorem keeps_k0_part186 {v2100 : FVec F S256x512 .f32} {v2101 : Vec F S256x256 .f32} (hB : Bufs c R arg2 arg3 arg4 arg5 arg6 arg7 arg8 arg9 arg10 arg11 arg12 arg13 arg14 arg15 arg16 arg17 arg18 arg19 arg20 arg21 arg22) :
    Keeps defs c R (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2100 v2101) := by
  rw [k0_part186_eq_skeleton]; unfold k0_part186_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible refine Keeps.bind ?_ fun _ => ?_

theorem keeps_k0_part187  (hB : Bufs c R arg2 arg3 arg4 arg5 arg6 arg7 arg8 arg9 arg10 arg11 arg12 arg13 arg14 arg15 arg16 arg17 arg18 arg19 arg20 arg21 arg22) :
    Keeps defs c R (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [k0_part187_eq_skeleton]; unfold k0_part187_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part135 hB
    | with_reducible exact keeps_k0_part136 hB
    | with_reducible exact keeps_k0_part137 hB
    | with_reducible exact keeps_k0_part138 hB
    | with_reducible exact keeps_k0_part139 hB
    | with_reducible exact keeps_k0_part140 hB
    | with_reducible exact keeps_k0_part141 hB
    | with_reducible exact keeps_k0_part142 hB
    | with_reducible exact keeps_k0_part143 hB
    | with_reducible exact keeps_k0_part159 hB
    | with_reducible exact keeps_k0_part160 hB
    | with_reducible exact keeps_k0_part161 hB
    | with_reducible exact keeps_k0_part162 hB
    | with_reducible exact keeps_k0_part163 hB
    | with_reducible exact keeps_k0_part180 hB
    | with_reducible exact keeps_k0_part181 hB
    | with_reducible exact keeps_k0_part182 hB
    | with_reducible exact keeps_k0_part183 hB
    | with_reducible exact keeps_k0_part184 hB
    | with_reducible exact keeps_k0_part185 hB
    | with_reducible exact keeps_k0_part186 hB
    | with_reducible exact keeps_k0_part144
    | with_reducible exact keeps_k0_part145
    | with_reducible exact keeps_k0_part146
    | with_reducible exact keeps_k0_part147
    | with_reducible exact keeps_k0_part148
    | with_reducible exact keeps_k0_part149
    | with_reducible exact keeps_k0_part150
    | with_reducible exact keeps_k0_part151
    | with_reducible exact keeps_k0_part152
    | with_reducible exact keeps_k0_part153
    | with_reducible exact keeps_k0_part154
    | with_reducible exact keeps_k0_part155
    | with_reducible exact keeps_k0_part156
    | with_reducible exact keeps_k0_part157
    | with_reducible exact keeps_k0_part158
    | with_reducible exact keeps_k0_part164
    | with_reducible exact keeps_k0_part165
    | with_reducible exact keeps_k0_part166
    | with_reducible exact keeps_k0_part167
    | with_reducible exact keeps_k0_part168
    | with_reducible exact keeps_k0_part169
    | with_reducible exact keeps_k0_part170
    | with_reducible exact keeps_k0_part171
    | with_reducible exact keeps_k0_part172
    | with_reducible exact keeps_k0_part173
    | with_reducible exact keeps_k0_part174
    | with_reducible exact keeps_k0_part175
    | with_reducible exact keeps_k0_part176
    | with_reducible exact keeps_k0_part177
    | with_reducible exact keeps_k0_part178
    | with_reducible exact keeps_k0_part179
    | with_reducible refine Keeps.bind ?_ fun _ => ?_
    | split

theorem keeps_cc0_dsa_prompt  (hB : Bufs c R arg2 arg3 arg4 arg5 arg6 arg7 arg8 arg9 arg10 arg11 arg12 arg13 arg14 arg15 arg16 arg17 arg18 arg19 arg20 arg21 arg22) :
    Keeps defs c R (cc0_dsa_prompt (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [cc0_dsa_prompt_eq_skeleton]; unfold cc0_dsa_prompt_skel
  obtain ⟨_, _, _, _, _, _, _, _, _, _, _, _, _, _, _, _, _, _, _, _, _⟩ := id hB
  repeat' first
    | with_reducible exact Keeps.pure
    | with_reducible exact Keeps.load (by assumption)
    | with_reducible exact Keeps.load (Held.read (by assumption))
    | with_reducible exact Keeps.store (by assumption)
    | with_reducible exact keeps_k0_part187 hB
    | with_reducible refine Keeps.bind ?_ fun _ => ?_
    | split

end Cert.Proof.Parts

end
-- ==== Proof.Body.lean ====
/-
  The frame of the call: its body run at one grid point, and the launch.

  The body keeps the buffers it is handed (Parts.lean `keeps_cc0_dsa_prompt`), so a point takes the staged inputs at their
  blocks, the output's staging buffer and the twelve scratch buffers at some contents, and gives the same back. Nothing here
  reads what it leaves in the output: that window is forgotten.
-/
module

public import proofs.«01_k».proof.Proof.Parts
public import proofs.«01_k».proof.Proof.Gen.Kernel.Frame
public import Idealize.ShloMosaic.Lib.Pipeline.Frame

@[expose] public section

noncomputable section

namespace Cert.Proof.Body

open Cert.Kernel Cert.Kernel.Gen Cert.Proof.Keeps Cert.Proof.Parts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The buffers -/

abbrev ms0 (t : Fin cfg0.N) : Memref sig .tc .vmem S1x256x2048 .bf16 := win0_0.stage (cfg0.slots t 0)
abbrev ms1 (t : Fin cfg0.N) : Memref sig .tc .vmem S1x256x2048 .bf16 := win0_1.stage (cfg0.slots t 1)
abbrev ms2 (t : Fin cfg0.N) : Memref sig .tc .vmem S1x256x128 .f32 := win0_2.stage (cfg0.slots t 2)
abbrev ms3 (t : Fin cfg0.N) : Memref sig .tc .vmem S1x256x8192 .bf16 := win0_3.stage (cfg0.slots t 3)
abbrev ms4 (t : Fin cfg0.N) : Memref sig .tc .vmem S1x256x8192 .bf16 := win0_4.stage (cfg0.slots t 4)
abbrev ms5 (t : Fin cfg0.N) : Memref sig .tc .vmem S1x8192x256 .bf16 := win0_5.stage (cfg0.slots t 5)
abbrev ms6 (t : Fin cfg0.N) : Memref sig .tc .vmem S512x512 .bf16 := win0_6.stage (cfg0.slots t 6)
abbrev ms7 (t : Fin cfg0.N) : Memref sig .tc .vmem S8x256x512 .bf16 := win0_7.stage (cfg0.slots t 7)
abbrev ms8 (t : Fin cfg0.N) : Memref sig .tc .vmem S1x256x512 .bf16 := win0_8.stage (cfg0.slots t 8)
abbrev sc0 : Memref sig .tc .vmem S256x8192 .i32 := Memref.whole cc0_scratch0
abbrev sc1 : Memref sig .tc .vmem S32x256x256 .i32 := Memref.whole cc0_scratch1
abbrev sc2 : Memref sig .tc .vmem S256x256 .i32 := Memref.whole cc0_scratch2
abbrev sc3 : Memref sig .tc .vmem S2048x256 .bf16 := Memref.whole cc0_scratch3
abbrev sc4 : Memref sig .tc .vmem S2048x256 .bf16 := Memref.whole cc0_scratch4
abbrev sc5 : Memref sig .tc .vmem S8x256x128 .f32 := Memref.whole cc0_scratch5
abbrev sc6 : Memref sig .tc .vmem S2048x128 .f32 := Memref.whole cc0_scratch6
abbrev sc7 : Memref sig .tc .vmem S2048x128 .f32 := Memref.whole cc0_scratch7
abbrev sc8 : Memref sig .tc .vmem S2048x256 .f32 := Memref.whole cc0_scratch8
abbrev sc9 : Memref sig .tc .vmem S2048x512 .f32 := Memref.whole cc0_scratch9
abbrev sc10 : Memref sig .tc .vmem S2048x512 .bf16 := Memref.whole cc0_scratch10
abbrev sc11 : Memref sig .tc .vmem S256x512 .f32 := Memref.whole cc0_scratch11

/-- Every buffer of a point: the staged inputs at their blocks, the output's staging buffer and the scratch at some contents. -/
def Rsc (c : Dev nD) : sProp 𝕄 :=
  iprop((∃ X : S256x8192.Idx → Elt F .i32, owns (c : Thread nD τ) sc0 fullShare X)
    ∗ (∃ X : S32x256x256.Idx → Elt F .i32, owns (c : Thread nD τ) sc1 fullShare X)
    ∗ (∃ X : S256x256.Idx → Elt F .i32, owns (c : Thread nD τ) sc2 fullShare X)
    ∗ (∃ X : S2048x256.Idx → Elt F .bf16, owns (c : Thread nD τ) sc3 fullShare X)
    ∗ (∃ X : S2048x256.Idx → Elt F .bf16, owns (c : Thread nD τ) sc4 fullShare X)
    ∗ (∃ X : S8x256x128.Idx → Elt F .f32, owns (c : Thread nD τ) sc5 fullShare X)
    ∗ (∃ X : S2048x128.Idx → Elt F .f32, owns (c : Thread nD τ) sc6 fullShare X)
    ∗ (∃ X : S2048x128.Idx → Elt F .f32, owns (c : Thread nD τ) sc7 fullShare X)
    ∗ (∃ X : S2048x256.Idx → Elt F .f32, owns (c : Thread nD τ) sc8 fullShare X)
    ∗ (∃ X : S2048x512.Idx → Elt F .f32, owns (c : Thread nD τ) sc9 fullShare X)
    ∗ (∃ X : S2048x512.Idx → Elt F .bf16, owns (c : Thread nD τ) sc10 fullShare X)
    ∗ (∃ X : S256x512.Idx → Elt F .f32, owns (c : Thread nD τ) sc11 fullShare X))

def Rbufs (c : Dev nD) (t : Fin cfg0.N) : sProp 𝕄 :=
  iprop(owns (c : Thread nD τ) (ms0 t) fullShare (iblk m c 0 t : S1x256x2048.Idx → Elt F .bf16)
    ∗ owns (c : Thread nD τ) (ms1 t) fullShare (iblk m c 1 t : S1x256x2048.Idx → Elt F .bf16)
    ∗ owns (c : Thread nD τ) (ms2 t) fullShare (iblk m c 2 t : S1x256x128.Idx → Elt F .f32)
    ∗ owns (c : Thread nD τ) (ms3 t) fullShare (iblk m c 3 t : S1x256x8192.Idx → Elt F .bf16)
    ∗ owns (c : Thread nD τ) (ms4 t) fullShare (iblk m c 4 t : S1x256x8192.Idx → Elt F .bf16)
    ∗ owns (c : Thread nD τ) (ms5 t) fullShare (iblk m c 5 t : S1x8192x256.Idx → Elt F .bf16)
    ∗ owns (c : Thread nD τ) (ms6 t) fullShare (iblk m c 6 t : S512x512.Idx → Elt F .bf16)
    ∗ owns (c : Thread nD τ) (ms7 t) fullShare (iblk m c 7 t : S8x256x512.Idx → Elt F .bf16)
    ∗ (∃ X : S1x256x512.Idx → Elt F .bf16, owns (c : Thread nD τ) (ms8 t) fullShare X)
    ∗ Rsc c)

theorem bufs (c : Dev nD) (t : Fin cfg0.N) :
    Bufs c (Rbufs m c t) (ms0 t) (ms1 t) (ms2 t) (ms3 t) (ms4 t) (ms5 t) (ms6 t) (ms7 t) (ms8 t) sc0 sc1 sc2 sc3 sc4 sc5 sc6 sc7 sc8 sc9 sc10 sc11 := by
  unfold Rbufs Rsc
  exact ⟨Read.here,
    Read.there Read.here,
    Read.there (Read.there Read.here),
    Read.there (Read.there (Read.there Read.here)),
    Read.there (Read.there (Read.there (Read.there Read.here))),
    Read.there (Read.there (Read.there (Read.there (Read.there Read.here)))),
    Read.there (Read.there (Read.there (Read.there (Read.there (Read.there Read.here))))),
    Read.there (Read.there (Read.there (Read.there (Read.there (Read.there (Read.there Read.here)))))),
    Held.there (Held.there (Held.there (Held.there (Held.there (Held.there (Held.there (Held.there Held.here))))))),
    Held.there (Held.there (Held.there (Held.there (Held.there (Held.there (Held.there (Held.there (Held.there Held.here)))))))),
    Held.there (Held.there (Held.there (Held.there (Held.there (Held.there (Held.there (Held.there (Held.there (Held.there Held.here))))))))),
    Held.there (Held.there (Held.there (Held.there (Held.there (Held.there (Held.there (Held.there (Held.there (Held.there (Held.there Held.here)))))))))),
    Held.there (Held.there (Held.there (Held.there (Held.there (Held.there (Held.there (Held.there (Held.there (Held.there (Held.there (Held.there Held.here))))))))))),
    Held.there (Held.there (Held.there (Held.there (Held.there (Held.there (Held.there (Held.there (Held.there (Held.there (Held.there (Held.there (Held.there Held.here)))))))))))),
    Held.there (Held.there (Held.there (Held.there (Held.there (Held.there (Held.there (Held.there (Held.there (Held.there (Held.there (Held.there (Held.there (Held.there Held.here))))))))))))),
    Held.there (Held.there (Held.there (Held.there (Held.there (Held.there (Held.there (Held.there (Held.there (Held.there (Held.there (Held.there (Held.there (Held.there (Held.there Held.here)))))))))))))),
    Held.there (Held.there (Held.there (Held.there (Held.there (Held.there (Held.there (Held.there (Held.there (Held.there (Held.there (Held.there (Held.there (Held.there (Held.there (Held.there Held.here))))))))))))))),
    Held.there (Held.there (Held.there (Held.there (Held.there (Held.there (Held.there (Held.there (Held.there (Held.there (Held.there (Held.there (Held.there (Held.there (Held.there (Held.there (Held.there Held.here)))))))))))))))),
    Held.there (Held.there (Held.there (Held.there (Held.there (Held.there (Held.there (Held.there (Held.there (Held.there (Held.there (Held.there (Held.there (Held.there (Held.there (Held.there (Held.there (Held.there Held.here))))))))))))))))),
    Held.there (Held.there (Held.there (Held.there (Held.there (Held.there (Held.there (Held.there (Held.there (Held.there (Held.there (Held.there (Held.there (Held.there (Held.there (Held.there (Held.there (Held.there (Held.there Held.here)))))))))))))))))),
    Held.there (Held.there (Held.there (Held.there (Held.there (Held.there (Held.there (Held.there (Held.there (Held.there (Held.there (Held.there (Held.there (Held.there (Held.there (Held.there (Held.there (Held.there (Held.there (Held.there Held.last)))))))))))))))))))⟩

/-- The invariant between the points: the scratch at some contents and the generator register at some state. -/
theorem Phi_eq (c : Dev nD) :
    (Pipeline.ΦA (U := UR sig nD τ) spec0 c : sProp 𝕄) = iprop(Rsc c ∗ ∃ r, prngReg c r) := by
  unfold Pipeline.ΦA Rsc
  rw [scopedRest0_eq]
  simp only [sc0, sc1, sc2, sc3, sc4, sc5, sc6, sc7, sc8, sc9, sc10, sc11, owns_whole]
  try rfl

/-! ## The proof data and the body obligation -/

/-- The output is forgotten: nothing here reads what the body leaves in it. -/
def forgets : Fin 9 → Bool := ![false, false, false, false, false, false, false, false, true]

/-- The proof data on core `c`: the arrays as the region finds them; each input left at its block, the output unnamed; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => iblk m c 4 t | 5 => iblk m c 5 t | 6 => iblk m c 6 t | 7 => iblk m c 7 t
    | 8 => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ X, owns (c : Thread nD τ) (ms8 t) fullShare X))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ X, owns (c : Thread nD τ) (ms8 t) fullShare X))

/-- The body keeps a point's buffers. -/
theorem keeps_body (c : Dev nD) (t : Fin cfg0.N) : Keeps (defs₀ (F := F)) c (Rbufs m c t) (bodyAt0 t) :=
  keeps_cc0_dsa_prompt (bufs m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    show (dats m 0 c).after 0 t = iblk m c 0 t from rfl,
    show (dats m 0 c).after 1 t = iblk m c 1 t from rfl,
    show (dats m 0 c).after 2 t = iblk m c 2 t from rfl,
    show (dats m 0 c).after 3 t = iblk m c 3 t from rfl,
    show (dats m 0 c).after 4 t = iblk m c 4 t from rfl,
    show (dats m 0 c).after 5 t = iblk m c 5 t from rfl,
    show (dats m 0 c).after 6 t = iblk m c 6 t from rfl,
    show (dats m 0 c).after 7 t = iblk m c 7 t from rfl]
  simp only [before_0, before_1, before_2, before_3, before_4, before_5, before_6, before_7]
  have hK := keeps_body m c t
  unfold Keeps Rbufs at hK
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8⟩
  iapply (wp_wand_r frame (wpE (defs₀ (F := F)) Variants.none (c : Thread nD τ) none) Set.univ)
  isplitl [HS H0 H1 H2 H3 H4 H5 H6 H7 H8]
  · iapply hK

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  · iintro %x ⟨H0, H1, H2, H3, H4, H5, H6, H7, H8, HS⟩
    isplitl [HS Hg]
    · isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
/-- From any memory with zero counters every weakly fair execution of @main terminates; every staged input array and every
    buffer that is no window's array ends as the region found it, and every semaphore counter ends at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run every argument array holds what it held at launch. -/
theorem final_args {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    (h.arr_in c 4 rfl).trans ((A_eq m c 4).trans (V_main_arg4 m c)),
    (h.arr_in c 5 rfl).trans ((A_eq m c 5).trans (V_main_arg5 m c)),
    (h.arr_in c 7 rfl).trans ((A_eq m c 7).trans (V_main_arg6 m c))⟩

end Cert.Proof.Body

end
-- ==== Proof.Spec.lean ====
/-
  The layer's feed-forward block and the merge before it, row by row over the extended reals: what both a kernel's block and
  the plain reference compute of one row. Sums are over all of an axis; the cut of the feed-forward width into eleven chunks
  of 256 is `sum_chunks`.
-/
module

public import Idealize.ShloMosaic.Lib.Pointwise

@[expose] public section

noncomputable section

namespace Cert.Proof.Spec

open Idealize.ShloMosaic

/-- The logistic function. -/
def sig (g : EReal) : EReal := Ideal.div 1 (1 + Ideal.exp (-g))

/-- The gated activation of the feed-forward block: `g σ(g) u`. -/
def act (g u : EReal) : EReal := g * sig g * u

/-- A row normalised by the root of its mean square (the mean's divisor and the added constant are the float words of the
    source) and scaled by the gain. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- The product of a row with a matrix. -/
def prod {n p : Nat} (h : Fin n → EReal) (w : Fin n → Fin p → EReal) (j : Fin p) : EReal := ∑ k, h k * w k j

/-- The feed-forward block of a row: the row plus half of the gated product of its normalised row. -/
def ffn (x g : Fin 1024 → EReal) (wg wu : Fin 1024 → Fin 2816 → EReal) (wd : Fin 2816 → Fin 1024 → EReal) (j : Fin 1024) :
    EReal :=
  x j + Ideal.ofBits .f32 0x3F000000#32 * prod (fun f => act (prod (rms x g) wg f) (prod (rms x g) wu f)) wd j

/-- The merge of a row: the attention's and the recurrence's row, each through its own matrix and gated by its half of the
    gate row, added, taken through the output matrix and added to the row. -/
def merge (x : Fin 1024 → EReal) (a r : Fin 512 → EReal) (p : Fin 2048 → EReal) (wa wh : Fin 512 → Fin 1024 → EReal)
    (wo : Fin 1024 → Fin 1024 → EReal) (j : Fin 1024) : EReal :=
  x j + prod (fun k => sig (p ⟨k.1, by omega⟩) * prod a wa k + sig (p ⟨1024 + k.1, by omega⟩) * prod r wh k) wo j

/-- The sum over the 256 places from `o` on. -/
def seg (φ : Fin 2816 → EReal) (o : Nat) (h : o + 256 ≤ 2816) : EReal := ∑ f : Fin 256, φ ⟨o + f.1, by omega⟩

theorem sum_eleven (G : Fin 11 → EReal) :
    ∑ c, G c = G 0 + G 1 + G 2 + G 3 + G 4 + G 5 + G 6 + G 7 + G 8 + G 9 + G 10 := by
  simp only [Fin.sum_univ_castSucc, Finset.univ_eq_empty, Finset.sum_empty, zero_add]
  rfl

/-- A sum over the feed-forward width is the sum of its eleven chunks, added in order. -/
theorem sum_chunks (φ : Fin 2816 → EReal) : ∑ f, φ f =
    seg φ 0 (by decide) + seg φ 256 (by decide) + seg φ 512 (by decide) + seg φ 768 (by decide) + seg φ 1024 (by decide)
      + seg φ 1280 (by decide) + seg φ 1536 (by decide) + seg φ 1792 (by decide) + seg φ 2048 (by decide)
      + seg φ 2304 (by decide) + seg φ 2560 (by decide) := by
  have h : ∑ f, φ f = ∑ c : Fin 11, ∑ f : Fin 256, φ (Fin.cast (by decide : 11 * 256 = 2816) (finProdFinEquiv (c, f))) := by
    rw [← Fintype.sum_prod_type' (fun (c : Fin 11) (f : Fin 256) => φ (Fin.cast (by decide : 11 * 256 = 2816) (finProdFinEquiv (c, f))))]
    exact (Fintype.sum_equiv (finProdFinEquiv.trans (finCongr (by decide : 11 * 256 = 2816))) _ _ fun _ => rfl).symm
  rw [h]
  have hs : ∀ (c : Fin 11) (hc : c.1 * 256 + 256 ≤ 2816),
      ∑ f : Fin 256, φ (Fin.cast (by decide : 11 * 256 = 2816) (finProdFinEquiv (c, f))) = seg φ (c.1 * 256) hc := fun c hc =>
    Finset.sum_congr rfl fun f _ => congrArg φ (Fin.ext (by
      show f.1 + 256 * c.1 = c.1 * 256 + f.1
      omega))
  rw [sum_eleven, hs, hs, hs, hs, hs, hs, hs, hs, hs, hs, hs] <;> first | rfl | decide

end Cert.Proof.Spec

end
-- ==== Proof.FfnValue.lean ====
/-
  What the feed-forward call computes: its block at a grid point is the feed-forward block of the point's 512 rows
  (`out_apply`), so the result array is the feed-forward block of every row (`final`); the plain reference computes the same of
  every row (`ref_apply`).
-/
module

public import proofs.«01_k».proof.Defs
public import proofs.«01_k».proof.Proof.Spec
public import proofs.«01_k».proof.Proof.Gen.Ffn.Frame
public import proofs.«01_k».proof.Proof.Gen.FfnIdeal.Value
public import proofs.«01_k».proof.Proof.Gen.FfnRefIdeal.Run
public import Idealize.ShloMosaic.Lib.Quiescent
public import Idealize.ShloMosaic.Lib.StableHlo.ReadAt

@[expose] public section

set_option maxRecDepth 16384

noncomputable section

namespace Cert.Proof.FfnValue

open Cert.FfnIdeal Cert.FfnIdeal.Gen Idealize.ShloMosaic Idealize.ShloMosaic.TcCoe Idealize.SL.Sem

/-! ## One block -/

/-- One chunk of the feed-forward width: the gated activation of the two products, through the chunk's rows of the last
    matrix. -/
def chunk (h : FVec Ideal S512x1024 .bf16) (a b : Vec Ideal S1024x256 .bf16) (d : Vec Ideal S256x1024 .bf16) :
    FVec Ideal S512x1024 .f32 :=
  matmul dot_S512x256_S256x1024_S512x1024_1_0_0_1_n_n none (k0_pay5 (F := Ideal) h a b) (k0_pay6 (F := Ideal) d)
    (constant S512x1024 .f32 0x00000000#32)

theorem hz : (![0, 0] : Fin 2 → Nat) = fun _ => 0 := funext fun a => by fin_cases a <;> rfl

variable (x0 : Vec Ideal S512x1024 .f32) (x1 : Vec Ideal S1x1024 .f32) (x2 x3 : Vec Ideal S1024x2816 .bf16)
  (x4 : Vec Ideal S2816x1024 .bf16)

/-- The block's normalised rows. -/
abbrev normed : FVec Ideal S512x1024 .bf16 := k0_pay2 (F := Ideal) x0 x1

/-- The block: its rows plus half the sum of the eleven chunks. -/
theorem out_eq : out0_5 (F := Ideal) x0 x1 x2 x3 x4 =
    addf (F := Ideal) (s := S512x1024) x0 (mulf (broadcast S512x1024 (Scalar.ofBits .f32 0x3F000000#32))
      (addf (addf (addf (addf (addf (addf (addf (addf (addf (addf (addf (broadcast S512x1024 (Scalar.ofBits .f32 0x00000000#32))
        (chunk (normed x0 x1) (View.ld x2 r0_2) (View.ld x3 r0_2) (View.ld x4 r0_3)))
        (chunk (normed x0 x1) (View.ld x2 r0_4) (View.ld x3 r0_4) (View.ld x4 r0_5)))
        (chunk (normed x0 x1) (View.ld x2 r0_6) (View.ld x3 r0_6) (View.ld x4 r0_7)))
        (chunk (normed x0 x1) (View.ld x2 r0_8) (View.ld x3 r0_8) (View.ld x4 r0_9)))
        (chunk (normed x0 x1) (View.ld x2 r0_10) (View.ld x3 r0_10) (View.ld x4 r0_11)))
        (chunk (normed x0 x1) (View.ld x2 r0_12) (View.ld x3 r0_12) (View.ld x4 r0_13)))
        (chunk (normed x0 x1) (View.ld x2 r0_14) (View.ld x3 r0_14) (View.ld x4 r0_15)))
        (chunk (normed x0 x1) (View.ld x2 r0_16) (View.ld x3 r0_16) (View.ld x4 r0_17)))
        (chunk (normed x0 x1) (View.ld x2 r0_18) (View.ld x3 r0_18) (View.ld x4 r0_19)))
        (chunk (normed x0 x1) (View.ld x2 r0_20) (View.ld x3 r0_20) (View.ld x4 r0_21)))
        (chunk (normed x0 x1) (View.ld x2 r0_22) (View.ld x3 r0_22) (View.ld x4 r0_23)))) := by
  unfold out0_5
  rw [View.canon_unit_zero hz, View.ld_unit_zero hz (S := S512x1024), View.ld_unit_zero hz (S := S1x1024)]
  unfold k0_pay22
  rw [View.ld_unit_zero hz (S := S512x1024), View.ld_unit_zero hz (S := S1x1024)]
  rfl

theorem normed_apply (r : Fin 512) (k : Fin 1024) :
    normed x0 x1 (ix2 r k) = Spec.rms (fun i => x0 (ix2 r i)) (fun i => x1 (ix2 0 i)) k := by
  pointwise [normed, k0_pay2, Spec.rms]

/-- The term of the feed-forward width that the last matrix takes to place `j` of row `r`. -/
def term (h : FVec Ideal S512x1024 .bf16) (r : Fin 512) (j : Fin 1024) (f : Fin 2816) : EReal :=
  Spec.act (Spec.prod (fun k => h (ix2 r k)) (fun k f => x2 (ix2 k f)) f)
    (Spec.prod (fun k => h (ix2 r k)) (fun k f => x3 (ix2 k f)) f) * x4 (ix2 f j)

/-- A chunk at an index is that term summed over the chunk's columns. -/
theorem chunk_apply (h : FVec Ideal S512x1024 .bf16) (a b : Vec Ideal S1024x256 .bf16) (d : Vec Ideal S256x1024 .bf16)
    (o : Nat) (ho : o + 256 ≤ 2816) (ha : ∀ k f, a (ix2 k f) = x2 (ix2 k ⟨o + f.1, by omega⟩))
    (hb : ∀ k f, b (ix2 k f) = x3 (ix2 k ⟨o + f.1, by omega⟩)) (hd : ∀ f j, d (ix2 f j) = x4 (ix2 ⟨o + f.1, by omega⟩ j))
    (r : Fin 512) (j : Fin 1024) : chunk h a b d (ix2 r j) = Spec.seg (term x2 x3 x4 h r j) o ho := by
  pointwise [chunk, k0_pay5, k0_pay6]
  refine Finset.sum_congr rfl fun f _ => ?_
  simp only [ha, hb, hd, term, Spec.act, Spec.sig, Spec.prod, zero_sub]

/-- The block at an index is the feed-forward block of its row. -/
theorem out_apply (r : Fin 512) (j : Fin 1024) : out0_5 (F := Ideal) x0 x1 x2 x3 x4 (ix2 r j) =
    Spec.ffn (fun k => x0 (ix2 r k)) (fun k => x1 (ix2 0 k)) (fun k f => x2 (ix2 k f)) (fun k f => x3 (ix2 k f))
      (fun f j => x4 (ix2 f j)) j := by
  have hs : ∀ j, Spec.prod (fun f => Spec.act
      (Spec.prod (Spec.rms (fun k => x0 (ix2 r k)) (fun k => x1 (ix2 0 k))) (fun k f => x2 (ix2 k f)) f)
      (Spec.prod (Spec.rms (fun k => x0 (ix2 r k)) (fun k => x1 (ix2 0 k))) (fun k f => x3 (ix2 k f)) f))
      (fun f j => x4 (ix2 f j)) j = ∑ f, term x2 x3 x4 (normed x0 x1) r j f := fun j =>
    Finset.sum_congr rfl fun f _ => by
      unfold term
      rw [show (fun k => normed x0 x1 (ix2 r k)) = Spec.rms (fun i => x0 (ix2 r i)) (fun i => x1 (ix2 0 i)) from
        funext fun k => normed_apply x0 x1 r k]
  unfold Spec.ffn
  rw [hs, Spec.sum_chunks, out_eq]
  simp only [addf_apply, mulf_apply, Ideal.addf_def, Ideal.mulf_def]
  rw [chunk_apply x2 x3 x4 _ _ _ _ 0 (by decide) (fun k f => by pointwise []) (fun k f => by pointwise []) (fun f j => by pointwise []),
    chunk_apply x2 x3 x4 _ _ _ _ 256 (by decide) (fun k f => by pointwise []) (fun k f => by pointwise []) (fun f j => by pointwise []),
    chunk_apply x2 x3 x4 _ _ _ _ 512 (by decide) (fun k f => by pointwise []) (fun k f => by pointwise []) (fun f j => by pointwise []),
    chunk_apply x2 x3 x4 _ _ _ _ 768 (by decide) (fun k f => by pointwise []) (fun k f => by pointwise []) (fun f j => by pointwise []),
    chunk_apply x2 x3 x4 _ _ _ _ 1024 (by decide) (fun k f => by pointwise []) (fun k f => by pointwise []) (fun f j => by pointwise []),
    chunk_apply x2 x3 x4 _ _ _ _ 1280 (by decide) (fun k f => by pointwise []) (fun k f => by pointwise []) (fun f j => by pointwise []),
    chunk_apply x2 x3 x4 _ _ _ _ 1536 (by decide) (fun k f => by pointwise []) (fun k f => by pointwise []) (fun f j => by pointwise []),
    chunk_apply x2 x3 x4 _ _ _ _ 1792 (by decide) (fun k f => by pointwise []) (fun k f => by pointwise []) (fun f j => by pointwise []),
    chunk_apply x2 x3 x4 _ _ _ _ 2048 (by decide) (fun k f => by pointwise []) (fun k f => by pointwise []) (fun f j => by pointwise []),
    chunk_apply x2 x3 x4 _ _ _ _ 2304 (by decide) (fun k f => by pointwise []) (fun k f => by pointwise []) (fun f j => by pointwise []),
    chunk_apply x2 x3 x4 _ _ _ _ 2560 (by decide) (fun k f => by pointwise []) (fun k f => by pointwise []) (fun f j => by pointwise [])]
  pointwise []

/-! ## The array -/

/-- The feed-forward block of every row. -/
def G (x : Vec Ideal S65536x1024 .f32) (g : Vec Ideal S1024 .f32) (wg wu : Vec Ideal S1024x2816 .f32)
    (wd : Vec Ideal S2816x1024 .f32) : Vec Ideal S65536x1024 .f32 := fun i =>
  Spec.ffn (fun k => x (ix2 (i 0) k)) (fun k => g (ix1 k)) (fun k f => wg (ix2 k f)) (fun k f => wu (ix2 k f))
    (fun f j => wd (ix2 f j)) (i 1)

variable (m : (ℓ : Loc nD τ sig) → Buf (Elt Ideal) ℓ) (ρ : Dev nD → PrngReg)

/-- The gain as a row of the block's shape, and the three matrices rounded: at the extended reals, the arguments. -/
theorem V_gain (c : Dev nD) (k : Fin 1024) : V m c main_v3 (ix2 0 k) = m ((c : Thread nD τ).loc main_arg1) (ix1 k) := by
  unfold V; after_reads_at

theorem V_gate (c : Dev nD) : V m c main_v0 = m ((c : Thread nD τ).loc main_arg2) := by
  unfold V; after_results; rfl

theorem V_up (c : Dev nD) : V m c main_v1 = m ((c : Thread nD τ).loc main_arg3) := by
  unfold V; after_results; rfl

theorem V_down (c : Dev nD) : V m c main_v2 = m ((c : Thread nD τ).loc main_arg4) := by
  unfold V; after_results; rfl

theorem idx_rows : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem lt_rows (t : Fin cfg0.N) (r : Fin 512) : t.val * 512 + r.val < 65536 := by
  have h : t.val < 128 := t.isLt
  omega

theorem iblk0 (c : Dev nD) (t : Fin cfg0.N) (r : Fin 512) (k : Fin 1024) :
    iblk m c 0 t (ix2 r k) = m ((c : Thread nD τ).loc main_arg0) (ix2 ⟨t.val * 512 + r.val, lt_rows t r⟩ k) := by
  obtain ⟨h0, h1, -, -⟩ := idx_rows t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

theorem iblk1 (c : Dev nD) (t : Fin cfg0.N) (k : Fin 1024) :
    iblk m c 1 t (ix2 0 k) = m ((c : Thread nD τ).loc main_arg1) (ix1 k) := by
  obtain ⟨⟨h0, h1⟩, -⟩ := idx_whole t
  refine Eq.trans ?_ (V_gain m c k)
  show V m c main_v3 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem iblk2 (c : Dev nD) (t : Fin cfg0.N) (k : Fin 1024) (f : Fin 2816) :
    iblk m c 2 t (ix2 k f) = m ((c : Thread nD τ).loc main_arg2) (ix2 k f) := by
  obtain ⟨-, ⟨h0, h1⟩, -, -⟩ := idx_whole t
  refine Eq.trans ?_ (congrFun (V_gate m c) _)
  show V m c main_v0 (((cfg0.win 2).blk t).view.emb (ix2 k f)) = _
  refine congrArg _ (funext fun a => Fin.ext ?_)
  match a with
  | ⟨0, _⟩ => show win0_2.index t (0 : Fin 2) * 1024 + 1 * k.val = k.val; omega
  | ⟨1, _⟩ => show win0_2.index t (1 : Fin 2) * 2816 + 1 * f.val = f.val; omega

theorem iblk3 (c : Dev nD) (t : Fin cfg0.N) (k : Fin 1024) (f : Fin 2816) :
    iblk m c 3 t (ix2 k f) = m ((c : Thread nD τ).loc main_arg3) (ix2 k f) := by
  obtain ⟨-, -, ⟨h0, h1⟩, -⟩ := idx_whole t
  refine Eq.trans ?_ (congrFun (V_up m c) _)
  show V m c main_v1 (((cfg0.win 3).blk t).view.emb (ix2 k f)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2816 + 1 * f.val = f.val; omega

theorem iblk4 (c : Dev nD) (t : Fin cfg0.N) (f : Fin 2816) (j : Fin 1024) :
    iblk m c 4 t (ix2 f j) = m ((c : Thread nD τ).loc main_arg4) (ix2 f j) := by
  obtain ⟨-, -, -, ⟨h0, h1⟩⟩ := idx_whole t
  refine Eq.trans ?_ (congrFun (V_down m c) _)
  show V m c main_v2 (((cfg0.win 4).blk t).view.emb (ix2 f j)) = _
  refine congrArg _ (funext fun a => Fin.ext ?_)
  match a with
  | ⟨0, _⟩ => show win0_4.index t (0 : Fin 2) * 2816 + 1 * f.val = f.val; omega
  | ⟨1, _⟩ => show win0_4.index t (1 : Fin 2) * 1024 + 1 * j.val = j.val; omega

/-- Block `t` of the result array: rows `512 t` on. -/
theorem emb5 (t : Fin cfg0.N) (r : Fin 512) (j : Fin 1024) :
    ((cfg0.win 5).blk t).view.emb (ix2 r j) = ix2 (⟨t.val * 512 + r.val, lt_rows t r⟩ : Fin 65536) j := by
  obtain ⟨-, -, h0, h1⟩ := idx_rows t
  refine funext fun a => Fin.ext ?_
  match a with
  | ⟨0, _⟩ => show win0_5.index t (0 : Fin 2) * 512 + 1 * r.val = t.val * 512 + r.val; omega
  | ⟨1, _⟩ => show win0_5.index t (1 : Fin 2) * 1024 + 1 * j.val = j.val; omega

/-- The arguments' feed-forward block. -/
abbrev GA (c : Dev nD) : Vec Ideal S65536x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What a grid point writes back is its block of `GA`. -/
theorem flushed_eq (c : Dev nD) (t : Fin cfg0.N) :
    (dats m 0 c).flushed 5 t = ((cfg0.win 5).blk t).view.read (Elt Ideal) (GA m c) := by
  rw [Cert.FfnIdeal.Value.flushed5]
  funext i
  obtain ⟨r, j, rfl⟩ : ∃ (r : Fin 512) (j : Fin 1024), i = ix2 r j := ⟨i 0, i 1, eq_ix2 i⟩
  show out0_5 (F := Ideal) (iblk m c 0 t) (iblk m c 1 t) (iblk m c 2 t) (iblk m c 3 t) (iblk m c 4 t) (ix2 r j)
    = GA m c (((cfg0.win 5).blk t).view.emb (ix2 r j))
  rw [emb5, out_apply]
  simp only [iblk0, iblk1, iblk2, iblk3, iblk4]
  rfl

/-- Every row is in the block of the point it falls in. -/
theorem covered (i : S65536x1024.Idx) :
    ∃ t : Fin cfg0.N, (cfg0.win 5).flush t = true ∧ i ∈ ((cfg0.win 5).blk t).view.set := by
  obtain ⟨r, j, rfl⟩ : ∃ (r : Fin 65536) (j : Fin 1024), i = ix2 r j := ⟨i 0, i 1, eq_ix2 i⟩
  have hr : r.val / 512 < 128 := by omega
  refine ⟨⟨r.val / 512, hr⟩, flush0_5 _, ?_⟩
  have h := ((cfg0.win 5).blk (⟨r.val / 512, hr⟩ : Fin cfg0.N)).view.emb_mem_set
    (ix2 (⟨r.val % 512, Nat.mod_lt _ (by decide)⟩ : Fin 512) j)
  rw [emb5] at h
  have e : (⟨r.val / 512 * 512 + r.val % 512, lt_rows ⟨r.val / 512, hr⟩ ⟨r.val % 512, Nat.mod_lt _ (by decide)⟩⟩ : Fin 65536) = r :=
    Fin.ext (by show r.val / 512 * 512 + r.val % 512 = r.val; omega)
  rwa [e] at h

theorem final (c : Dev nD) : (dats m 0 c).arrAt 5 cfg0.N = GA m c :=
  (dats m 0 c).arrAt_eq_of_cover 5 (GA m c) (fun t _ => flushed_eq m c t) covered

/-! ## The reference -/

/-- The reference's result array is the feed-forward block of every row. -/
theorem ref_run (m' : (ℓ : Loc Cert.FfnRefIdeal.nD Cert.FfnRefIdeal.τ Cert.FfnRefIdeal.sig) → Buf (Elt Ideal) ℓ)
    (ρ' : Dev Cert.FfnRefIdeal.nD → PrngReg) :
    θ_run Cert.FfnRefIdeal.defs (onTc (τ := Cert.FfnRefIdeal.τ) (Cert.FfnRefIdeal.main (F := Ideal))) ⟨m', fun _ => 0, ρ'⟩
      fun r => ∀ c : Dev Cert.FfnRefIdeal.nD,
        r.2.mem ((c.tc : Thread Cert.FfnRefIdeal.nD Cert.FfnRefIdeal.τ).loc Cert.FfnRefIdeal.main_v20)
          = G (m' ((c.tc : Thread Cert.FfnRefIdeal.nD Cert.FfnRefIdeal.τ).loc Cert.FfnRefIdeal.main_arg0))
              (m' ((c.tc : Thread Cert.FfnRefIdeal.nD Cert.FfnRefIdeal.τ).loc Cert.FfnRefIdeal.main_arg1))
              (m' ((c.tc : Thread Cert.FfnRefIdeal.nD Cert.FfnRefIdeal.τ).loc Cert.FfnRefIdeal.main_arg2))
              (m' ((c.tc : Thread Cert.FfnRefIdeal.nD Cert.FfnRefIdeal.τ).loc Cert.FfnRefIdeal.main_arg3))
              (m' ((c.tc : Thread Cert.FfnRefIdeal.nD Cert.FfnRefIdeal.τ).loc Cert.FfnRefIdeal.main_arg4))
        ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
        ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
        ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
        ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
        ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4) := by
  refine (θ_run Cert.FfnRefIdeal.defs _ _).mono (fun _ h c => ⟨(h c).1.trans ?_, (h c).2⟩)
    (Cert.FfnRefIdeal.Value.run (F := Ideal) m' ρ')
  funext i
  obtain ⟨r, j, rfl⟩ : ∃ (r : Fin 65536) (j : Fin 1024), i = ix2 r j := ⟨i 0, i 1, eq_ix2 i⟩
  pointwise [G, Spec.ffn, Spec.prod, Spec.act, Spec.sig, Spec.rms]

/-! ## The claims -/

theorem frame_bits : Cert.quiescent_Ffn (hFfn := Cert.Ffn.Gen.facts) := fun m ρ _ => Cert.Ffn.Gen.frame m ρ

theorem frame_ideal : Cert.quiescent_FfnIdeal (hFfnIdeal := Cert.FfnIdeal.Gen.facts) := fun m ρ _ =>
  Cert.FfnIdeal.Gen.frame m ρ

theorem frame_ref : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic : Cert.algebraic_FfnIdeal_FfnRefIdeal (hFfnIdeal := Cert.FfnIdeal.Gen.facts)
    (hFfnRefIdeal := Cert.FfnRefIdeal.Gen.facts) := by
  intro m ρ m' ρ' _ hagree
  refine ⟨fun c => GA m c, ?_, ?_⟩
  · exact (θ_run Cert.FfnIdeal.defs _ _).mono (fun r h c => ⟨(h c).1.trans (final m c), (h c).2⟩)
      (Cert.FfnIdeal.Value.run_blocks (F := Ideal) m ρ)
  · refine (θ_run Cert.FfnRefIdeal.defs _ _).mono (fun r h c => ⟨(h c).1.trans ?_, (h c).2⟩) (ref_run m' ρ')
    obtain ⟨h0, h1, h2, h3, h4⟩ := hagree c
    rw [h0, h1, h2, h3, h4]

end Cert.Proof.FfnValue

end
-- ==== Proof.MergeValue.lean ====
/-
  What the call that merges the attention with the recurrence and takes the rows through the feed-forward block computes: its
  block at a grid point is that of the point's 512 rows (`out_apply`), so the result array is that of every row (`final`); the
  plain reference computes the same of every row (`ref_run`).
-/
module

public import proofs.«01_k».proof.Defs
public import proofs.«01_k».proof.Proof.Spec
public import proofs.«01_k».proof.Proof.Gen.Merge.Frame
public import proofs.«01_k».proof.Proof.Gen.MergeIdeal.Value
public import proofs.«01_k».proof.Proof.Gen.MergeRefIdeal.Run
public import Idealize.ShloMosaic.Lib.Quiescent
public import Idealize.ShloMosaic.Lib.StableHlo.ReadAt

@[expose] public section

set_option maxRecDepth 16384

noncomputable section

namespace Cert.Proof.MergeValue

open Cert.MergeIdeal Cert.MergeIdeal.Gen Idealize.ShloMosaic Idealize.ShloMosaic.TcCoe Idealize.SL.Sem

/-! ## One block -/

/-- One chunk of the feed-forward width: the gated activation of the two products, through the chunk's rows of the last
    matrix. -/
def chunk (h : FVec Ideal S512x1024 .bf16) (a b : Vec Ideal S1024x256 .bf16) (d : Vec Ideal S256x1024 .bf16) :
    FVec Ideal S512x1024 .f32 :=
  matmul dot_S512x256_S256x1024_S512x1024_1_0_0_1_n_n none (k0_pay8 (F := Ideal) h a b) (k0_pay9 (F := Ideal) d)
    (constant S512x1024 .f32 0x00000000#32)

theorem hz : (![0, 0] : Fin 2 → Nat) = fun _ => 0 := funext fun a => by fin_cases a <;> rfl

variable (x0 : Vec Ideal S512x1024 .f32) (x1 x2 : Vec Ideal S512x512 .bf16) (x3 : Vec Ideal S512x2048 .f32)
  (x4 x5 : Vec Ideal S512x1024 .bf16) (x6 : Vec Ideal S1024x1024 .bf16) (x7 : Vec Ideal S1x1024 .f32)
  (x8 x9 : Vec Ideal S1024x2816 .bf16) (x10 : Vec Ideal S2816x1024 .bf16)

/-- The block's merged rows. -/
abbrev merged : FVec Ideal S512x1024 .f32 := k0_pay2 (F := Ideal) x3 x1 x4 x2 x5 x0 x6

/-- Rows normalised. -/
abbrev normed (y : FVec Ideal S512x1024 .f32) : FVec Ideal S512x1024 .bf16 := k0_pay3 (F := Ideal) y x7

/-- The block: its merged rows plus half the sum of the eleven chunks. -/
theorem out_eq : out0_11 (F := Ideal) x0 x1 x2 x3 x4 x5 x6 x7 x8 x9 x10 =
    addf (F := Ideal) (s := S512x1024) (merged x0 x1 x2 x3 x4 x5 x6) (mulf (broadcast S512x1024 (Scalar.ofBits .f32 0x3F000000#32))
      (addf (addf (addf (addf (addf (addf (addf (addf (addf (addf (addf (broadcast S512x1024 (Scalar.ofBits .f32 0x00000000#32))
        (chunk (normed x7 (merged x0 x1 x2 x3 x4 x5 x6)) (View.ld x8 r0_5) (View.ld x9 r0_5) (View.ld x10 r0_6)))
        (chunk (normed x7 (merged x0 x1 x2 x3 x4 x5 x6)) (View.ld x8 r0_7) (View.ld x9 r0_7) (View.ld x10 r0_8)))
        (chunk (normed x7 (merged x0 x1 x2 x3 x4 x5 x6)) (View.ld x8 r0_9) (View.ld x9 r0_9) (View.ld x10 r0_10)))
        (chunk (normed x7 (merged x0 x1 x2 x3 x4 x5 x6)) (View.ld x8 r0_11) (View.ld x9 r0_11) (View.ld x10 r0_12)))
        (chunk (normed x7 (merged x0 x1 x2 x3 x4 x5 x6)) (View.ld x8 r0_13) (View.ld x9 r0_13) (View.ld x10 r0_14)))
        (chunk (normed x7 (merged x0 x1 x2 x3 x4 x5 x6)) (View.ld x8 r0_15) (View.ld x9 r0_15) (View.ld x10 r0_16)))
        (chunk (normed x7 (merged x0 x1 x2 x3 x4 x5 x6)) (View.ld x8 r0_17) (View.ld x9 r0_17) (View.ld x10 r0_18)))
        (chunk (normed x7 (merged x0 x1 x2 x3 x4 x5 x6)) (View.ld x8 r0_19) (View.ld x9 r0_19) (View.ld x10 r0_20)))
        (chunk (normed x7 (merged x0 x1 x2 x3 x4 x5 x6)) (View.ld x8 r0_21) (View.ld x9 r0_21) (View.ld x10 r0_22)))
        (chunk (normed x7 (merged x0 x1 x2 x3 x4 x5 x6)) (View.ld x8 r0_23) (View.ld x9 r0_23) (View.ld x10 r0_24)))
        (chunk (normed x7 (merged x0 x1 x2 x3 x4 x5 x6)) (View.ld x8 r0_25) (View.ld x9 r0_25) (View.ld x10 r0_26)))) := by
  unfold out0_11
  rw [View.canon_unit_zero hz]
  unfold k0_pay22 k0_pay21
  rw [View.ld_unit_zero hz (S := S512x2048), View.ld_unit_zero hz (S := S1x1024), View.ld_unit_zero hz (S := S1024x1024)]
  rw [View.ld_unit_zero hz (S := S512x1024) _ x0, View.ld_unit_zero hz (S := S512x1024) _ x4,
    View.ld_unit_zero hz (S := S512x1024) _ x5, View.ld_unit_zero hz (S := S512x512) _ x1,
    View.ld_unit_zero hz (S := S512x512) _ x2]
  rfl

theorem merged_apply (r : Fin 512) (j : Fin 1024) :
    (merged x0 x1 x2 x3 x4 x5 x6) (ix2 r j) = Spec.merge (fun i => x0 (ix2 r i)) (fun i => x1 (ix2 r i)) (fun i => x2 (ix2 r i))
      (fun i => x3 (ix2 r i)) (fun k f => x4 (ix2 k f)) (fun k f => x5 (ix2 k f)) (fun k f => x6 (ix2 k f)) j := by
  pointwise [merged, k0_pay2, Spec.merge, Spec.prod, Spec.sig]
  simp only [zero_sub]

theorem normed_apply (y : FVec Ideal S512x1024 .f32) (r : Fin 512) (k : Fin 1024) :
    normed x7 y (ix2 r k) = Spec.rms (fun i => y (ix2 r i)) (fun i => x7 (ix2 0 i)) k := by
  pointwise [normed, k0_pay3, Spec.rms]

/-- The term of the feed-forward width that the last matrix takes to place `j` of row `r`. -/
def term (h : FVec Ideal S512x1024 .bf16) (r : Fin 512) (j : Fin 1024) (f : Fin 2816) : EReal :=
  Spec.act (Spec.prod (fun k => h (ix2 r k)) (fun k f => x8 (ix2 k f)) f)
    (Spec.prod (fun k => h (ix2 r k)) (fun k f => x9 (ix2 k f)) f) * x10 (ix2 f j)

/-- A chunk at an index is that term summed over the chunk's columns. -/
theorem chunk_apply (h : FVec Ideal S512x1024 .bf16) (a b : Vec Ideal S1024x256 .bf16) (d : Vec Ideal S256x1024 .bf16)
    (o : Nat) (ho : o + 256 ≤ 2816) (ha : ∀ k f, a (ix2 k f) = x8 (ix2 k ⟨o + f.1, by omega⟩))
    (hb : ∀ k f, b (ix2 k f) = x9 (ix2 k ⟨o + f.1, by omega⟩)) (hd : ∀ f j, d (ix2 f j) = x10 (ix2 ⟨o + f.1, by omega⟩ j))
    (r : Fin 512) (j : Fin 1024) : chunk h a b d (ix2 r j) = Spec.seg (term x8 x9 x10 h r j) o ho := by
  pointwise [chunk, k0_pay8, k0_pay9]
  refine Finset.sum_congr rfl fun f _ => ?_
  simp only [ha, hb, hd, term, Spec.act, Spec.sig, Spec.prod, zero_sub]

/-- The block at an index is the feed-forward block of its merged row. -/
theorem out_apply (r : Fin 512) (j : Fin 1024) : out0_11 (F := Ideal) x0 x1 x2 x3 x4 x5 x6 x7 x8 x9 x10 (ix2 r j) =
    Spec.ffn (Spec.merge (fun i => x0 (ix2 r i)) (fun i => x1 (ix2 r i)) (fun i => x2 (ix2 r i))
      (fun i => x3 (ix2 r i)) (fun k f => x4 (ix2 k f)) (fun k f => x5 (ix2 k f)) (fun k f => x6 (ix2 k f)))
      (fun k => x7 (ix2 0 k)) (fun k f => x8 (ix2 k f)) (fun k f => x9 (ix2 k f)) (fun f j => x10 (ix2 f j)) j := by
  rw [out_eq, ← show (fun k => merged x0 x1 x2 x3 x4 x5 x6 (ix2 r k)) = _ from funext fun k => merged_apply x0 x1 x2 x3 x4 x5 x6 r k]
  generalize merged x0 x1 x2 x3 x4 x5 x6 = y
  have hs : ∀ j, Spec.prod (fun f => Spec.act
      (Spec.prod (Spec.rms (fun k => y (ix2 r k)) (fun k => x7 (ix2 0 k))) (fun k f => x8 (ix2 k f)) f)
      (Spec.prod (Spec.rms (fun k => y (ix2 r k)) (fun k => x7 (ix2 0 k))) (fun k f => x9 (ix2 k f)) f))
      (fun f j => x10 (ix2 f j)) j = ∑ f, term x8 x9 x10 (normed x7 y) r j f := fun j =>
    Finset.sum_congr rfl fun f _ => by
      unfold term
      rw [show (fun k => normed x7 y (ix2 r k)) = Spec.rms (fun i => y (ix2 r i)) (fun i => x7 (ix2 0 i)) from
        funext fun k => normed_apply x7 y r k]
  unfold Spec.ffn
  rw [hs, Spec.sum_chunks]
  simp only [addf_apply, mulf_apply, Ideal.addf_def, Ideal.mulf_def]
  rw [chunk_apply x8 x9 x10 _ _ _ _ 0 (by decide) (fun k f => by pointwise []) (fun k f => by pointwise []) (fun f j => by pointwise []),
    chunk_apply x8 x9 x10 _ _ _ _ 256 (by decide) (fun k f => by pointwise []) (fun k f => by pointwise []) (fun f j => by pointwise []),
    chunk_apply x8 x9 x10 _ _ _ _ 512 (by decide) (fun k f => by pointwise []) (fun k f => by pointwise []) (fun f j => by pointwise []),
    chunk_apply x8 x9 x10 _ _ _ _ 768 (by decide) (fun k f => by pointwise []) (fun k f => by pointwise []) (fun f j => by pointwise []),
    chunk_apply x8 x9 x10 _ _ _ _ 1024 (by decide) (fun k f => by pointwise []) (fun k f => by pointwise []) (fun f j => by pointwise []),
    chunk_apply x8 x9 x10 _ _ _ _ 1280 (by decide) (fun k f => by pointwise []) (fun k f => by pointwise []) (fun f j => by pointwise []),
    chunk_apply x8 x9 x10 _ _ _ _ 1536 (by decide) (fun k f => by pointwise []) (fun k f => by pointwise []) (fun f j => by pointwise []),
    chunk_apply x8 x9 x10 _ _ _ _ 1792 (by decide) (fun k f => by pointwise []) (fun k f => by pointwise []) (fun f j => by pointwise []),
    chunk_apply x8 x9 x10 _ _ _ _ 2048 (by decide) (fun k f => by pointwise []) (fun k f => by pointwise []) (fun f j => by pointwise []),
    chunk_apply x8 x9 x10 _ _ _ _ 2304 (by decide) (fun k f => by pointwise []) (fun k f => by pointwise []) (fun f j => by pointwise []),
    chunk_apply x8 x9 x10 _ _ _ _ 2560 (by decide) (fun k f => by pointwise []) (fun k f => by pointwise []) (fun f j => by pointwise [])]
  pointwise []

/-! ## The array -/

/-- The merge and the feed-forward block of every row. -/
def G (x : Vec Ideal S65536x1024 .f32) (a r : Vec Ideal S65536x512 .f32) (p : Vec Ideal S65536x2048 .f32)
    (wa wh : Vec Ideal S512x1024 .f32) (wo : Vec Ideal S1024x1024 .f32) (g : Vec Ideal S1024 .f32)
    (wg wu : Vec Ideal S1024x2816 .f32) (wd : Vec Ideal S2816x1024 .f32) : Vec Ideal S65536x1024 .f32 := fun i =>
  Spec.ffn (Spec.merge (fun k => x (ix2 (i 0) k)) (fun k => a (ix2 (i 0) k)) (fun k => r (ix2 (i 0) k))
      (fun k => p (ix2 (i 0) k)) (fun k f => wa (ix2 k f)) (fun k f => wh (ix2 k f)) (fun k f => wo (ix2 k f)))
    (fun k => g (ix1 k)) (fun k f => wg (ix2 k f)) (fun k f => wu (ix2 k f)) (fun f j => wd (ix2 f j)) (i 1)

variable (m : (ℓ : Loc nD τ sig) → Buf (Elt Ideal) ℓ) (ρ : Dev nD → PrngReg)

/-- The gain as a row of the block's shape, and what the host rounds: at the extended reals, the arguments. -/
theorem V_gain (c : Dev nD) (k : Fin 1024) : V m c main_v8 (ix2 0 k) = m ((c : Thread nD τ).loc main_arg7) (ix1 k) := by
  unfold V; after_reads_at

theorem V_1 (c : Dev nD) : V m c main_v0 = m ((c : Thread nD τ).loc main_arg1) := by
  unfold V; after_results; rfl

theorem V_2 (c : Dev nD) : V m c main_v1 = m ((c : Thread nD τ).loc main_arg2) := by
  unfold V; after_results; rfl

theorem V_4 (c : Dev nD) : V m c main_v2 = m ((c : Thread nD τ).loc main_arg4) := by
  unfold V; after_results; rfl

theorem V_5 (c : Dev nD) : V m c main_v3 = m ((c : Thread nD τ).loc main_arg5) := by
  unfold V; after_results; rfl

theorem V_6 (c : Dev nD) : V m c main_v4 = m ((c : Thread nD τ).loc main_arg6) := by
  unfold V; after_results; rfl

theorem V_8 (c : Dev nD) : V m c main_v5 = m ((c : Thread nD τ).loc main_arg8) := by
  unfold V; after_results; rfl

theorem V_9 (c : Dev nD) : V m c main_v6 = m ((c : Thread nD τ).loc main_arg9) := by
  unfold V; after_results; rfl

theorem V_10 (c : Dev nD) : V m c main_v7 = m ((c : Thread nD τ).loc main_arg10) := by
  unfold V; after_results; rfl

theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_11.index t (0 : Fin 2) = t.val ∧ win0_11.index t (1 : Fin 2) = 0) :=
  (by decide +kernel : ∀ t : Fin grid0.N, _)

theorem idx_whole : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem lt_rows (t : Fin cfg0.N) (r : Fin 512) : t.val * 512 + r.val < 65536 := by
  have h : t.val < 128 := t.isLt
  omega

theorem iblk0 (c : Dev nD) (t : Fin cfg0.N) (r : Fin 512) (k : Fin 1024) :
    iblk m c 0 t (ix2 r k) = m ((c : Thread nD τ).loc main_arg0) (ix2 ⟨t.val * 512 + r.val, lt_rows t r⟩ k) := by
  obtain ⟨⟨h0, h1⟩, -, -, -, -⟩ := idx_rows t
  show V m c main_arg0 (((cfg0.win 0).blk t).view.emb (ix2 r k)) = _
  refine Eq.trans ?_ (congrFun (V_main_arg0 m c) _)
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

theorem iblk1 (c : Dev nD) (t : Fin cfg0.N) (r : Fin 512) (k : Fin 512) :
    iblk m c 1 t (ix2 r k) = m ((c : Thread nD τ).loc main_arg1) (ix2 ⟨t.val * 512 + r.val, lt_rows t r⟩ k) := by
  obtain ⟨-, ⟨h0, h1⟩, -, -, -⟩ := idx_rows t
  show V m c main_v0 (((cfg0.win 1).blk t).view.emb (ix2 r k)) = _
  refine Eq.trans ?_ (congrFun (V_1 m c) _)
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 512 + 1 * k.val = k.val; omega

theorem iblk2 (c : Dev nD) (t : Fin cfg0.N) (r : Fin 512) (k : Fin 512) :
    iblk m c 2 t (ix2 r k) = m ((c : Thread nD τ).loc main_arg2) (ix2 ⟨t.val * 512 + r.val, lt_rows t r⟩ k) := by
  obtain ⟨-, -, ⟨h0, h1⟩, -, -⟩ := idx_rows t
  show V m c main_v1 (((cfg0.win 2).blk t).view.emb (ix2 r k)) = _
  refine Eq.trans ?_ (congrFun (V_2 m c) _)
  refine congrArg _ (funext fun a => Fin.ext ?_)
  match a with
  | ⟨0, _⟩ => show win0_2.index t (0 : Fin 2) * 512 + 1 * r.val = t.val * 512 + r.val; omega
  | ⟨1, _⟩ => show win0_2.index t (1 : Fin 2) * 512 + 1 * k.val = k.val; omega

theorem iblk3 (c : Dev nD) (t : Fin cfg0.N) (r : Fin 512) (k : Fin 2048) :
    iblk m c 3 t (ix2 r k) = m ((c : Thread nD τ).loc main_arg3) (ix2 ⟨t.val * 512 + r.val, lt_rows t r⟩ k) := by
  obtain ⟨-, -, -, ⟨h0, h1⟩, -⟩ := idx_rows t
  show V m c main_arg3 (((cfg0.win 3).blk t).view.emb (ix2 r k)) = _
  refine Eq.trans ?_ (congrFun (V_main_arg3 m c) _)
  refine congrArg _ (funext fun a => Fin.ext ?_)
  match a with
  | ⟨0, _⟩ => show win0_3.index t (0 : Fin 2) * 512 + 1 * r.val = t.val * 512 + r.val; omega
  | ⟨1, _⟩ => show win0_3.index t (1 : Fin 2) * 2048 + 1 * k.val = k.val; omega

theorem iblk7 (c : Dev nD) (t : Fin cfg0.N) (k : Fin 1024) :
    iblk m c 7 t (ix2 0 k) = m ((c : Thread nD τ).loc main_arg7) (ix1 k) := by
  obtain ⟨-, -, -, ⟨h0, h1⟩, -, -, -⟩ := idx_whole t
  refine Eq.trans ?_ (V_gain m c k)
  show V m c main_v8 (((cfg0.win 7).blk t).view.emb (ix2 0 k)) = _
  refine congrArg _ (funext fun a => Fin.ext ?_)
  match a with
  | ⟨0, _⟩ => show win0_7.index t (0 : Fin 2) * 1 + 1 * 0 = 0; omega
  | ⟨1, _⟩ => show win0_7.index t (1 : Fin 2) * 1024 + 1 * k.val = k.val; omega

theorem iblk4 (c : Dev nD) (t : Fin cfg0.N) (k : Fin 512) (f : Fin 1024) :
    iblk m c 4 t (ix2 k f) = m ((c : Thread nD τ).loc main_arg4) (ix2 k f) := by
  obtain ⟨⟨h0, h1⟩, -, -, -, -, -, -⟩ := idx_whole t
  refine Eq.trans ?_ (congrFun (V_4 m c) _)
  show V m c main_v2 (((cfg0.win 4).blk t).view.emb (ix2 k f)) = _
  refine congrArg _ (funext fun a => Fin.ext ?_)
  match a with
  | ⟨0, _⟩ => show win0_4.index t (0 : Fin 2) * 512 + 1 * k.val = k.val; omega
  | ⟨1, _⟩ => show win0_4.index t (1 : Fin 2) * 1024 + 1 * f.val = f.val; omega

theorem iblk5 (c : Dev nD) (t : Fin cfg0.N) (k : Fin 512) (f : Fin 1024) :
    iblk m c 5 t (ix2 k f) = m ((c : Thread nD τ).loc main_arg5) (ix2 k f) := by
  obtain ⟨-, ⟨h0, h1⟩, -, -, -, -, -⟩ := idx_whole t
  refine Eq.trans ?_ (congrFun (V_5 m c) _)
  show V m c main_v3 (((cfg0.win 5).blk t).view.emb (ix2 k f)) = _
  refine congrArg _ (funext fun a => Fin.ext ?_)
  match a with
  | ⟨0, _⟩ => show win0_5.index t (0 : Fin 2) * 512 + 1 * k.val = k.val; omega
  | ⟨1, _⟩ => show win0_5.index t (1 : Fin 2) * 1024 + 1 * f.val = f.val; omega

theorem iblk6 (c : Dev nD) (t : Fin cfg0.N) (k : Fin 1024) (f : Fin 1024) :
    iblk m c 6 t (ix2 k f) = m ((c : Thread nD τ).loc main_arg6) (ix2 k f) := by
  obtain ⟨-, -, ⟨h0, h1⟩, -, -, -, -⟩ := idx_whole t
  refine Eq.trans ?_ (congrFun (V_6 m c) _)
  show V m c main_v4 (((cfg0.win 6).blk t).view.emb (ix2 k f)) = _
  refine congrArg _ (funext fun a => Fin.ext ?_)
  match a with
  | ⟨0, _⟩ => show win0_6.index t (0 : Fin 2) * 1024 + 1 * k.val = k.val; omega
  | ⟨1, _⟩ => show win0_6.index t (1 : Fin 2) * 1024 + 1 * f.val = f.val; omega

theorem iblk8 (c : Dev nD) (t : Fin cfg0.N) (k : Fin 1024) (f : Fin 2816) :
    iblk m c 8 t (ix2 k f) = m ((c : Thread nD τ).loc main_arg8) (ix2 k f) := by
  obtain ⟨-, -, -, -, ⟨h0, h1⟩, -, -⟩ := idx_whole t
  refine Eq.trans ?_ (congrFun (V_8 m c) _)
  show V m c main_v5 (((cfg0.win 8).blk t).view.emb (ix2 k f)) = _
  refine congrArg _ (funext fun a => Fin.ext ?_)
  match a with
  | ⟨0, _⟩ => show win0_8.index t (0 : Fin 2) * 1024 + 1 * k.val = k.val; omega
  | ⟨1, _⟩ => show win0_8.index t (1 : Fin 2) * 2816 + 1 * f.val = f.val; omega

theorem iblk9 (c : Dev nD) (t : Fin cfg0.N) (k : Fin 1024) (f : Fin 2816) :
    iblk m c 9 t (ix2 k f) = m ((c : Thread nD τ).loc main_arg9) (ix2 k f) := by
  obtain ⟨-, -, -, -, -, ⟨h0, h1⟩, -⟩ := idx_whole t
  refine Eq.trans ?_ (congrFun (V_9 m c) _)
  show V m c main_v6 (((cfg0.win 9).blk t).view.emb (ix2 k f)) = _
  refine congrArg _ (funext fun a => Fin.ext ?_)
  match a with
  | ⟨0, _⟩ => show win0_9.index t (0 : Fin 2) * 1024 + 1 * k.val = k.val; omega
  | ⟨1, _⟩ => show win0_9.index t (1 : Fin 2) * 2816 + 1 * f.val = f.val; omega

theorem iblk10 (c : Dev nD) (t : Fin cfg0.N) (k : Fin 2816) (f : Fin 1024) :
    iblk m c 10 t (ix2 k f) = m ((c : Thread nD τ).loc main_arg10) (ix2 k f) := by
  obtain ⟨-, -, -, -, -, -, ⟨h0, h1⟩⟩ := idx_whole t
  refine Eq.trans ?_ (congrFun (V_10 m c) _)
  show V m c main_v7 (((cfg0.win 10).blk t).view.emb (ix2 k f)) = _
  refine congrArg _ (funext fun a => Fin.ext ?_)
  match a with
  | ⟨0, _⟩ => show win0_10.index t (0 : Fin 2) * 2816 + 1 * k.val = k.val; omega
  | ⟨1, _⟩ => show win0_10.index t (1 : Fin 2) * 1024 + 1 * f.val = f.val; omega

/-- Block `t` of the result array: rows `512 t` on. -/
theorem emb11 (t : Fin cfg0.N) (r : Fin 512) (j : Fin 1024) :
    ((cfg0.win 11).blk t).view.emb (ix2 r j) = ix2 (⟨t.val * 512 + r.val, lt_rows t r⟩ : Fin 65536) j := by
  obtain ⟨-, -, -, -, ⟨h0, h1⟩⟩ := idx_rows t
  refine funext fun a => Fin.ext ?_
  match a with
  | ⟨0, _⟩ => show win0_11.index t (0 : Fin 2) * 512 + 1 * r.val = t.val * 512 + r.val; omega
  | ⟨1, _⟩ => show win0_11.index t (1 : Fin 2) * 1024 + 1 * j.val = j.val; omega

/-- The merge and the feed-forward block of the arguments. -/
abbrev GA (c : Dev nD) : Vec Ideal S65536x1024 .f32 :=
  G (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))

/-- What a grid point writes back is its block of `GA`. -/
theorem flushed_eq (c : Dev nD) (t : Fin cfg0.N) :
    (dats m 0 c).flushed 11 t = ((cfg0.win 11).blk t).view.read (Elt Ideal) (GA m c) := by
  rw [Cert.MergeIdeal.Value.flushed11]
  funext i
  obtain ⟨r, j, rfl⟩ : ∃ (r : Fin 512) (j : Fin 1024), i = ix2 r j := ⟨i 0, i 1, eq_ix2 i⟩
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = GA m c (((cfg0.win 11).blk t).view.emb (ix2 r j))
  rw [emb11, out_apply]
  simp only [iblk0, iblk1, iblk2, iblk3, iblk4, iblk5, iblk6, iblk7, iblk8, iblk9, iblk10]
  rfl

/-- Every row is in the block of the point it falls in. -/
theorem covered (i : S65536x1024.Idx) :
    ∃ t : Fin cfg0.N, (cfg0.win 11).flush t = true ∧ i ∈ ((cfg0.win 11).blk t).view.set := by
  obtain ⟨r, j, rfl⟩ : ∃ (r : Fin 65536) (j : Fin 1024), i = ix2 r j := ⟨i 0, i 1, eq_ix2 i⟩
  have hr : r.val / 512 < 128 := by omega
  refine ⟨⟨r.val / 512, hr⟩, flush0_11 _, ?_⟩
  have h := ((cfg0.win 11).blk (⟨r.val / 512, hr⟩ : Fin cfg0.N)).view.emb_mem_set
    (ix2 (⟨r.val % 512, Nat.mod_lt _ (by decide)⟩ : Fin 512) j)
  rw [emb11] at h
  have e : (⟨r.val / 512 * 512 + r.val % 512, lt_rows ⟨r.val / 512, hr⟩ ⟨r.val % 512, Nat.mod_lt _ (by decide)⟩⟩ : Fin 65536) = r :=
    Fin.ext (by show r.val / 512 * 512 + r.val % 512 = r.val; omega)
  rwa [e] at h

theorem final (c : Dev nD) : (dats m 0 c).arrAt 11 cfg0.N = GA m c :=
  (dats m 0 c).arrAt_eq_of_cover 11 (GA m c) (fun t _ => flushed_eq m c t) covered

/-! ## The reference -/

/-- The reference's result array is the merge and the feed-forward block of every row. -/
theorem ref_run (m' : (ℓ : Loc Cert.MergeRefIdeal.nD Cert.MergeRefIdeal.τ Cert.MergeRefIdeal.sig) → Buf (Elt Ideal) ℓ)
    (ρ' : Dev Cert.MergeRefIdeal.nD → PrngReg) :
    θ_run Cert.MergeRefIdeal.defs (onTc (τ := Cert.MergeRefIdeal.τ) (Cert.MergeRefIdeal.main (F := Ideal))) ⟨m', fun _ => 0, ρ'⟩
      fun r => ∀ c : Dev Cert.MergeRefIdeal.nD,
        r.2.mem ((c.tc : Thread Cert.MergeRefIdeal.nD Cert.MergeRefIdeal.τ).loc Cert.MergeRefIdeal.main_v41)
          = G (m' ((c.tc : Thread Cert.MergeRefIdeal.nD Cert.MergeRefIdeal.τ).loc Cert.MergeRefIdeal.main_arg0))
      (m' ((c.tc : Thread Cert.MergeRefIdeal.nD Cert.MergeRefIdeal.τ).loc Cert.MergeRefIdeal.main_arg1))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg3))
      (m' ((c.tc : Thread Cert.MergeRefIdeal.nD Cert.MergeRefIdeal.τ).loc Cert.MergeRefIdeal.main_arg4))
      (m' ((c.tc : Thread Cert.MergeRefIdeal.nD Cert.MergeRefIdeal.τ).loc Cert.MergeRefIdeal.main_arg5))
      (m' ((c.tc : Thread Cert.MergeRefIdeal.nD Cert.MergeRefIdeal.τ).loc Cert.MergeRefIdeal.main_arg6))
      (m' ((c.tc : Thread Cert.MergeRefIdeal.nD Cert.MergeRefIdeal.τ).loc Cert.MergeRefIdeal.main_arg7))
      (m' ((c.tc : Thread Cert.MergeRefIdeal.nD Cert.MergeRefIdeal.τ).loc Cert.MergeRefIdeal.main_arg8))
      (m' ((c.tc : Thread Cert.MergeRefIdeal.nD Cert.MergeRefIdeal.τ).loc Cert.MergeRefIdeal.main_arg9))
      (m' ((c.tc : Thread Cert.MergeRefIdeal.nD Cert.MergeRefIdeal.τ).loc Cert.MergeRefIdeal.main_arg10))
        ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
        ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
        ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
        ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
        ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
        ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
        ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
        ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
        ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
        ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
        ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10) := by
  refine (θ_run Cert.MergeRefIdeal.defs _ _).mono (fun _ h c => ⟨(h c).1.trans ?_, (h c).2⟩)
    (Cert.MergeRefIdeal.Value.run (F := Ideal) m' ρ')
  funext i
  obtain ⟨r, j, rfl⟩ : ∃ (r : Fin 65536) (j : Fin 1024), i = ix2 r j := ⟨i 0, i 1, eq_ix2 i⟩
  pointwise [Cert.MergeRefIdeal.Value.res_main_v41, G, Spec.ffn, Spec.merge, Spec.prod, Spec.act, Spec.sig, Spec.rms]

/-! ## The claims -/

theorem frame_bits : Cert.quiescent_Merge (hMerge := Cert.Merge.Gen.facts) := fun m ρ _ => Cert.Merge.Gen.frame m ρ

theorem frame_ideal : Cert.quiescent_MergeIdeal (hMergeIdeal := Cert.MergeIdeal.Gen.facts) := fun m ρ _ =>
  Cert.MergeIdeal.Gen.frame m ρ

theorem frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic : Cert.algebraic_MergeIdeal_MergeRefIdeal (hMergeIdeal := Cert.MergeIdeal.Gen.facts)
    (hMergeRefIdeal := Cert.MergeRefIdeal.Gen.facts) := by
  intro m ρ m' ρ' _ hagree
  refine ⟨fun c => GA m c, ?_, ?_⟩
  · exact (θ_run Cert.MergeIdeal.defs _ _).mono (fun r h c => ⟨(h c).1.trans (final m c), (h c).2⟩)
      (Cert.MergeIdeal.Value.run_blocks (F := Ideal) m ρ)
  · refine (θ_run Cert.MergeRefIdeal.defs _ _).mono (fun r h c => ⟨(h c).1.trans ?_, (h c).2⟩) (ref_run m' ρ')
    obtain ⟨h0, h1, h2, h3, h4, h5, h6, h7, h8, h9, h10⟩ := hagree c
    rw [h0, h1, h2, h3, h4, h5, h6, h7, h8, h9, h10]

end Cert.Proof.MergeValue

end
-- ==== Proof.ProjIdealFrame.lean ====
/-
  The run of the call of the input projections (over the extended reals and any other numbers): every point of its grid reads
  its sixteen blocks and fills its eleven result blocks with functions of them (`body_at`), so the call ends with each result
  array as the points wrote it, its arguments as they were and every semaphore at zero (`run`, `frame`).
-/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Proof.ProjIdealFrame

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the grid -/

/-- What core `c`'s arrays hold when the grid starts: what the host operations before it leave of the launch's memory. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_total : (hostOps0 : List (HloOp τ sig (Elt F))).Forall fun op => op.fresh = ∅ := by
  simp only [List.Forall]; repeat' constructor
theorem hostOps0_1_total : (hostOps0_1 : List (HloOp τ sig (Elt F))).Forall fun op => op.fresh = ∅ := by
  simp only [List.Forall]; repeat' constructor
theorem hostOps0_2_total : (hostOps0_2 : List (HloOp τ sig (Elt F))).Forall fun op => op.fresh = ∅ := by
  simp only [List.Forall]; repeat' constructor
theorem hostOps0_3_total : (hostOps0_3 : List (HloOp τ sig (Elt F))).Forall fun op => op.fresh = ∅ := by
  simp only [List.Forall]; repeat' constructor
theorem hostOps0_4_total : (hostOps0_4 : List (HloOp τ sig (Elt F))).Forall fun op => op.fresh = ∅ := by
  simp only [List.Forall]; repeat' constructor

set_option maxHeartbeats 800000 in
/-- The program is its host operations, then the grid. -/
theorem upto (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_total, hostOps0_1_total, hostOps0_2_total, hostOps0_3_total, hostOps0_4_total⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))

/-- Window `w`'s block at point `t`. -/
def blk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves -/

abbrev atS256x1024 : Rect S256x1024 := Rect.unit (s := S256x1024) ![0, 0] S256x1024.size inb_S256x1024_S256x1024_0_0
abbrev atS1x1024 : Rect S1x1024 := Rect.unit (s := S1x1024) ![0, 0] S1x1024.size inb_S1x1024_S1x1024_0_0
abbrev atS256x128 : Rect S256x128 := Rect.unit (s := S256x128) ![0, 0] S256x128.size inb_S256x128_S256x128_0_0
abbrev atS1024x512 : Rect S1024x512 := Rect.unit (s := S1024x512) ![0, 0] S1024x512.size inb_S1024x512_S1024x512_0_0
abbrev atS1x512 : Rect S1x512 := Rect.unit (s := S1x512) ![0, 0] S1x512.size inb_S1x512_S1x512_0_0
abbrev atS512x512 : Rect S512x512 := Rect.unit (s := S512x512) ![0, 0] S512x512.size inb_S512x512_S512x512_0_0
abbrev atS512x2048 : Rect S512x2048 := Rect.unit (s := S512x2048) ![0, 0] S512x2048.size inb_S512x2048_S512x2048_0_0
abbrev atS256x2048 : Rect S256x2048 := Rect.unit (s := S256x2048) ![0, 0] S256x2048.size inb_S256x2048_S256x2048_0_0
abbrev atS1024x256 : Rect S1024x256 := Rect.unit (s := S1024x256) ![0, 0] S1024x256.size inb_S1024x256_S1024x256_0_0
abbrev atS1x256 : Rect S1x256 := Rect.unit (s := S1x256) ![0, 0] S1x256.size inb_S1x256_S1x256_0_0
abbrev atCorner : Rect S512x512 := Rect.unit (s := S512x512) ![0, 0] S256x256.size inb_S512x512_S256x256_0_0
abbrev atS256x256 : Rect S256x256 := Rect.unit (s := S256x256) ![0, 0] S256x256.size inb_S256x256_S256x256_0_0
abbrev atS1024x2048 : Rect S1024x2048 := Rect.unit (s := S1024x2048) ![0, 0] S1024x2048.size inb_S1024x2048_S1024x2048_0_0
abbrev atS256x64 : Rect S256x64 := Rect.unit (s := S256x64) ![0, 0] S256x64.size inb_S256x64_S256x64_0_0
abbrev atS1x256x256 : Rect S1x256x256 := Rect.unit (s := S1x256x256) ![0, 0, 0] S1x256x256.size inb_S1x256x256_S1x256x256_0_0_0
abbrev atS1024x128 : Rect S1024x128 := Rect.unit (s := S1024x128) ![0, 0] S1024x128.size inb_S1024x128_S1024x128_0_0

variable (x0 : Vec F S256x1024 .f32) (x1 : Vec F S1x1024 .f32) (x2 : Vec F S1024x512 .bf16) (x3 : Vec F S1024x256 .bf16) (x4 : Vec F S1024x256 .bf16) (x5 : Vec F S1024x2048 .bf16) (x6 : Vec F S1024x256 .bf16) (x7 : Vec F S1024x128 .bf16) (x8 : Vec F S1024x2048 .bf16) (x9 : Vec F S1024x2048 .bf16) (x10 : Vec F S512x512 .bf16) (x11 : Vec F S512x2048 .bf16) (x12 : Vec F S1x512 .f32) (x13 : Vec F S1x256 .f32) (x14 : Vec F S256x128 .f32) (x15 : Vec F S256x128 .f32)

/-- The rows, normalised. -/
def normedRows := k0_pay2 (View.ld x0 atS256x1024) (View.ld x1 atS1x1024)
/-- The cosines. -/
def cosRows := k0_pay3 (View.ld x14 atS256x128)
/-- The sines. -/
def sinRows := k0_pay4 (View.ld x15 atS256x128)
/-- The keys before their norm. -/
def keyRows := k0_pay9 (normedRows x0 x1) (View.ld x3 atS1024x256)
/-- The keys' gain. -/
def keyGain := k0_pay10 (View.ld x13 atS1x256)
/-- The squared keys' leading part. -/
def keyHi := k0_pay13 (normedRows x0 x1) (View.ld x3 atS1024x256)
/-- The matrix that takes the means. -/
def ones := k0_pay14 (View.ld x10 atCorner)
/-- The means of the leading part. -/
def keyMeans := k0_pay15 (normedRows x0 x1) (View.ld x3 atS1024x256) (View.ld x10 atCorner)
/-- The block of the queries. -/
def outQ : Vec F S256x2048 .bf16 := View.canon [⟨atS256x2048, k0_pay8 (cosRows x14) (sinRows x15) (k0_pay5 (View.ld x0 atS256x1024) (View.ld x1 atS1x1024) (View.ld x2 atS1024x512)) (k0_pay6 (View.ld x12 atS1x512)) (k0_pay7 (View.ld x0 atS256x1024) (View.ld x1 atS1x1024) (View.ld x2 atS1024x512) (View.ld x10 atS512x512)) (View.ld x11 atS512x2048)⟩]
/-- The block of the keys. -/
def outK : Vec F S256x256 .f32 := View.canon [⟨atS256x256, k0_pay16 (cosRows x14) (sinRows x15) (keyRows x0 x1 x3) (keyGain x13) (keyHi x0 x1 x3) (ones x10) (keyMeans x0 x1 x3 x10)⟩]
/-- The block of the values. -/
def outV : Vec F S256x256 .f32 := View.canon [⟨atS256x256, k0_pay17 (normedRows x0 x1) (View.ld x4 atS1024x256)⟩]
/-- The block of the values, packed. -/
def outVb : Vec F S256x256 .bf16 := View.canon [⟨atS256x256, k0_pay18 (normedRows x0 x1) (View.ld x4 atS1024x256)⟩]
/-- The block of the index queries. -/
def outQc : Vec F S256x2048 .bf16 := View.canon [⟨atS256x2048, k0_pay23 (k0_pay19 (normedRows x0 x1) (View.ld x5 atS1024x2048)) (k0_pay20 (cosRows x14)) (k0_pay21 (sinRows x15)) (iota .tc S256x2048 32 [1] iota_S256x2048_d1_w32) k0_pay22⟩]
/-- The block of the index keys. -/
def outKi : Vec F S256x64 .f32 := View.canon [⟨atS256x64, k0_pay25 (normedRows x0 x1) (cosRows x14) (sinRows x15) (View.ld x6 atS1024x256)⟩]
/-- The block of the index weights. -/
def outWi : Vec F S256x128 .f32 := View.canon [⟨atS256x128, k0_pay28 (normedRows x0 x1) (View.ld x7 atS1024x128)⟩]
/-- The block of the recurrence's inputs. -/
def outH : Vec F S256x2048 .f32 := View.canon [⟨atS256x2048, k0_pay29 (normedRows x0 x1) (View.ld x8 atS1024x2048)⟩]
/-- The block of the gates. -/
def outG : Vec F S256x2048 .f32 := View.canon [⟨atS256x2048, k0_pay1 (normedRows x0 x1) (k0_pay30 (View.ld x9 atS1024x2048))⟩]
/-- The block of the keys turned on their side. -/
def outKt : Vec F S1x256x256 .bf16 := View.canon [⟨atS1x256x256, k0_pay26 (k0_pay16 (cosRows x14) (sinRows x15) (keyRows x0 x1 x3) (keyGain x13) (keyHi x0 x1 x3) (ones x10) (keyMeans x0 x1 x3 x10))⟩]
/-- The block of the index keys turned on their side. -/
def outKiT : Vec F S1x256x256 .bf16 := View.canon [⟨atS1x256x256, k0_pay27 (k0_pay24 (normedRows x0 x1) (cosRows x14) (sinRows x15) (View.ld x6 atS1024x256))⟩]

theorem whole_S256x2048_bf16 (p : Vec F S256x2048 .bf16) (y : S256x2048.Idx) :
    ∃ pc ∈ ([⟨atS256x2048, p⟩] : List (View.Piece (Elt F) S256x2048 .bf16)), y ∈ pc.1.set :=
  View.cover_of_tiled [⟨atS256x2048, p⟩] S256x2048.size (by rfl) y
theorem whole_S256x256_f32 (p : Vec F S256x256 .f32) (y : S256x256.Idx) :
    ∃ pc ∈ ([⟨atS256x256, p⟩] : List (View.Piece (Elt F) S256x256 .f32)), y ∈ pc.1.set :=
  View.cover_of_tiled [⟨atS256x256, p⟩] S256x256.size (by rfl) y
theorem whole_S256x256_bf16 (p : Vec F S256x256 .bf16) (y : S256x256.Idx) :
    ∃ pc ∈ ([⟨atS256x256, p⟩] : List (View.Piece (Elt F) S256x256 .bf16)), y ∈ pc.1.set :=
  View.cover_of_tiled [⟨atS256x256, p⟩] S256x256.size (by rfl) y
theorem whole_S256x64_f32 (p : Vec F S256x64 .f32) (y : S256x64.Idx) :
    ∃ pc ∈ ([⟨atS256x64, p⟩] : List (View.Piece (Elt F) S256x64 .f32)), y ∈ pc.1.set :=
  View.cover_of_tiled [⟨atS256x64, p⟩] S256x64.size (by rfl) y
theorem whole_S256x128_f32 (p : Vec F S256x128 .f32) (y : S256x128.Idx) :
    ∃ pc ∈ ([⟨atS256x128, p⟩] : List (View.Piece (Elt F) S256x128 .f32)), y ∈ pc.1.set :=
  View.cover_of_tiled [⟨atS256x128, p⟩] S256x128.size (by rfl) y
theorem whole_S256x2048_f32 (p : Vec F S256x2048 .f32) (y : S256x2048.Idx) :
    ∃ pc ∈ ([⟨atS256x2048, p⟩] : List (View.Piece (Elt F) S256x2048 .f32)), y ∈ pc.1.set :=
  View.cover_of_tiled [⟨atS256x2048, p⟩] S256x2048.size (by rfl) y
theorem whole_S1x256x256_bf16 (p : Vec F S1x256x256 .bf16) (y : S1x256x256.Idx) :
    ∃ pc ∈ ([⟨atS1x256x256, p⟩] : List (View.Piece (Elt F) S1x256x256 .bf16)), y ∈ pc.1.set :=
  View.cover_of_tiled [⟨atS1x256x256, p⟩] S1x256x256.size (by rfl) y

set_option maxHeartbeats 4000000 in
/-- The body reads its inputs' buffers, leaves them, and leaves each result's buffer as its stores say. -/
theorem body_runs (c : Dev nD) (E : Set ℕ) (i : grid0.Coords) (a0 : Memref sig .tc .vmem S256x1024 .f32) (h0 : a0.IsWhole) (a1 : Memref sig .tc .vmem S1x1024 .f32) (h1 : a1.IsWhole) (a2 : Memref sig .tc .vmem S1024x512 .bf16) (h2 : a2.IsWhole) (a3 : Memref sig .tc .vmem S1024x256 .bf16) (h3 : a3.IsWhole) (a4 : Memref sig .tc .vmem S1024x256 .bf16) (h4 : a4.IsWhole) (a5 : Memref sig .tc .vmem S1024x2048 .bf16) (h5 : a5.IsWhole) (a6 : Memref sig .tc .vmem S1024x256 .bf16) (h6 : a6.IsWhole) (a7 : Memref sig .tc .vmem S1024x128 .bf16) (h7 : a7.IsWhole) (a8 : Memref sig .tc .vmem S1024x2048 .bf16) (h8 : a8.IsWhole) (a9 : Memref sig .tc .vmem S1024x2048 .bf16) (h9 : a9.IsWhole) (a10 : Memref sig .tc .vmem S512x512 .bf16) (h10 : a10.IsWhole) (a11 : Memref sig .tc .vmem S512x2048 .bf16) (h11 : a11.IsWhole) (a12 : Memref sig .tc .vmem S1x512 .f32) (h12 : a12.IsWhole) (a13 : Memref sig .tc .vmem S1x256 .f32) (h13 : a13.IsWhole) (a14 : Memref sig .tc .vmem S256x128 .f32) (h14 : a14.IsWhole) (a15 : Memref sig .tc .vmem S256x128 .f32) (h15 : a15.IsWhole) (a16 : Memref sig .tc .vmem S256x2048 .bf16) (h16 : a16.IsWhole) (a17 : Memref sig .tc .vmem S256x256 .f32) (h17 : a17.IsWhole) (a18 : Memref sig .tc .vmem S256x256 .f32) (h18 : a18.IsWhole) (a19 : Memref sig .tc .vmem S256x256 .bf16) (h19 : a19.IsWhole) (a20 : Memref sig .tc .vmem S256x2048 .bf16) (h20 : a20.IsWhole) (a21 : Memref sig .tc .vmem S256x64 .f32) (h21 : a21.IsWhole) (a22 : Memref sig .tc .vmem S256x128 .f32) (h22 : a22.IsWhole) (a23 : Memref sig .tc .vmem S256x2048 .f32) (h23 : a23.IsWhole) (a24 : Memref sig .tc .vmem S256x2048 .f32) (h24 : a24.IsWhole) (a25 : Memref sig .tc .vmem S1x256x256 .bf16) (h25 : a25.IsWhole) (a26 : Memref sig .tc .vmem S1x256x256 .bf16) (h26 : a26.IsWhole) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare (outQ x0 x1 x2 x10 x11 x12 x14 x15) ∗ owns (c : Thread nD τ) a17 fullShare (outK x0 x1 x3 x10 x13 x14 x15) ∗ owns (c : Thread nD τ) a18 fullShare (outV x0 x1 x4) ∗ owns (c : Thread nD τ) a19 fullShare (outVb x0 x1 x4) ∗ owns (c : Thread nD τ) a20 fullShare (outQc x0 x1 x5 x14 x15) ∗ owns (c : Thread nD τ) a21 fullShare (outKi x0 x1 x6 x14 x15) ∗ owns (c : Thread nD τ) a22 fullShare (outWi x0 x1 x7) ∗ owns (c : Thread nD τ) a23 fullShare (outH x0 x1 x8) ∗ owns (c : Thread nD τ) a24 fullShare (outG x0 x1 x9) ∗ owns (c : Thread nD τ) a25 fullShare (outKt x0 x1 x3 x10 x13 x14 x15) ∗ owns (c : Thread nD τ) a26 fullShare (outKiT x0 x1 x6 x14 x15)) -∗ K ⟨⟩))
      ⊢ wp frame (wpE (defs₀ (F := F)) Variants.none c none) E (cc0_proj i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K := by
  simp only [cc0_proj_eq_skeleton]; unfold cc0_proj_skel
  simp only [k0_part1_eq_skeleton, k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst e0 e1 e2 e3 e4 e5 e6 e7 e8 e9 e10 e11 e12 e13 e14 e15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact (View.read_writes_eq_canon _ _ _ (whole_S256x2048_bf16 _)).trans rfl
  isplitl [H17]
  · iexists _; isplitr
    swap; · iexact H17
    ipureintro
    exact (View.read_writes_eq_canon _ _ _ (whole_S256x256_f32 _)).trans rfl
  isplitl [H18]
  · iexists _; isplitr
    swap; · iexact H18
    ipureintro
    exact (View.read_writes_eq_canon _ _ _ (whole_S256x256_f32 _)).trans rfl
  isplitl [H19]
  · iexists _; isplitr
    swap; · iexact H19
    ipureintro
    exact (View.read_writes_eq_canon _ _ _ (whole_S256x256_bf16 _)).trans rfl
  isplitl [H20]
  · iexists _; isplitr
    swap; · iexact H20
    ipureintro
    exact (View.read_writes_eq_canon _ _ _ (whole_S256x2048_bf16 _)).trans rfl
  isplitl [H21]
  · iexists _; isplitr
    swap; · iexact H21
    ipureintro
    exact (View.read_writes_eq_canon _ _ _ (whole_S256x64_f32 _)).trans rfl
  isplitl [H22]
  · iexists _; isplitr
    swap; · iexact H22
    ipureintro
    exact (View.read_writes_eq_canon _ _ _ (whole_S256x128_f32 _)).trans rfl
  isplitl [H23]
  · iexists _; isplitr
    swap; · iexact H23
    ipureintro
    exact (View.read_writes_eq_canon _ _ _ (whole_S256x2048_f32 _)).trans rfl
  isplitl [H24]
  · iexists _; isplitr
    swap; · iexact H24
    ipureintro
    exact (View.read_writes_eq_canon _ _ _ (whole_S256x2048_f32 _)).trans rfl
  isplitl [H25]
  · iexists _; isplitr
    swap; · iexact H25
    ipureintro
    exact (View.read_writes_eq_canon _ _ _ (whole_S1x256x256_bf16 _)).trans rfl
  iexists _; isplitr
  swap; · iexact H26
  ipureintro
  exact (View.read_writes_eq_canon _ _ _ (whole_S1x256x256_bf16 _)).trans rfl

/-! ## The grid -/

/-- The grid's data on core `c`: the arrays as it finds them, and after each point the inputs' buffers at their blocks and the
    results' at what the body leaves. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => outQ (blk m c 0 t) (blk m c 1 t) (blk m c 2 t) (blk m c 10 t) (blk m c 11 t) (blk m c 12 t) (blk m c 14 t) (blk m c 15 t)
    | ⟨17, _⟩ => outK (blk m c 0 t) (blk m c 1 t) (blk m c 3 t) (blk m c 10 t) (blk m c 13 t) (blk m c 14 t) (blk m c 15 t)
    | ⟨18, _⟩ => outV (blk m c 0 t) (blk m c 1 t) (blk m c 4 t)
    | ⟨19, _⟩ => outVb (blk m c 0 t) (blk m c 1 t) (blk m c 4 t)
    | ⟨20, _⟩ => outQc (blk m c 0 t) (blk m c 1 t) (blk m c 5 t) (blk m c 14 t) (blk m c 15 t)
    | ⟨21, _⟩ => outKi (blk m c 0 t) (blk m c 1 t) (blk m c 6 t) (blk m c 14 t) (blk m c 15 t)
    | ⟨22, _⟩ => outWi (blk m c 0 t) (blk m c 1 t) (blk m c 7 t)
    | ⟨23, _⟩ => outH (blk m c 0 t) (blk m c 1 t) (blk m c 8 t)
    | ⟨24, _⟩ => outG (blk m c 0 t) (blk m c 1 t) (blk m c 9 t)
    | ⟨25, _⟩ => outKt (blk m c 0 t) (blk m c 1 t) (blk m c 3 t) (blk m c 10 t) (blk m c 13 t) (blk m c 14 t) (blk m c 15 t)
    | ⟨26, _⟩ => outKiT (blk m c 0 t) (blk m c 1 t) (blk m c 6 t) (blk m c 14 t) (blk m c 15 t)
    | ⟨_ + 27, h⟩ => absurd h (Nat.not_lt.2 (Nat.le_add_left _ _))
  Φ _ := Pipeline.ΦA spec0 c
  q _ := fullShare
  owed _ := 0

theorem arr_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = blk m c 8 t := by dsimp only [dats]
theorem after9 (c : Dev nD) (t : Fin cfg0.N) : (dats m 0 c).after 9 t = blk m c 9 t := by dsimp only [dats]
theorem after10 (c : Dev nD) (t : Fin cfg0.N) : (dats m 0 c).after 10 t = blk m c 10 t := by dsimp only [dats]
theorem after11 (c : Dev nD) (t : Fin cfg0.N) : (dats m 0 c).after 11 t = blk m c 11 t := by dsimp only [dats]
theorem after12 (c : Dev nD) (t : Fin cfg0.N) : (dats m 0 c).after 12 t = blk m c 12 t := by dsimp only [dats]
theorem after13 (c : Dev nD) (t : Fin cfg0.N) : (dats m 0 c).after 13 t = blk m c 13 t := by dsimp only [dats]
theorem after14 (c : Dev nD) (t : Fin cfg0.N) : (dats m 0 c).after 14 t = blk m c 14 t := by dsimp only [dats]
theorem after15 (c : Dev nD) (t : Fin cfg0.N) : (dats m 0 c).after 15 t = blk m c 15 t := by dsimp only [dats]
theorem after16 (c : Dev nD) (t : Fin cfg0.N) : (dats m 0 c).after 16 t =
    outQ (blk m c 0 t) (blk m c 1 t) (blk m c 2 t) (blk m c 10 t) (blk m c 11 t) (blk m c 12 t) (blk m c 14 t) (blk m c 15 t) := by dsimp only [dats]
theorem after17 (c : Dev nD) (t : Fin cfg0.N) : (dats m 0 c).after 17 t =
    outK (blk m c 0 t) (blk m c 1 t) (blk m c 3 t) (blk m c 10 t) (blk m c 13 t) (blk m c 14 t) (blk m c 15 t) := by dsimp only [dats]
theorem after18 (c : Dev nD) (t : Fin cfg0.N) : (dats m 0 c).after 18 t =
    outV (blk m c 0 t) (blk m c 1 t) (blk m c 4 t) := by dsimp only [dats]
theorem after19 (c : Dev nD) (t : Fin cfg0.N) : (dats m 0 c).after 19 t =
    outVb (blk m c 0 t) (blk m c 1 t) (blk m c 4 t) := by dsimp only [dats]
theorem after20 (c : Dev nD) (t : Fin cfg0.N) : (dats m 0 c).after 20 t =
    outQc (blk m c 0 t) (blk m c 1 t) (blk m c 5 t) (blk m c 14 t) (blk m c 15 t) := by dsimp only [dats]
theorem after21 (c : Dev nD) (t : Fin cfg0.N) : (dats m 0 c).after 21 t =
    outKi (blk m c 0 t) (blk m c 1 t) (blk m c 6 t) (blk m c 14 t) (blk m c 15 t) := by dsimp only [dats]
theorem after22 (c : Dev nD) (t : Fin cfg0.N) : (dats m 0 c).after 22 t =
    outWi (blk m c 0 t) (blk m c 1 t) (blk m c 7 t) := by dsimp only [dats]
theorem after23 (c : Dev nD) (t : Fin cfg0.N) : (dats m 0 c).after 23 t =
    outH (blk m c 0 t) (blk m c 1 t) (blk m c 8 t) := by dsimp only [dats]
theorem after24 (c : Dev nD) (t : Fin cfg0.N) : (dats m 0 c).after 24 t =
    outG (blk m c 0 t) (blk m c 1 t) (blk m c 9 t) := by dsimp only [dats]
theorem after25 (c : Dev nD) (t : Fin cfg0.N) : (dats m 0 c).after 25 t =
    outKt (blk m c 0 t) (blk m c 1 t) (blk m c 3 t) (blk m c 10 t) (blk m c 13 t) (blk m c 14 t) (blk m c 15 t) := by dsimp only [dats]
theorem after26 (c : Dev nD) (t : Fin cfg0.N) : (dats m 0 c).after 26 t =
    outKiT (blk m c 0 t) (blk m c 1 t) (blk m c 6 t) (blk m c 14 t) (blk m c 15 t) := by dsimp only [dats]

theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [arr_eq]; try rfl) t d).trans
    (by unfold Dat.fetched Dat.blockOf blk; rw [arr_eq]; try rfl)
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [arr_eq]; try rfl) t d).trans
    (by unfold Dat.fetched Dat.blockOf blk; rw [arr_eq]; try rfl)
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [arr_eq]; try rfl) t d).trans
    (by unfold Dat.fetched Dat.blockOf blk; rw [arr_eq]; try rfl)
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [arr_eq]; try rfl) t d).trans
    (by unfold Dat.fetched Dat.blockOf blk; rw [arr_eq]; try rfl)
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [arr_eq]; try rfl) t d).trans
    (by unfold Dat.fetched Dat.blockOf blk; rw [arr_eq]; try rfl)
theorem before5 (c : Dev nD) (t : Fin cfg0.N) (d) : (dats m 0 c).before 5 t d = blk m c 5 t :=
  ((dats m 0 c).before_in_eq_fetched 5 rfl (fun _ => rfl) (fun _ _ _ => rfl)
    (fun t => by rw [after5]; unfold Dat.blockOf blk; rw [arr_eq]; try rfl) t d).trans
    (by unfold Dat.fetched Dat.blockOf blk; rw [arr_eq]; try rfl)
theorem before6 (c : Dev nD) (t : Fin cfg0.N) (d) : (dats m 0 c).before 6 t d = blk m c 6 t :=
  ((dats m 0 c).before_in_eq_fetched 6 rfl (fun _ => rfl) (fun _ _ _ => rfl)
    (fun t => by rw [after6]; unfold Dat.blockOf blk; rw [arr_eq]; try rfl) t d).trans
    (by unfold Dat.fetched Dat.blockOf blk; rw [arr_eq]; try rfl)
theorem before7 (c : Dev nD) (t : Fin cfg0.N) (d) : (dats m 0 c).before 7 t d = blk m c 7 t :=
  ((dats m 0 c).before_in_eq_fetched 7 rfl (fun _ => rfl) (fun _ _ _ => rfl)
    (fun t => by rw [after7]; unfold Dat.blockOf blk; rw [arr_eq]; try rfl) t d).trans
    (by unfold Dat.fetched Dat.blockOf blk; rw [arr_eq]; try rfl)
theorem before8 (c : Dev nD) (t : Fin cfg0.N) (d) : (dats m 0 c).before 8 t d = blk m c 8 t :=
  ((dats m 0 c).before_in_eq_fetched 8 rfl (fun _ => rfl) (fun _ _ _ => rfl)
    (fun t => by rw [after8]; unfold Dat.blockOf blk; rw [arr_eq]; try rfl) t d).trans
    (by unfold Dat.fetched Dat.blockOf blk; rw [arr_eq]; try rfl)
theorem before9 (c : Dev nD) (t : Fin cfg0.N) (d) : (dats m 0 c).before 9 t d = blk m c 9 t :=
  ((dats m 0 c).before_in_eq_fetched 9 rfl (fun _ => rfl) (fun _ _ _ => rfl)
    (fun t => by rw [after9]; unfold Dat.blockOf blk; rw [arr_eq]; try rfl) t d).trans
    (by unfold Dat.fetched Dat.blockOf blk; rw [arr_eq]; try rfl)
theorem before10 (c : Dev nD) (t : Fin cfg0.N) (d) : (dats m 0 c).before 10 t d = blk m c 10 t :=
  ((dats m 0 c).before_in_eq_fetched 10 rfl (fun _ => rfl) (fun _ _ _ => rfl)
    (fun t => by rw [after10]; unfold Dat.blockOf blk; rw [arr_eq]; try rfl) t d).trans
    (by unfold Dat.fetched Dat.blockOf blk; rw [arr_eq]; try rfl)
theorem before11 (c : Dev nD) (t : Fin cfg0.N) (d) : (dats m 0 c).before 11 t d = blk m c 11 t :=
  ((dats m 0 c).before_in_eq_fetched 11 rfl (fun _ => rfl) (fun _ _ _ => rfl)
    (fun t => by rw [after11]; unfold Dat.blockOf blk; rw [arr_eq]; try rfl) t d).trans
    (by unfold Dat.fetched Dat.blockOf blk; rw [arr_eq]; try rfl)
theorem before12 (c : Dev nD) (t : Fin cfg0.N) (d) : (dats m 0 c).before 12 t d = blk m c 12 t :=
  ((dats m 0 c).before_in_eq_fetched 12 rfl (fun _ => rfl) (fun _ _ _ => rfl)
    (fun t => by rw [after12]; unfold Dat.blockOf blk; rw [arr_eq]; try rfl) t d).trans
    (by unfold Dat.fetched Dat.blockOf blk; rw [arr_eq]; try rfl)
theorem before13 (c : Dev nD) (t : Fin cfg0.N) (d) : (dats m 0 c).before 13 t d = blk m c 13 t :=
  ((dats m 0 c).before_in_eq_fetched 13 rfl (fun _ => rfl) (fun _ _ _ => rfl)
    (fun t => by rw [after13]; unfold Dat.blockOf blk; rw [arr_eq]; try rfl) t d).trans
    (by unfold Dat.fetched Dat.blockOf blk; rw [arr_eq]; try rfl)
theorem before14 (c : Dev nD) (t : Fin cfg0.N) (d) : (dats m 0 c).before 14 t d = blk m c 14 t :=
  ((dats m 0 c).before_in_eq_fetched 14 rfl (fun _ => rfl) (fun _ _ _ => rfl)
    (fun t => by rw [after14]; unfold Dat.blockOf blk; rw [arr_eq]; try rfl) t d).trans
    (by unfold Dat.fetched Dat.blockOf blk; rw [arr_eq]; try rfl)
theorem before15 (c : Dev nD) (t : Fin cfg0.N) (d) : (dats m 0 c).before 15 t d = blk m c 15 t :=
  ((dats m 0 c).before_in_eq_fetched 15 rfl (fun _ => rfl) (fun _ _ _ => rfl)
    (fun t => by rw [after15]; unfold Dat.blockOf blk; rw [arr_eq]; try rfl) t d).trans
    (by unfold Dat.fetched Dat.blockOf blk; rw [arr_eq]; try rfl)

/-- What the body finds at point `t`, -/
def finds (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it leaves. -/
def leaves (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
theorem body_at (c : Dev nD) (t : Fin cfg0.N) :
    finds m c t ⊢ wp frame (wpE (defs₀ (F := F)) Variants.none c none) Set.univ (bodyAt0 t) (fun _ => leaves m c t) := by
  unfold finds leaves bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_runs (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) (blk m c 14 t) (blk m c 15 t) c Set.univ (grid0.coords t) _ _ _ _ _ _ _ _ _ _ _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (body_at m c t) rfl .rfl fun _ => .rfl

/-! ## The run -/

set_option backward.isDefEq.respectTransparency.types false in
set_option maxHeartbeats 2000000 in
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := upto m Variants.none) (hA := arr_eq m) (hΦ := fun _ _ => rfl)

theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c),
    ((h c).2 main_arg3 (Pipeline.mem_restRefs_of main_arg3 (by decide) (by decide))).trans (V_arg3 m c),
    ((h c).2 main_arg4 (Pipeline.mem_restRefs_of main_arg4 (by decide) (by decide))).trans (V_arg4 m c)⟩

/-- The call ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_all m ρ)

theorem flushed18 (c : Dev nD) (t : Fin cfg0.N) : (dats m 0 c).flushed 18 t =
    (cfg0.win 18).cut (grid0.coords t) (outV (blk m c 0 t) (blk m c 1 t) (blk m c 4 t)) := by
  show (cfg0.win 18).cut (grid0.coords t) ((dats m 0 c).after 18 t) = _
  rw [after18]

theorem flushed21 (c : Dev nD) (t : Fin cfg0.N) : (dats m 0 c).flushed 21 t =
    (cfg0.win 21).cut (grid0.coords t) (outKi (blk m c 0 t) (blk m c 1 t) (blk m c 6 t) (blk m c 14 t) (blk m c 15 t)) := by
  show (cfg0.win 21).cut (grid0.coords t) ((dats m 0 c).after 21 t) = _
  rw [after21]

theorem flushed23 (c : Dev nD) (t : Fin cfg0.N) : (dats m 0 c).flushed 23 t =
    (cfg0.win 23).cut (grid0.coords t) (outH (blk m c 0 t) (blk m c 1 t) (blk m c 8 t)) := by
  show (cfg0.win 23).cut (grid0.coords t) ((dats m 0 c).after 23 t) = _
  rw [after23]

theorem flushed24 (c : Dev nD) (t : Fin cfg0.N) : (dats m 0 c).flushed 24 t =
    (cfg0.win 24).cut (grid0.coords t) (outG (blk m c 0 t) (blk m c 1 t) (blk m c 9 t)) := by
  show (cfg0.win 24).cut (grid0.coords t) ((dats m 0 c).after 24 t) = _
  rw [after24]

/-- The call ends with each result array as the points wrote it. -/
theorem run : θ_run defs (onTc (τ := τ) (main (F := F))) ⟨m, fun _ => 0, ρ⟩ fun r => ∀ c : Dev nD,
      r.2.mem ((c.tc : Thread nD τ).loc main_v85_2) = (dats m 0 c).arrAt 18 cfg0.N
      ∧ r.2.mem ((c.tc : Thread nD τ).loc main_v85_5) = (dats m 0 c).arrAt 21 cfg0.N
      ∧ r.2.mem ((c.tc : Thread nD τ).loc main_v85_7) = (dats m 0 c).arrAt 23 cfg0.N
      ∧ r.2.mem ((c.tc : Thread nD τ).loc main_v85_8) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 18, (h.1 c).1 21, (h.1 c).1 23, (h.1 c).1 24, kept m r h.1 c⟩) (run_all m ρ)

end Cert.Proof.ProjIdealFrame

end
-- ==== Proof.ProjValue.lean ====
/-
  What the call of the input projections computes of the values, the index keys, the recurrence's inputs and the gates.
-/
module

public import proofs.«01_k».proof.Defs
public import proofs.«01_k».proof.Proof.Spec
public import proofs.«01_k».proof.Proof.ProjFrame
public import proofs.«01_k».proof.Proof.ProjIdealFrame
public import proofs.«01_k».proof.Proof.Gen.ProjRefIdeal.Run
public import Idealize.ShloMosaic.Lib.Quiescent
public import Idealize.ShloMosaic.Lib.StableHlo.ReadAt

@[expose] public section

set_option maxRecDepth 16384

noncomputable section

namespace Cert.Proof.ProjValue

open Cert.ProjIdeal Cert.ProjIdeal.Gen Cert.Proof.ProjIdealFrame Idealize.ShloMosaic Idealize.ShloMosaic.TcCoe
open Idealize.SL.Sem

theorem hz : (![0, 0] : Fin 2 → Nat) = fun _ => 0 := funext fun a => by fin_cases a <;> rfl

variable (x0 : Vec Ideal S256x1024 .f32) (x1 : Vec Ideal S1x1024 .f32) (x2 : Vec Ideal S1024x512 .bf16)
  (x3 x4 : Vec Ideal S1024x256 .bf16) (x5 : Vec Ideal S1024x2048 .bf16) (x6 : Vec Ideal S1024x256 .bf16)
  (x7 : Vec Ideal S1024x128 .bf16) (x8 x9 : Vec Ideal S1024x2048 .bf16) (x10 : Vec Ideal S512x512 .bf16)
  (x11 : Vec Ideal S512x2048 .bf16) (x12 : Vec Ideal S1x512 .f32) (x13 : Vec Ideal S1x256 .f32)
  (x14 x15 : Vec Ideal S256x128 .f32)

/-- The block's normalised rows. -/
theorem normed (r : Fin 256) (k : Fin 1024) :
    k0_pay2 (F := Ideal) x0 x1 (ix2 r k) = Spec.rms (fun i => x0 (ix2 r i)) (fun i => x1 (ix2 0 i)) k := by
  pointwise [k0_pay2, Spec.rms]

/-- The values' block. -/
theorem out_v (r : Fin 256) (j : Fin 256) :
    outV (F := Ideal) x0 x1 x4 (ix2 r j) =
      Spec.prod (Spec.rms (fun i => x0 (ix2 r i)) (fun i => x1 (ix2 0 i))) (fun k f => x4 (ix2 k f)) j := by
  unfold outV
  rw [View.canon_unit_zero hz]
  unfold normedRows
  rw [View.ld_unit_zero hz (S := S256x1024), View.ld_unit_zero hz (S := S1x1024), View.ld_unit_zero hz (S := S1024x256)]
  pointwise [k0_pay17, Spec.prod]
  simp only [normed]

/-- The recurrence's block. -/
theorem out_h (r : Fin 256) (j : Fin 2048) :
    outH (F := Ideal) x0 x1 x8 (ix2 r j) =
      Spec.prod (Spec.rms (fun i => x0 (ix2 r i)) (fun i => x1 (ix2 0 i))) (fun k f => x8 (ix2 k f)) j := by
  unfold outH
  rw [View.canon_unit_zero hz]
  unfold normedRows
  rw [View.ld_unit_zero hz (S := S256x1024), View.ld_unit_zero hz (S := S1x1024), View.ld_unit_zero hz (S := S1024x2048)]
  pointwise [k0_pay29, Spec.prod]
  simp only [normed]

/-- The gates' block. -/
theorem out_g (r : Fin 256) (j : Fin 2048) :
    outG (F := Ideal) x0 x1 x9 (ix2 r j) =
      Spec.prod (Spec.rms (fun i => x0 (ix2 r i)) (fun i => x1 (ix2 0 i))) (fun k f => x9 (ix2 k f)) j := by
  unfold outG
  rw [View.canon_unit_zero hz]
  unfold normedRows
  rw [View.ld_unit_zero hz (S := S256x1024), View.ld_unit_zero hz (S := S1x1024), View.ld_unit_zero hz (S := S1024x2048)]
  pointwise [k0_pay1, k0_pay30, Spec.prod]
  simp only [normed]

/-! ## The turn by position -/

/-- The angle of place `f` (taken modulo 32) at position `p`. -/
def angle (p f : Nat) : EReal :=
  FloatOps.sitofp (F := Ideal) .f32 (BitVec.ofNat 32 p) *
    Ideal.pow (Ideal.ofBits .f32 0x461C4000#32)
      (Ideal.div (-(FloatOps.sitofp (F := Ideal) .f32 (BitVec.ofNat 32 (f % 32))) * Ideal.ofBits .f32 0x40000000#32)
        (Ideal.ofBits .f32 0x42800000#32))

/-- A row of 64 turned by position `p`: the places `j` and `j + 32` are turned as a pair. -/
def turn (p : Nat) (y : Fin 64 → EReal) (j : Fin 64) : EReal :=
  if h : j.1 < 32 then y j * Ideal.cos (angle p j.1) - y ⟨j.1 + 32, by omega⟩ * Ideal.sin (angle p j.1)
  else y j * Ideal.cos (angle p j.1) + y ⟨j.1 - 32, by omega⟩ * Ideal.sin (angle p j.1)

/-- Which half of the pair a place is in, as the body asks it. -/
theorem half : ∀ j : Fin 64, Scalar.select (α := Bool) (IntOp.cmpi CmpIPredicate.eq (IntOp.andi (BitVec.ofNat 32 j.1) 32#32) 0#32) true false
    = decide (j.1 < 32) := by decide

theorem half_select (j : Fin 64) (a b : EReal) :
    Scalar.select (IntOp.cmpi CmpIPredicate.eq (IntOp.andi (BitVec.ofNat 32 j.1) 32#32) 0#32) a b
      = if j.1 < 32 then a else b := by
  have h := half j
  unfold Scalar.select at h ⊢
  by_cases hj : j.1 < 32
  · rw [if_pos hj]; rw [decide_eq_true hj] at h; split_ifs at h ⊢ <;> first | rfl | cases h
  · rw [if_neg hj]; rw [decide_eq_false hj] at h; split_ifs at h ⊢ <;> first | rfl | cases h

/-- The index keys' row of the block before its turn. -/
abbrev kiRow (r : Fin 256) (j : Fin 64) : EReal :=
  Spec.prod (Spec.rms (fun i => x0 (ix2 r i)) (fun i => x1 (ix2 0 i))) (fun k (f : Fin 64) => x6 (ix2 k ⟨f.1, by omega⟩)) j

/-- The index keys' block. -/
theorem out_ki (r : Fin 256) (j : Fin 64) :
    outKi (F := Ideal) x0 x1 x6 x14 x15 (ix2 r j) =
      kiRow x0 x1 x6 r j * x14 (ix2 r ⟨j.1, by omega⟩)
        + (if h : j.1 < 32 then kiRow x0 x1 x6 r ⟨j.1 + 32, by omega⟩ else kiRow x0 x1 x6 r ⟨j.1 - 32, by omega⟩)
          * x15 (ix2 r ⟨j.1, by omega⟩) := by
  unfold outKi
  rw [View.canon_unit_zero hz]
  unfold sinRows cosRows normedRows
  rw [View.ld_unit_zero hz (S := S256x1024), View.ld_unit_zero hz (S := S1x1024), View.ld_unit_zero hz (S := S1024x256),
    View.ld_unit_zero hz (S := S256x128), View.ld_unit_zero hz (S := S256x128)]
  pointwise [k0_pay25, k0_pay24, k0_pay3, k0_pay4, kiRow, Spec.prod]
  have h128 : j.1 < 128 := by omega
  simp only [normed, dif_pos h128, half_select]
  by_cases hj : j.1 < 32
  · have e : (⟨(j.1 + 256 - 224) % 256, by omega⟩ : Fin 256) = ⟨j.1 + 32, by omega⟩ := Fin.ext (by show (j.1 + 256 - 224) % 256 = j.1 + 32; omega)
    simp only [if_pos hj, dif_pos hj, e]
  · have e : (⟨(j.1 + 256 - 32) % 256, by omega⟩ : Fin 256) = ⟨j.1 - 32, by omega⟩ := Fin.ext (by show (j.1 + 256 - 32) % 256 = j.1 - 32; omega)
    simp only [if_neg hj, dif_neg hj, e]

/-! ## The whole arrays -/

variable (X : Vec Ideal S8x8192x1024 .f32) (g : Vec Ideal S1024 .f32) (w : Vec Ideal S1024x5704 .f32)

/-- Row `r`, normalised, through the columns of the matrix from `o` on. -/
def cols (o : Nat) {n : Nat} (h : o + n ≤ 5704) (r : Fin 65536) (j : Fin n) : EReal :=
  Spec.prod (Spec.rms (fun k => X (ix3 ⟨r.1 / 8192, by omega⟩ ⟨r.1 % 8192, by omega⟩ k)) (fun k => g (ix1 k)))
    (fun k (f : Fin n) => w (ix2 k ⟨o + f.1, by omega⟩)) j

/-- The values, -/
def GV : Vec Ideal S65536x256 .f32 := fun i => cols X g w 768 (by decide) (i 0) (i 1)
/-- the index keys, -/
def GKi : Vec Ideal S65536x64 .f32 := fun i => turn ((i 0).1 % 8192) (cols X g w 1536 (by decide) (i 0)) (i 1)
/-- the recurrence's inputs -/
def GH : Vec Ideal S65536x2048 .f32 := fun i => cols X g w 1608 (by decide) (i 0) (i 1)
/-- and the gates. -/
def GG : Vec Ideal S65536x2048 .f32 := fun i => cols X g w 3656 (by decide) (i 0) (i 1)

variable (m : (ℓ : Loc nD τ sig) → Buf (Elt Ideal) ℓ) (ρ : Dev nD → PrngReg)

theorem V_x (c : Dev nD) (r : Fin 65536) (k : Fin 1024) : V m c main_v59 (ix2 r k) =
    m ((c : Thread nD τ).loc main_arg0) (ix3 ⟨r.1 / 8192, by omega⟩ ⟨r.1 % 8192, by omega⟩ k) := by
  unfold V; after_reads_at

theorem V_gain (c : Dev nD) (k : Fin 1024) : V m c main_v39 (ix2 0 k) = m ((c : Thread nD τ).loc main_arg1) (ix1 k) := by
  unfold V; after_reads_at

theorem V_v (c : Dev nD) (k : Fin 1024) (f : Fin 256) : V m c main_v42 (ix2 k f) =
    m ((c : Thread nD τ).loc main_arg2) (ix2 k ⟨768 + f.1, by omega⟩) := by
  unfold V; after_reads_at

theorem V_h (c : Dev nD) (k : Fin 1024) (f : Fin 2048) : V m c main_v47 (ix2 k f) =
    m ((c : Thread nD τ).loc main_arg2) (ix2 k ⟨1608 + f.1, by omega⟩) := by
  unfold V; after_reads_at

theorem V_g (c : Dev nD) (k : Fin 1024) (f : Fin 2048) : V m c main_v48 (ix2 k f) =
    m ((c : Thread nD τ).loc main_arg2) (ix2 k ⟨3656 + f.1, by omega⟩) := by
  unfold V; after_reads_at

theorem V_ki (c : Dev nD) (k : Fin 1024) (f : Fin 64) : V m c main_v45 (ix2 k ⟨f.1, by omega⟩) =
    m ((c : Thread nD τ).loc main_arg2) (ix2 k ⟨1536 + f.1, by omega⟩) := by
  unfold V; after_reads_at; after_reads_at

/-- The place of a frequency is taken modulo 32. -/
theorem place : ∀ f : Fin 64, IntOp.andi (BitVec.ofNat 32 f.1) 31#32 = BitVec.ofNat 32 (f.1 % 32) := by decide

theorem from_zero (k : Nat) : IntOp.addi 0#32 (BitVec.ofNat 32 k) = BitVec.ofNat 32 k := BitVec.zero_add _

theorem one_word : Ideal.ofBits .f32 0x3F800000#32 = 1 := by
  simp [Ideal.ofBits, Ideal.ieee, -EReal.coe_mul]; norm_num

theorem neg_one_word : Ideal.ofBits .f32 0xBF800000#32 = -1 := by
  simp [Ideal.ofBits, Ideal.ieee, -EReal.coe_mul]; norm_num

/-- The sign the sines are stored with. -/
theorem sign : ∀ f : Fin 64, lit0 (S128.rowMajor (ix1 (⟨f.1, by omega⟩ : Fin 128))) =
    if f.1 < 32 then 0xBF800000#32 else 0x3F800000#32 := by decide +kernel

theorem V_cos (c : Dev nD) (k : Fin 8192) (f : Fin 64) : (V m c main_v80 : Vec Ideal S8192x128 .f32) (ix2 k ⟨f.1, by omega⟩) =
    Ideal.cos (angle k.1 f.1) := by
  unfold V
  after_reads_at
  rw [place f, from_zero]
  rfl

theorem V_sin (c : Dev nD) (k : Fin 8192) (f : Fin 64) : (V m c main_v84 : Vec Ideal S8192x128 .f32) (ix2 k ⟨f.1, by omega⟩) =
    if f.1 < 32 then -Ideal.sin (angle k.1 f.1) else Ideal.sin (angle k.1 f.1) := by
  unfold V
  after_reads_at
  rw [place f, from_zero, sign f]
  by_cases hf : f.1 < 32
  · rw [if_pos hf, if_pos hf, neg_one_word, mul_neg, mul_one]
    rfl
  · rw [if_neg hf, if_neg hf, one_word, mul_one]
    rfl

theorem idx_rows : ∀ t : Fin cfg0.N, (win0_0.index t (0 : Fin 2) = t.val ∧ win0_0.index t (1 : Fin 2) = 0)
    ∧ (win0_14.index t (0 : Fin 2) = t.val % 32 ∧ win0_14.index t (1 : Fin 2) = 0)
    ∧ (win0_15.index t (0 : Fin 2) = t.val % 32 ∧ win0_15.index t (1 : Fin 2) = 0) :=
  (by decide +kernel : ∀ t : Fin grid0.N, _)

theorem idx_results : ∀ t : Fin cfg0.N, (win0_18.index t (0 : Fin 2) = t.val ∧ win0_18.index t (1 : Fin 2) = 0)
    ∧ (win0_21.index t (0 : Fin 2) = t.val ∧ win0_21.index t (1 : Fin 2) = 0)
    ∧ (win0_23.index t (0 : Fin 2) = t.val ∧ win0_23.index t (1 : Fin 2) = 0)
    ∧ (win0_24.index t (0 : Fin 2) = t.val ∧ win0_24.index t (1 : Fin 2) = 0) :=
  (by decide +kernel : ∀ t : Fin grid0.N, _)

theorem idx_whole : ∀ t : Fin cfg0.N, (win0_1.index t (0 : Fin 2) = 0 ∧ win0_1.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem lt_rows (t : Fin cfg0.N) (r : Fin 256) : t.val * 256 + r.val < 65536 := by
  have h : t.val < 256 := t.isLt
  omega

/-- The array row of row `r` of point `t`'s block. -/
abbrev rowAt (t : Fin cfg0.N) (r : Fin 256) : Fin 65536 := ⟨t.val * 256 + r.val, lt_rows t r⟩

theorem blk0 (c : Dev nD) (t : Fin cfg0.N) (r : Fin 256) (k : Fin 1024) : blk m c 0 t (ix2 r k) =
    m ((c : Thread nD τ).loc main_arg0) (ix3 ⟨(rowAt t r).1 / 8192, by omega⟩ ⟨(rowAt t r).1 % 8192, by omega⟩ k) := by
  obtain ⟨⟨h0, h1⟩, -⟩ := idx_rows t
  refine Eq.trans ?_ (V_x m c (rowAt t r) k)
  show V m c main_v59 (((cfg0.win 0).blk t).view.emb (ix2 r k)) = _
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

theorem blk1 (c : Dev nD) (t : Fin cfg0.N) (k : Fin 1024) :
    blk m c 1 t (ix2 0 k) = m ((c : Thread nD τ).loc main_arg1) (ix1 k) := by
  obtain ⟨⟨h0, h1⟩, -⟩ := idx_whole t
  refine Eq.trans ?_ (V_gain m c k)
  show V m c main_v39 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk4 (c : Dev nD) (t : Fin cfg0.N) (k : Fin 1024) (f : Fin 256) : blk m c 4 t (ix2 k f) =
    m ((c : Thread nD τ).loc main_arg2) (ix2 k ⟨768 + f.1, by omega⟩) := by
  obtain ⟨-, ⟨h0, h1⟩, -⟩ := idx_whole t
  refine Eq.trans ?_ (V_v m c k f)
  show V m c main_v42 (((cfg0.win 4).blk t).view.emb (ix2 k f)) = _
  refine congrArg _ (funext fun a => Fin.ext ?_)
  match a with
  | ⟨0, _⟩ => show win0_4.index t (0 : Fin 2) * 1024 + 1 * k.val = k.val; omega
  | ⟨1, _⟩ => show win0_4.index t (1 : Fin 2) * 256 + 1 * f.val = f.val; omega

theorem blk6 (c : Dev nD) (t : Fin cfg0.N) (k : Fin 1024) (f : Fin 64) : blk m c 6 t (ix2 k ⟨f.1, by omega⟩) =
    m ((c : Thread nD τ).loc main_arg2) (ix2 k ⟨1536 + f.1, by omega⟩) := by
  obtain ⟨-, -, ⟨h0, h1⟩, -⟩ := idx_whole t
  refine Eq.trans ?_ (V_ki m c k f)
  show V m c main_v45 (((cfg0.win 6).blk t).view.emb (ix2 k ⟨f.1, by omega⟩)) = _
  refine congrArg _ (funext fun a => Fin.ext ?_)
  match a with
  | ⟨0, _⟩ => show win0_6.index t (0 : Fin 2) * 1024 + 1 * k.val = k.val; omega
  | ⟨1, _⟩ => show win0_6.index t (1 : Fin 2) * 256 + 1 * f.val = f.val; omega

theorem blk8 (c : Dev nD) (t : Fin cfg0.N) (k : Fin 1024) (f : Fin 2048) : blk m c 8 t (ix2 k f) =
    m ((c : Thread nD τ).loc main_arg2) (ix2 k ⟨1608 + f.1, by omega⟩) := by
  obtain ⟨-, -, -, ⟨h0, h1⟩, -⟩ := idx_whole t
  refine Eq.trans ?_ (V_h m c k f)
  show V m c main_v47 (((cfg0.win 8).blk t).view.emb (ix2 k f)) = _
  refine congrArg _ (funext fun a => Fin.ext ?_)
  match a with
  | ⟨0, _⟩ => show win0_8.index t (0 : Fin 2) * 1024 + 1 * k.val = k.val; omega
  | ⟨1, _⟩ => show win0_8.index t (1 : Fin 2) * 2048 + 1 * f.val = f.val; omega

theorem blk9 (c : Dev nD) (t : Fin cfg0.N) (k : Fin 1024) (f : Fin 2048) : blk m c 9 t (ix2 k f) =
    m ((c : Thread nD τ).loc main_arg2) (ix2 k ⟨3656 + f.1, by omega⟩) := by
  obtain ⟨-, -, -, -, h0, h1⟩ := idx_whole t
  refine Eq.trans ?_ (V_g m c k f)
  show V m c main_v48 (((cfg0.win 9).blk t).view.emb (ix2 k f)) = _
  refine congrArg _ (funext fun a => Fin.ext ?_)
  match a with
  | ⟨0, _⟩ => show win0_9.index t (0 : Fin 2) * 1024 + 1 * k.val = k.val; omega
  | ⟨1, _⟩ => show win0_9.index t (1 : Fin 2) * 2048 + 1 * f.val = f.val; omega

theorem pos_lt (t : Fin cfg0.N) (r : Fin 256) : t.val % 32 * 256 + r.val < 8192 := by omega

theorem pos_eq (t : Fin cfg0.N) (r : Fin 256) : (rowAt t r).1 % 8192 = t.val % 32 * 256 + r.val := by
  show (t.val * 256 + r.val) % 8192 = _
  omega

theorem blk14 (c : Dev nD) (t : Fin cfg0.N) (r : Fin 256) (f : Fin 64) :
    (blk m c 14 t : Vec Ideal S256x128 .f32) (ix2 r ⟨f.1, by omega⟩) =
      Ideal.cos (angle ((rowAt t r).1 % 8192) f.1) := by
  obtain ⟨-, ⟨h0, h1⟩, -⟩ := idx_rows t
  rw [pos_eq]
  refine Eq.trans ?_ (V_cos m c ⟨t.val % 32 * 256 + r.val, pos_lt t r⟩ f)
  show V m c main_v80 (((cfg0.win 14).blk t).view.emb (ix2 r ⟨f.1, by omega⟩)) = _
  refine congrArg _ (funext fun a => Fin.ext ?_)
  match a with
  | ⟨0, _⟩ => show win0_14.index t (0 : Fin 2) * 256 + 1 * r.val = t.val % 32 * 256 + r.val; omega
  | ⟨1, _⟩ => show win0_14.index t (1 : Fin 2) * 128 + 1 * f.val = f.val; omega

theorem blk15 (c : Dev nD) (t : Fin cfg0.N) (r : Fin 256) (f : Fin 64) :
    (blk m c 15 t : Vec Ideal S256x128 .f32) (ix2 r ⟨f.1, by omega⟩) =
      if f.1 < 32 then -Ideal.sin (angle ((rowAt t r).1 % 8192) f.1) else Ideal.sin (angle ((rowAt t r).1 % 8192) f.1) := by
  obtain ⟨-, -, h0, h1⟩ := idx_rows t
  rw [pos_eq]
  refine Eq.trans ?_ (V_sin m c ⟨t.val % 32 * 256 + r.val, pos_lt t r⟩ f)
  show V m c main_v84 (((cfg0.win 15).blk t).view.emb (ix2 r ⟨f.1, by omega⟩)) = _
  refine congrArg _ (funext fun a => Fin.ext ?_)
  match a with
  | ⟨0, _⟩ => show win0_15.index t (0 : Fin 2) * 256 + 1 * r.val = t.val % 32 * 256 + r.val; omega
  | ⟨1, _⟩ => show win0_15.index t (1 : Fin 2) * 128 + 1 * f.val = f.val; omega

theorem emb18 (t : Fin cfg0.N) (r : Fin 256) (j : Fin 256) :
    ((cfg0.win 18).blk t).view.emb (ix2 r j) = ix2 (rowAt t r) j := by
  obtain ⟨⟨h0, h1⟩, -⟩ := idx_results t
  refine funext fun a => Fin.ext ?_
  match a with
  | ⟨0, _⟩ => show win0_18.index t (0 : Fin 2) * 256 + 1 * r.val = t.val * 256 + r.val; omega
  | ⟨1, _⟩ => show win0_18.index t (1 : Fin 2) * 256 + 1 * j.val = j.val; omega

theorem flushed18_eq (c : Dev nD) (t : Fin cfg0.N) : (dats m 0 c).flushed 18 t =
    ((cfg0.win 18).blk t).view.read (Elt Ideal) (GV (m ((c : Thread nD τ).loc main_arg0)) (m ((c : Thread nD τ).loc main_arg1)) (m ((c : Thread nD τ).loc main_arg2))) := by
  rw [flushed18]
  funext i
  obtain ⟨r, j, rfl⟩ : ∃ (r : Fin 256) (j : Fin 256), i = ix2 r j := ⟨i 0, i 1, eq_ix2 i⟩
  show outV (F := Ideal) (blk m c 0 t) (blk m c 1 t) (blk m c 4 t) (ix2 r j) = (GV (m ((c : Thread nD τ).loc main_arg0)) (m ((c : Thread nD τ).loc main_arg1)) (m ((c : Thread nD τ).loc main_arg2))) (((cfg0.win 18).blk t).view.emb (ix2 r j))
  rw [emb18, out_v]
  simp only [blk0, blk1, blk4]
  rfl

theorem covered18 (i : S65536x256.Idx) :
    ∃ t : Fin cfg0.N, (cfg0.win 18).flush t = true ∧ i ∈ ((cfg0.win 18).blk t).view.set := by
  obtain ⟨r, j, rfl⟩ : ∃ (r : Fin 65536) (j : Fin 256), i = ix2 r j := ⟨i 0, i 1, eq_ix2 i⟩
  have hr : r.val / 256 < 256 := by omega
  refine ⟨⟨r.val / 256, hr⟩, flush0_18 _, ?_⟩
  have h := ((cfg0.win 18).blk (⟨r.val / 256, hr⟩ : Fin cfg0.N)).view.emb_mem_set
    (ix2 (⟨r.val % 256, Nat.mod_lt _ (by decide)⟩ : Fin 256) j)
  rw [emb18] at h
  have e : rowAt ⟨r.val / 256, hr⟩ ⟨r.val % 256, Nat.mod_lt _ (by decide)⟩ = r :=
    Fin.ext (by show r.val / 256 * 256 + r.val % 256 = r.val; omega)
  rwa [e] at h

theorem final18 (c : Dev nD) : (dats m 0 c).arrAt 18 cfg0.N = (GV (m ((c : Thread nD τ).loc main_arg0)) (m ((c : Thread nD τ).loc main_arg1)) (m ((c : Thread nD τ).loc main_arg2))) :=
  (dats m 0 c).arrAt_eq_of_cover 18 (GV (m ((c : Thread nD τ).loc main_arg0)) (m ((c : Thread nD τ).loc main_arg1)) (m ((c : Thread nD τ).loc main_arg2))) (fun t _ => flushed18_eq m c t) covered18

theorem emb21 (t : Fin cfg0.N) (r : Fin 256) (j : Fin 64) :
    ((cfg0.win 21).blk t).view.emb (ix2 r j) = ix2 (rowAt t r) j := by
  obtain ⟨-, ⟨h0, h1⟩, -⟩ := idx_results t
  refine funext fun a => Fin.ext ?_
  match a with
  | ⟨0, _⟩ => show win0_21.index t (0 : Fin 2) * 256 + 1 * r.val = t.val * 256 + r.val; omega
  | ⟨1, _⟩ => show win0_21.index t (1 : Fin 2) * 64 + 1 * j.val = j.val; omega

theorem flushed21_eq (c : Dev nD) (t : Fin cfg0.N) : (dats m 0 c).flushed 21 t =
    ((cfg0.win 21).blk t).view.read (Elt Ideal) (GKi (m ((c : Thread nD τ).loc main_arg0)) (m ((c : Thread nD τ).loc main_arg1)) (m ((c : Thread nD τ).loc main_arg2))) := by
  rw [flushed21]
  funext i
  obtain ⟨r, j, rfl⟩ : ∃ (r : Fin 256) (j : Fin 64), i = ix2 r j := ⟨i 0, i 1, eq_ix2 i⟩
  show outKi (F := Ideal) (blk m c 0 t) (blk m c 1 t) (blk m c 6 t) (blk m c 14 t) (blk m c 15 t) (ix2 r j) = (GKi (m ((c : Thread nD τ).loc main_arg0)) (m ((c : Thread nD τ).loc main_arg1)) (m ((c : Thread nD τ).loc main_arg2))) (((cfg0.win 21).blk t).view.emb (ix2 r j))
  rw [emb21, out_ki]
  simp only [kiRow, blk0, blk1, blk6, blk14, blk15]
  show _ = turn ((rowAt t r).1 % 8192) (cols _ _ _ 1536 (by decide) (rowAt t r)) j
  unfold turn
  by_cases hj : j.1 < 32
  · simp only [dif_pos hj, if_pos hj, mul_neg]; rfl
  · simp only [dif_neg hj, if_neg hj]; rfl

theorem covered21 (i : S65536x64.Idx) :
    ∃ t : Fin cfg0.N, (cfg0.win 21).flush t = true ∧ i ∈ ((cfg0.win 21).blk t).view.set := by
  obtain ⟨r, j, rfl⟩ : ∃ (r : Fin 65536) (j : Fin 64), i = ix2 r j := ⟨i 0, i 1, eq_ix2 i⟩
  have hr : r.val / 256 < 256 := by omega
  refine ⟨⟨r.val / 256, hr⟩, flush0_21 _, ?_⟩
  have h := ((cfg0.win 21).blk (⟨r.val / 256, hr⟩ : Fin cfg0.N)).view.emb_mem_set
    (ix2 (⟨r.val % 256, Nat.mod_lt _ (by decide)⟩ : Fin 256) j)
  rw [emb21] at h
  have e : rowAt ⟨r.val / 256, hr⟩ ⟨r.val % 256, Nat.mod_lt _ (by decide)⟩ = r :=
    Fin.ext (by show r.val / 256 * 256 + r.val % 256 = r.val; omega)
  rwa [e] at h

theorem final21 (c : Dev nD) : (dats m 0 c).arrAt 21 cfg0.N = (GKi (m ((c : Thread nD τ).loc main_arg0)) (m ((c : Thread nD τ).loc main_arg1)) (m ((c : Thread nD τ).loc main_arg2))) :=
  (dats m 0 c).arrAt_eq_of_cover 21 (GKi (m ((c : Thread nD τ).loc main_arg0)) (m ((c : Thread nD τ).loc main_arg1)) (m ((c : Thread nD τ).loc main_arg2))) (fun t _ => flushed21_eq m c t) covered21

theorem emb23 (t : Fin cfg0.N) (r : Fin 256) (j : Fin 2048) :
    ((cfg0.win 23).blk t).view.emb (ix2 r j) = ix2 (rowAt t r) j := by
  obtain ⟨-, -, ⟨h0, h1⟩, -⟩ := idx_results t
  refine funext fun a => Fin.ext ?_
  match a with
  | ⟨0, _⟩ => show win0_23.index t (0 : Fin 2) * 256 + 1 * r.val = t.val * 256 + r.val; omega
  | ⟨1, _⟩ => show win0_23.index t (1 : Fin 2) * 2048 + 1 * j.val = j.val; omega

theorem flushed23_eq (c : Dev nD) (t : Fin cfg0.N) : (dats m 0 c).flushed 23 t =
    ((cfg0.win 23).blk t).view.read (Elt Ideal) (GH (m ((c : Thread nD τ).loc main_arg0)) (m ((c : Thread nD τ).loc main_arg1)) (m ((c : Thread nD τ).loc main_arg2))) := by
  rw [flushed23]
  funext i
  obtain ⟨r, j, rfl⟩ : ∃ (r : Fin 256) (j : Fin 2048), i = ix2 r j := ⟨i 0, i 1, eq_ix2 i⟩
  show outH (F := Ideal) (blk m c 0 t) (blk m c 1 t) (blk m c 8 t) (ix2 r j) = (GH (m ((c : Thread nD τ).loc main_arg0)) (m ((c : Thread nD τ).loc main_arg1)) (m ((c : Thread nD τ).loc main_arg2))) (((cfg0.win 23).blk t).view.emb (ix2 r j))
  rw [emb23, out_h]
  simp only [blk0, blk1, blk8]
  rfl

theorem covered23 (i : S65536x2048.Idx) :
    ∃ t : Fin cfg0.N, (cfg0.win 23).flush t = true ∧ i ∈ ((cfg0.win 23).blk t).view.set := by
  obtain ⟨r, j, rfl⟩ : ∃ (r : Fin 65536) (j : Fin 2048), i = ix2 r j := ⟨i 0, i 1, eq_ix2 i⟩
  have hr : r.val / 256 < 256 := by omega
  refine ⟨⟨r.val / 256, hr⟩, flush0_23 _, ?_⟩
  have h := ((cfg0.win 23).blk (⟨r.val / 256, hr⟩ : Fin cfg0.N)).view.emb_mem_set
    (ix2 (⟨r.val % 256, Nat.mod_lt _ (by decide)⟩ : Fin 256) j)
  rw [emb23] at h
  have e : rowAt ⟨r.val / 256, hr⟩ ⟨r.val % 256, Nat.mod_lt _ (by decide)⟩ = r :=
    Fin.ext (by show r.val / 256 * 256 + r.val % 256 = r.val; omega)
  rwa [e] at h

theorem final23 (c : Dev nD) : (dats m 0 c).arrAt 23 cfg0.N = (GH (m ((c : Thread nD τ).loc main_arg0)) (m ((c : Thread nD τ).loc main_arg1)) (m ((c : Thread nD τ).loc main_arg2))) :=
  (dats m 0 c).arrAt_eq_of_cover 23 (GH (m ((c : Thread nD τ).loc main_arg0)) (m ((c : Thread nD τ).loc main_arg1)) (m ((c : Thread nD τ).loc main_arg2))) (fun t _ => flushed23_eq m c t) covered23

theorem emb24 (t : Fin cfg0.N) (r : Fin 256) (j : Fin 2048) :
    ((cfg0.win 24).blk t).view.emb (ix2 r j) = ix2 (rowAt t r) j := by
  obtain ⟨-, -, -, h0, h1⟩ := idx_results t
  refine funext fun a => Fin.ext ?_
  match a with
  | ⟨0, _⟩ => show win0_24.index t (0 : Fin 2) * 256 + 1 * r.val = t.val * 256 + r.val; omega
  | ⟨1, _⟩ => show win0_24.index t (1 : Fin 2) * 2048 + 1 * j.val = j.val; omega

theorem flushed24_eq (c : Dev nD) (t : Fin cfg0.N) : (dats m 0 c).flushed 24 t =
    ((cfg0.win 24).blk t).view.read (Elt Ideal) (GG (m ((c : Thread nD τ).loc main_arg0)) (m ((c : Thread nD τ).loc main_arg1)) (m ((c : Thread nD τ).loc main_arg2))) := by
  rw [flushed24]
  funext i
  obtain ⟨r, j, rfl⟩ : ∃ (r : Fin 256) (j : Fin 2048), i = ix2 r j := ⟨i 0, i 1, eq_ix2 i⟩
  show outG (F := Ideal) (blk m c 0 t) (blk m c 1 t) (blk m c 9 t) (ix2 r j) = (GG (m ((c : Thread nD τ).loc main_arg0)) (m ((c : Thread nD τ).loc main_arg1)) (m ((c : Thread nD τ).loc main_arg2))) (((cfg0.win 24).blk t).view.emb (ix2 r j))
  rw [emb24, out_g]
  simp only [blk0, blk1, blk9]
  rfl

theorem covered24 (i : S65536x2048.Idx) :
    ∃ t : Fin cfg0.N, (cfg0.win 24).flush t = true ∧ i ∈ ((cfg0.win 24).blk t).view.set := by
  obtain ⟨r, j, rfl⟩ : ∃ (r : Fin 65536) (j : Fin 2048), i = ix2 r j := ⟨i 0, i 1, eq_ix2 i⟩
  have hr : r.val / 256 < 256 := by omega
  refine ⟨⟨r.val / 256, hr⟩, flush0_24 _, ?_⟩
  have h := ((cfg0.win 24).blk (⟨r.val / 256, hr⟩ : Fin cfg0.N)).view.emb_mem_set
    (ix2 (⟨r.val % 256, Nat.mod_lt _ (by decide)⟩ : Fin 256) j)
  rw [emb24] at h
  have e : rowAt ⟨r.val / 256, hr⟩ ⟨r.val % 256, Nat.mod_lt _ (by decide)⟩ = r :=
    Fin.ext (by show r.val / 256 * 256 + r.val % 256 = r.val; omega)
  rwa [e] at h

theorem final24 (c : Dev nD) : (dats m 0 c).arrAt 24 cfg0.N = (GG (m ((c : Thread nD τ).loc main_arg0)) (m ((c : Thread nD τ).loc main_arg1)) (m ((c : Thread nD τ).loc main_arg2))) :=
  (dats m 0 c).arrAt_eq_of_cover 24 (GG (m ((c : Thread nD τ).loc main_arg0)) (m ((c : Thread nD τ).loc main_arg1)) (m ((c : Thread nD τ).loc main_arg2))) (fun t _ => flushed24_eq m c t) covered24

/-! ## The reference -/

/-- The reference's results are those of every row. -/
theorem ref_run (m' : (ℓ : Loc Cert.ProjRefIdeal.nD Cert.ProjRefIdeal.τ Cert.ProjRefIdeal.sig) → Buf (Elt Ideal) ℓ) (ρ' : Dev Cert.ProjRefIdeal.nD → PrngReg) :
    θ_run Cert.ProjRefIdeal.defs (onTc (τ := Cert.ProjRefIdeal.τ) (Cert.ProjRefIdeal.main (F := Ideal))) ⟨m', fun _ => 0, ρ'⟩
      fun r => ∀ c : Dev Cert.ProjRefIdeal.nD,
        r.2.mem ((c.tc : Thread Cert.ProjRefIdeal.nD Cert.ProjRefIdeal.τ).loc Cert.ProjRefIdeal.main_v49) = GV (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
        ∧ r.2.mem ((c.tc : Thread Cert.ProjRefIdeal.nD Cert.ProjRefIdeal.τ).loc Cert.ProjRefIdeal.main_v50) = GKi (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
        ∧ r.2.mem ((c.tc : Thread Cert.ProjRefIdeal.nD Cert.ProjRefIdeal.τ).loc Cert.ProjRefIdeal.main_v52) = GH (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
        ∧ r.2.mem ((c.tc : Thread Cert.ProjRefIdeal.nD Cert.ProjRefIdeal.τ).loc Cert.ProjRefIdeal.main_v54) = GG (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
        ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
        ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
        ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
        ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
        ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4) := by
  refine (θ_run Cert.ProjRefIdeal.defs _ _).mono (fun _ h c => ⟨(h c).1.trans ?_, (h c).2.1.trans ?_, (h c).2.2.1.trans ?_,
      (h c).2.2.2.1.trans ?_, (h c).2.2.2.2⟩)
    (Cert.ProjRefIdeal.Value.run (F := Ideal) m' ρ')
  · funext i
    obtain ⟨r, j, rfl⟩ : ∃ (r : Fin 65536) (j : Fin 256), i = ix2 r j := ⟨i 0, i 1, eq_ix2 i⟩
    pointwise [GV, cols, Spec.prod, Spec.rms]
  · funext i
    obtain ⟨r, j, rfl⟩ : ∃ (r : Fin 65536) (j : Fin 64), i = ix2 r j := ⟨i 0, i 1, eq_ix2 i⟩
    pointwise [Cert.ProjRefIdeal.Value.res_main_v50, GKi, turn, angle, cols, Spec.prod, Spec.rms]
    by_cases hj : j.1 < 32
    · have e : j.1 % 32 = j.1 := by omega
      simp only [dif_pos hj, e, Nat.add_comm 32 j.1]
    · have e : j.1 % 32 = j.1 - 32 := by omega
      have e' : 32 + (j.1 - 32) = j.1 := by omega
      simp only [dif_neg hj, e, e']
  · funext i
    obtain ⟨r, j, rfl⟩ : ∃ (r : Fin 65536) (j : Fin 2048), i = ix2 r j := ⟨i 0, i 1, eq_ix2 i⟩
    pointwise [GH, cols, Spec.prod, Spec.rms]
  · funext i
    obtain ⟨r, j, rfl⟩ : ∃ (r : Fin 65536) (j : Fin 2048), i = ix2 r j := ⟨i 0, i 1, eq_ix2 i⟩
    pointwise [GG, cols, Spec.prod, Spec.rms]

/-! ## The claims -/

theorem frame_bits : Cert.quiescent_Proj (hProj := Cert.Proj.Gen.facts) := fun m ρ _ => Cert.Proof.ProjFrame.frame m ρ

theorem frame_ideal : Cert.quiescent_ProjIdeal (hProjIdeal := Cert.ProjIdeal.Gen.facts) := fun m ρ _ =>
  Cert.Proof.ProjIdealFrame.frame m ρ

theorem frame_ref : Cert.quiescent_ProjRefIdeal (hProjRefIdeal := Cert.ProjRefIdeal.Gen.facts) := fun m ρ _ =>
  (θ_run Cert.ProjRefIdeal.defs _ _).mono (fun r h => ⟨fun c => (h c).2.2.2.2, sem_eq_zero_of_no_sems (by decide) r.2⟩)
    (Cert.ProjRefIdeal.Value.run (F := Ideal) m ρ)

theorem algebraic : Cert.algebraic_ProjIdeal_ProjRefIdeal (hProjIdeal := Cert.ProjIdeal.Gen.facts)
    (hProjRefIdeal := Cert.ProjRefIdeal.Gen.facts) := by
  intro m ρ m' ρ' _ hagree
  refine ⟨fun c => GV (m ((c : Thread nD τ).loc main_arg0)) (m ((c : Thread nD τ).loc main_arg1)) (m ((c : Thread nD τ).loc main_arg2)), fun c => GKi (m ((c : Thread nD τ).loc main_arg0)) (m ((c : Thread nD τ).loc main_arg1)) (m ((c : Thread nD τ).loc main_arg2)),
    fun c => GH (m ((c : Thread nD τ).loc main_arg0)) (m ((c : Thread nD τ).loc main_arg1)) (m ((c : Thread nD τ).loc main_arg2)), fun c => GG (m ((c : Thread nD τ).loc main_arg0)) (m ((c : Thread nD τ).loc main_arg1)) (m ((c : Thread nD τ).loc main_arg2)), ?_, ?_⟩
  · exact (θ_run Cert.ProjIdeal.defs _ _).mono (fun r h c => ⟨(h c).1.trans (final18 m c), (h c).2.1.trans (final21 m c),
      (h c).2.2.1.trans (final23 m c), (h c).2.2.2.1.trans (final24 m c), (h c).2.2.2.2⟩) (run (F := Ideal) m ρ)
  · refine (θ_run Cert.ProjRefIdeal.defs _ _).mono (fun r h c => ⟨(h c).1.trans ?_, (h c).2.1.trans ?_, (h c).2.2.1.trans ?_,
      (h c).2.2.2.1.trans ?_, (h c).2.2.2.2⟩) (ref_run m' ρ')
    all_goals
      obtain ⟨h0, h1, h2, -, -⟩ := hagree c
      rw [h0, h1, h2]

end Cert.Proof.ProjValue

end
-- ==== Proof.Heads.lean ====
/-
  Normalised heads over the extended reals: a row of 256 numbers is four heads of 64, each divided by the root of its mean
  square. The body takes the mean through a block-diagonal matrix of ones, of the squares split in two parts; where the
  squares are finite that is the mean of the squares (`parts`).
-/
module

public import proofs.«01_k».proof.Proof.Spec

@[expose] public section

noncomputable section

namespace Cert.Proof.Heads

open Idealize.ShloMosaic

/-- A number that is neither infinity. -/
def Finite (x : EReal) : Prop := ∃ r : ℝ, x = (r : EReal)

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {n : Nat} {φ : Fin n → EReal} (h : ∀ i, Finite (φ i)) : Finite (∑ i, φ i) := by
  choose f hf using h
  refine ⟨∑ i, f i, ?_⟩
  rw [funext hf]
  exact (map_sum (⟨⟨Real.toEReal, EReal.coe_zero⟩, EReal.coe_add⟩ : ℝ →+ EReal) f Finset.univ).symm

theorem Finite.sub_self {x : EReal} (hx : Finite x) : x - x = 0 := by
  obtain ⟨a, rfl⟩ := hx
  rw [← EReal.coe_sub, _root_.sub_self, EReal.coe_zero]

theorem word_1024 : Ideal.ofBits .f32 0x44800000#32 = ((1024 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_64th : Ideal.ofBits .f32 0x3C800000#32 = (((64 : ℝ)⁻¹ : ℝ) : EReal) := by
  simp [Ideal.ofBits, Ideal.ieee, -EReal.coe_mul]; norm_num

theorem word_eps : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-- Dividing by 64 is multiplying by its inverse. -/
theorem div_64 (s : EReal) : Ideal.div s (Ideal.ofBits .f32 0x42800000#32) = s * Ideal.ofBits .f32 0x3C800000#32 := by
  rw [word_64, word_64th, Ideal.div, if_neg (by exact_mod_cast (by norm_num : (64 : ℝ) ≠ 0)), EReal.coe_inv]

theorem square_nonneg (x : EReal) : 0 ≤ x * x := by
  induction x with
  | bot => simp
  | top => simp
  | coe r => exact_mod_cast mul_self_nonneg r

/-- A normalised row is finite, whatever the row: where an entry is infinite the root of the mean is, and its inverse is 0. -/
theorem rms_finite (x g : Fin 1024 → EReal) (hg : ∀ k, Finite (g k)) (k : Fin 1024) : Finite (Spec.rms x g k) := by
  unfold Spec.rms
  refine Finite.mul ?_ (hg k)
  obtain ⟨e, he, hw⟩ := word_eps
  have hS : 0 ≤ ∑ i, x i * x i := Finset.sum_nonneg fun i _ => square_nonneg (x i)
  have hk : x k * x k ≤ ∑ i, x i * x i := Finset.single_le_sum (f := fun i => x i * x i) (fun i _ => square_nonneg (x i)) (Finset.mem_univ k)
  generalize (∑ i, x i * x i) = s at hS hk
  rw [hw, word_1024, Ideal.div, if_neg (by exact_mod_cast (by norm_num : (1024 : ℝ) ≠ 0)), ← EReal.coe_inv]
  induction s with
  | bot => exact absurd hS (by simp)
  | top =>
    rw [EReal.top_mul_coe_of_pos (by norm_num : (0 : ℝ) < (1024 : ℝ)⁻¹), EReal.top_add_coe]
    have hr : Ideal.rsqrt ⊤ = 0 := rfl
    exact ⟨0, by rw [hr, mul_zero, EReal.coe_zero]⟩
  | coe s =>
    have hs : (0 : ℝ) ≤ s := by exact_mod_cast hS
    rw [← EReal.coe_mul, ← EReal.coe_add]
    have hp : 0 < s * (1024 : ℝ)⁻¹ + e := by positivity
    refine Finite.mul ?_ ⟨(Real.sqrt (s * (1024 : ℝ)⁻¹ + e))⁻¹, ?_⟩
    · cases hx : x k with
      | bot => rw [hx] at hk; simp at hk
      | top => rw [hx] at hk; simp at hk
      | coe r => exact ⟨r, rfl⟩
    · show (if s * (1024 : ℝ)⁻¹ + e < 0 then (⊥ : EReal) else if s * (1024 : ℝ)⁻¹ + e = 0 then ⊤ else _) = _
      rw [if_neg (not_lt.2 hp.le), if_neg hp.ne']

theorem prod_finite {n p : Nat} (h : Fin n → EReal) (w : Fin n → Fin p → EReal) (hh : ∀ k, Finite (h k))
    (hw : ∀ k f, Finite (w k f)) (j : Fin p) : Finite (Spec.prod h w j) :=
  Finite.sum fun k => (hh k).mul (hw k j)

/-- A sum through the block-diagonal matrix of ones is the sum over the head. -/
theorem sum_head (φ : Fin 256 → EReal) (j : Fin 256) :
    ∑ i, φ i * (if i.1 / 64 = j.1 / 64 then 1 else 0) = ∑ f : Fin 64, φ ⟨j.1 / 64 * 64 + f.1, by omega⟩ := by
  let ψ : Fin 256 → EReal := fun i => φ i * (if i.1 / 64 = j.1 / 64 then 1 else 0)
  have h : ∑ i, ψ i = ∑ c : Fin 4, ∑ f : Fin 64, ψ (Fin.cast (by decide : 4 * 64 = 256) (finProdFinEquiv (c, f))) := by
    rw [← Fintype.sum_prod_type' (fun (c : Fin 4) (f : Fin 64) => ψ (Fin.cast (by decide : 4 * 64 = 256) (finProdFinEquiv (c, f))))]
    exact (Fintype.sum_equiv (finProdFinEquiv.trans (finCongr (by decide : 4 * 64 = 256))) _ _ fun _ => rfl).symm
  refine h.trans ?_
  have hc : j.1 / 64 < 4 := by omega
  rw [Finset.sum_eq_single (⟨j.1 / 64, hc⟩ : Fin 4)]
  · refine Finset.sum_congr rfl fun f _ => ?_
    have e : (Fin.cast (by decide : 4 * 64 = 256) (finProdFinEquiv ((⟨j.1 / 64, hc⟩ : Fin 4), f)) : Fin 256) =
        ⟨j.1 / 64 * 64 + f.1, by omega⟩ := Fin.ext (by show f.1 + 64 * (j.1 / 64) = j.1 / 64 * 64 + f.1; omega)
    have e' : (j.1 / 64 * 64 + f.1) / 64 = j.1 / 64 := by omega
    rw [e]
    show φ _ * (if (j.1 / 64 * 64 + f.1) / 64 = j.1 / 64 then 1 else 0) = _
    rw [if_pos e', mul_one]
  · intro c _ hne
    refine Finset.sum_eq_zero fun f _ => ?_
    show φ _ * (if (f.1 + 64 * c.1) / 64 = j.1 / 64 then 1 else 0) = 0
    rw [if_neg, mul_zero]
    intro h'
    exact hne (Fin.ext (by show c.1 = j.1 / 64; omega))
  · intro h'
    exact absurd (Finset.mem_univ _) h'

/-- The inverse root of a head's mean square. -/
def scale (y : Fin 64 → EReal) : EReal :=
  Ideal.rsqrt (Ideal.div (∑ f, y f * y f) (Ideal.ofBits .f32 0x42800000#32) + Ideal.ofBits .f32 0x358637BD#32)

/-- A row of heads, normalised and scaled by the gain. -/
def norm (y : Fin 256 → EReal) (g : Fin 64 → EReal) (j : Fin 256) : EReal :=
  y j * scale (fun f => y ⟨j.1 / 64 * 64 + f.1, by omega⟩) * g ⟨j.1 % 64, by omega⟩

/-- What the body takes the inverse root of, of a finite row. -/
theorem parts (y : Fin 256 → EReal) (hy : ∀ i, Finite (y i)) (j : Fin 256) :
    Ideal.rsqrt (((∑ i, y i * y i * (if i.1 / 64 = j.1 / 64 then 1 else 0))
        + ∑ i, (y i * y i - y i * y i) * (if i.1 / 64 = j.1 / 64 then 1 else 0)) * Ideal.ofBits .f32 0x3C800000#32
      + Ideal.ofBits .f32 0x358637BD#32) = scale (fun f => y ⟨j.1 / 64 * 64 + f.1, by omega⟩) := by
  have h0 : ∑ i, (y i * y i - y i * y i) * (if i.1 / 64 = j.1 / 64 then (1 : EReal) else 0) = 0 :=
    Finset.sum_eq_zero fun i _ => by rw [((hy i).mul (hy i)).sub_self, zero_mul]
  rw [h0, add_zero, sum_head (fun i => y i * y i), scale, div_64]

end Cert.Proof.Heads

end
-- ==== Proof.KeysIdealFrame.lean ====
/-
  The run of the call of the input projections (over the extended reals and any other numbers): every point of its grid reads
  its sixteen blocks and fills its eleven result blocks with functions of them (`body_at`), so the call ends with each result
  array as the points wrote it, its arguments as they were and every semaphore at zero (`run`, `frame`).
-/
module

public import proofs.«01_k».proof.Proof.Gen.KeysIdeal.Launch
public import proofs.«01_k».proof.Proof.Gen.KeysIdeal.Skeleton
public import proofs.«01_k».proof.Proof.Gen.KeysIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Proof.KeysIdealFrame

open Cert.KeysIdeal Cert.KeysIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the grid -/

/-- What core `c`'s arrays hold when the grid starts: what the host operations before it leave of the launch's memory. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_total : (hostOps0 : List (HloOp τ sig (Elt F))).Forall fun op => op.fresh = ∅ := by
  simp only [List.Forall]; repeat' constructor
theorem hostOps0_1_total : (hostOps0_1 : List (HloOp τ sig (Elt F))).Forall fun op => op.fresh = ∅ := by
  simp only [List.Forall]; repeat' constructor
theorem hostOps0_2_total : (hostOps0_2 : List (HloOp τ sig (Elt F))).Forall fun op => op.fresh = ∅ := by
  simp only [List.Forall]; repeat' constructor
theorem hostOps0_3_total : (hostOps0_3 : List (HloOp τ sig (Elt F))).Forall fun op => op.fresh = ∅ := by
  simp only [List.Forall]; repeat' constructor
theorem hostOps0_4_total : (hostOps0_4 : List (HloOp τ sig (Elt F))).Forall fun op => op.fresh = ∅ := by
  simp only [List.Forall]; repeat' constructor

set_option maxHeartbeats 800000 in
/-- The program is its host operations, then the grid. -/
theorem upto (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_total, hostOps0_1_total, hostOps0_2_total, hostOps0_3_total, hostOps0_4_total⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))

/-- Window `w`'s block at point `t`. -/
def blk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## What the body leaves -/

abbrev atS256x1024 : Rect S256x1024 := Rect.unit (s := S256x1024) ![0, 0] S256x1024.size inb_S256x1024_S256x1024_0_0
abbrev atS1x1024 : Rect S1x1024 := Rect.unit (s := S1x1024) ![0, 0] S1x1024.size inb_S1x1024_S1x1024_0_0
abbrev atS256x128 : Rect S256x128 := Rect.unit (s := S256x128) ![0, 0] S256x128.size inb_S256x128_S256x128_0_0
abbrev atS1024x512 : Rect S1024x512 := Rect.unit (s := S1024x512) ![0, 0] S1024x512.size inb_S1024x512_S1024x512_0_0
abbrev atS1x512 : Rect S1x512 := Rect.unit (s := S1x512) ![0, 0] S1x512.size inb_S1x512_S1x512_0_0
abbrev atS512x512 : Rect S512x512 := Rect.unit (s := S512x512) ![0, 0] S512x512.size inb_S512x512_S512x512_0_0
abbrev atS512x2048 : Rect S512x2048 := Rect.unit (s := S512x2048) ![0, 0] S512x2048.size inb_S512x2048_S512x2048_0_0
abbrev atS256x2048 : Rect S256x2048 := Rect.unit (s := S256x2048) ![0, 0] S256x2048.size inb_S256x2048_S256x2048_0_0
abbrev atS1024x256 : Rect S1024x256 := Rect.unit (s := S1024x256) ![0, 0] S1024x256.size inb_S1024x256_S1024x256_0_0
abbrev atS1x256 : Rect S1x256 := Rect.unit (s := S1x256) ![0, 0] S1x256.size inb_S1x256_S1x256_0_0
abbrev atCorner : Rect S512x512 := Rect.unit (s := S512x512) ![0, 0] S256x256.size inb_S512x512_S256x256_0_0
abbrev atS256x256 : Rect S256x256 := Rect.unit (s := S256x256) ![0, 0] S256x256.size inb_S256x256_S256x256_0_0
abbrev atS1024x2048 : Rect S1024x2048 := Rect.unit (s := S1024x2048) ![0, 0] S1024x2048.size inb_S1024x2048_S1024x2048_0_0
abbrev atS256x64 : Rect S256x64 := Rect.unit (s := S256x64) ![0, 0] S256x64.size inb_S256x64_S256x64_0_0
abbrev atS1x256x256 : Rect S1x256x256 := Rect.unit (s := S1x256x256) ![0, 0, 0] S1x256x256.size inb_S1x256x256_S1x256x256_0_0_0
abbrev atS1024x128 : Rect S1024x128 := Rect.unit (s := S1024x128) ![0, 0] S1024x128.size inb_S1024x128_S1024x128_0_0

variable (x0 : Vec F S256x1024 .f32) (x1 : Vec F S1x1024 .f32) (x2 : Vec F S1024x512 .bf16) (x3 : Vec F S1024x256 .bf16) (x4 : Vec F S1024x256 .bf16) (x5 : Vec F S1024x2048 .bf16) (x6 : Vec F S1024x256 .bf16) (x7 : Vec F S1024x128 .bf16) (x8 : Vec F S1024x2048 .bf16) (x9 : Vec F S1024x2048 .bf16) (x10 : Vec F S512x512 .bf16) (x11 : Vec F S512x2048 .bf16) (x12 : Vec F S1x512 .f32) (x13 : Vec F S1x256 .f32) (x14 : Vec F S256x128 .f32) (x15 : Vec F S256x128 .f32)

/-- The rows, normalised. -/
def normedRows := k0_pay2 (View.ld x0 atS256x1024) (View.ld x1 atS1x1024)
/-- The cosines. -/
def cosRows := k0_pay3 (View.ld x14 atS256x128)
/-- The sines. -/
def sinRows := k0_pay4 (View.ld x15 atS256x128)
/-- The keys before their norm. -/
def keyRows := k0_pay9 (normedRows x0 x1) (View.ld x3 atS1024x256)
/-- The keys' gain. -/
def keyGain := k0_pay10 (View.ld x13 atS1x256)
/-- The squared keys' leading part. -/
def keyHi := k0_pay13 (normedRows x0 x1) (View.ld x3 atS1024x256)
/-- The matrix that takes the means. -/
def ones := k0_pay14 (View.ld x10 atCorner)
/-- The means of the leading part. -/
def keyMeans := k0_pay15 (normedRows x0 x1) (View.ld x3 atS1024x256) (View.ld x10 atCorner)
/-- The block of the queries. -/
def outQ : Vec F S256x2048 .bf16 := View.canon [⟨atS256x2048, k0_pay8 (cosRows x14) (sinRows x15) (k0_pay5 (View.ld x0 atS256x1024) (View.ld x1 atS1x1024) (View.ld x2 atS1024x512)) (k0_pay6 (View.ld x12 atS1x512)) (k0_pay7 (View.ld x0 atS256x1024) (View.ld x1 atS1x1024) (View.ld x2 atS1024x512) (View.ld x10 atS512x512)) (View.ld x11 atS512x2048)⟩]
/-- The block of the keys. -/
def outK : Vec F S256x256 .f32 := View.canon [⟨atS256x256, k0_pay16 (cosRows x14) (sinRows x15) (keyRows x0 x1 x3) (keyGain x13) (keyHi x0 x1 x3) (ones x10) (keyMeans x0 x1 x3 x10)⟩]
/-- The block of the values. -/
def outV : Vec F S256x256 .f32 := View.canon [⟨atS256x256, k0_pay17 (normedRows x0 x1) (View.ld x4 atS1024x256)⟩]
/-- The block of the values, packed. -/
def outVb : Vec F S256x256 .bf16 := View.canon [⟨atS256x256, k0_pay18 (normedRows x0 x1) (View.ld x4 atS1024x256)⟩]
/-- The block of the index queries. -/
def outQc : Vec F S256x2048 .bf16 := View.canon [⟨atS256x2048, k0_pay23 (k0_pay19 (normedRows x0 x1) (View.ld x5 atS1024x2048)) (k0_pay20 (cosRows x14)) (k0_pay21 (sinRows x15)) (iota .tc S256x2048 32 [1] iota_S256x2048_d1_w32) k0_pay22⟩]
/-- The block of the index keys. -/
def outKi : Vec F S256x64 .f32 := View.canon [⟨atS256x64, k0_pay25 (normedRows x0 x1) (cosRows x14) (sinRows x15) (View.ld x6 atS1024x256)⟩]
/-- The block of the index weights. -/
def outWi : Vec F S256x128 .f32 := View.canon [⟨atS256x128, k0_pay28 (normedRows x0 x1) (View.ld x7 atS1024x128)⟩]
/-- The block of the recurrence's inputs. -/
def outH : Vec F S256x2048 .f32 := View.canon [⟨atS256x2048, k0_pay29 (normedRows x0 x1) (View.ld x8 atS1024x2048)⟩]
/-- The block of the gates. -/
def outG : Vec F S256x2048 .f32 := View.canon [⟨atS256x2048, k0_pay1 (normedRows x0 x1) (k0_pay30 (View.ld x9 atS1024x2048))⟩]
/-- The block of the keys turned on their side. -/
def outKt : Vec F S1x256x256 .bf16 := View.canon [⟨atS1x256x256, k0_pay26 (k0_pay16 (cosRows x14) (sinRows x15) (keyRows x0 x1 x3) (keyGain x13) (keyHi x0 x1 x3) (ones x10) (keyMeans x0 x1 x3 x10))⟩]
/-- The block of the index keys turned on their side. -/
def outKiT : Vec F S1x256x256 .bf16 := View.canon [⟨atS1x256x256, k0_pay27 (k0_pay24 (normedRows x0 x1) (cosRows x14) (sinRows x15) (View.ld x6 atS1024x256))⟩]

theorem whole_S256x2048_bf16 (p : Vec F S256x2048 .bf16) (y : S256x2048.Idx) :
    ∃ pc ∈ ([⟨atS256x2048, p⟩] : List (View.Piece (Elt F) S256x2048 .bf16)), y ∈ pc.1.set :=
  View.cover_of_tiled [⟨atS256x2048, p⟩] S256x2048.size (by rfl) y
theorem whole_S256x256_f32 (p : Vec F S256x256 .f32) (y : S256x256.Idx) :
    ∃ pc ∈ ([⟨atS256x256, p⟩] : List (View.Piece (Elt F) S256x256 .f32)), y ∈ pc.1.set :=
  View.cover_of_tiled [⟨atS256x256, p⟩] S256x256.size (by rfl) y
theorem whole_S256x256_bf16 (p : Vec F S256x256 .bf16) (y : S256x256.Idx) :
    ∃ pc ∈ ([⟨atS256x256, p⟩] : List (View.Piece (Elt F) S256x256 .bf16)), y ∈ pc.1.set :=
  View.cover_of_tiled [⟨atS256x256, p⟩] S256x256.size (by rfl) y
theorem whole_S256x64_f32 (p : Vec F S256x64 .f32) (y : S256x64.Idx) :
    ∃ pc ∈ ([⟨atS256x64, p⟩] : List (View.Piece (Elt F) S256x64 .f32)), y ∈ pc.1.set :=
  View.cover_of_tiled [⟨atS256x64, p⟩] S256x64.size (by rfl) y
theorem whole_S256x128_f32 (p : Vec F S256x128 .f32) (y : S256x128.Idx) :
    ∃ pc ∈ ([⟨atS256x128, p⟩] : List (View.Piece (Elt F) S256x128 .f32)), y ∈ pc.1.set :=
  View.cover_of_tiled [⟨atS256x128, p⟩] S256x128.size (by rfl) y
theorem whole_S256x2048_f32 (p : Vec F S256x2048 .f32) (y : S256x2048.Idx) :
    ∃ pc ∈ ([⟨atS256x2048, p⟩] : List (View.Piece (Elt F) S256x2048 .f32)), y ∈ pc.1.set :=
  View.cover_of_tiled [⟨atS256x2048, p⟩] S256x2048.size (by rfl) y
theorem whole_S1x256x256_bf16 (p : Vec F S1x256x256 .bf16) (y : S1x256x256.Idx) :
    ∃ pc ∈ ([⟨atS1x256x256, p⟩] : List (View.Piece (Elt F) S1x256x256 .bf16)), y ∈ pc.1.set :=
  View.cover_of_tiled [⟨atS1x256x256, p⟩] S1x256x256.size (by rfl) y

set_option maxHeartbeats 4000000 in
/-- The body reads its inputs' buffers, leaves them, and leaves each result's buffer as its stores say. -/
theorem body_runs (c : Dev nD) (E : Set ℕ) (i : grid0.Coords) (a0 : Memref sig .tc .vmem S256x1024 .f32) (h0 : a0.IsWhole) (a1 : Memref sig .tc .vmem S1x1024 .f32) (h1 : a1.IsWhole) (a2 : Memref sig .tc .vmem S1024x512 .bf16) (h2 : a2.IsWhole) (a3 : Memref sig .tc .vmem S1024x256 .bf16) (h3 : a3.IsWhole) (a4 : Memref sig .tc .vmem S1024x256 .bf16) (h4 : a4.IsWhole) (a5 : Memref sig .tc .vmem S1024x2048 .bf16) (h5 : a5.IsWhole) (a6 : Memref sig .tc .vmem S1024x256 .bf16) (h6 : a6.IsWhole) (a7 : Memref sig .tc .vmem S1024x128 .bf16) (h7 : a7.IsWhole) (a8 : Memref sig .tc .vmem S1024x2048 .bf16) (h8 : a8.IsWhole) (a9 : Memref sig .tc .vmem S1024x2048 .bf16) (h9 : a9.IsWhole) (a10 : Memref sig .tc .vmem S512x512 .bf16) (h10 : a10.IsWhole) (a11 : Memref sig .tc .vmem S512x2048 .bf16) (h11 : a11.IsWhole) (a12 : Memref sig .tc .vmem S1x512 .f32) (h12 : a12.IsWhole) (a13 : Memref sig .tc .vmem S1x256 .f32) (h13 : a13.IsWhole) (a14 : Memref sig .tc .vmem S256x128 .f32) (h14 : a14.IsWhole) (a15 : Memref sig .tc .vmem S256x128 .f32) (h15 : a15.IsWhole) (a16 : Memref sig .tc .vmem S256x2048 .bf16) (h16 : a16.IsWhole) (a17 : Memref sig .tc .vmem S256x256 .f32) (h17 : a17.IsWhole) (a18 : Memref sig .tc .vmem S256x256 .f32) (h18 : a18.IsWhole) (a19 : Memref sig .tc .vmem S256x256 .bf16) (h19 : a19.IsWhole) (a20 : Memref sig .tc .vmem S256x2048 .bf16) (h20 : a20.IsWhole) (a21 : Memref sig .tc .vmem S256x64 .f32) (h21 : a21.IsWhole) (a22 : Memref sig .tc .vmem S256x128 .f32) (h22 : a22.IsWhole) (a23 : Memref sig .tc .vmem S256x2048 .f32) (h23 : a23.IsWhole) (a24 : Memref sig .tc .vmem S256x2048 .f32) (h24 : a24.IsWhole) (a25 : Memref sig .tc .vmem S1x256x256 .bf16) (h25 : a25.IsWhole) (a26 : Memref sig .tc .vmem S1x256x256 .bf16) (h26 : a26.IsWhole) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare (outQ x0 x1 x2 x10 x11 x12 x14 x15) ∗ owns (c : Thread nD τ) a17 fullShare (outK x0 x1 x3 x10 x13 x14 x15) ∗ owns (c : Thread nD τ) a18 fullShare (outV x0 x1 x4) ∗ owns (c : Thread nD τ) a19 fullShare (outVb x0 x1 x4) ∗ owns (c : Thread nD τ) a20 fullShare (outQc x0 x1 x5 x14 x15) ∗ owns (c : Thread nD τ) a21 fullShare (outKi x0 x1 x6 x14 x15) ∗ owns (c : Thread nD τ) a22 fullShare (outWi x0 x1 x7) ∗ owns (c : Thread nD τ) a23 fullShare (outH x0 x1 x8) ∗ owns (c : Thread nD τ) a24 fullShare (outG x0 x1 x9) ∗ owns (c : Thread nD τ) a25 fullShare (outKt x0 x1 x3 x10 x13 x14 x15) ∗ owns (c : Thread nD τ) a26 fullShare (outKiT x0 x1 x6 x14 x15)) -∗ K ⟨⟩))
      ⊢ wp frame (wpE (defs₀ (F := F)) Variants.none c none) E (cc0_proj i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K := by
  simp only [cc0_proj_eq_skeleton]; unfold cc0_proj_skel
  simp only [k0_part1_eq_skeleton, k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst e0 e1 e2 e3 e4 e5 e6 e7 e8 e9 e10 e11 e12 e13 e14 e15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact (View.read_writes_eq_canon _ _ _ (whole_S256x2048_bf16 _)).trans rfl
  isplitl [H17]
  · iexists _; isplitr
    swap; · iexact H17
    ipureintro
    exact (View.read_writes_eq_canon _ _ _ (whole_S256x256_f32 _)).trans rfl
  isplitl [H18]
  · iexists _; isplitr
    swap; · iexact H18
    ipureintro
    exact (View.read_writes_eq_canon _ _ _ (whole_S256x256_f32 _)).trans rfl
  isplitl [H19]
  · iexists _; isplitr
    swap; · iexact H19
    ipureintro
    exact (View.read_writes_eq_canon _ _ _ (whole_S256x256_bf16 _)).trans rfl
  isplitl [H20]
  · iexists _; isplitr
    swap; · iexact H20
    ipureintro
    exact (View.read_writes_eq_canon _ _ _ (whole_S256x2048_bf16 _)).trans rfl
  isplitl [H21]
  · iexists _; isplitr
    swap; · iexact H21
    ipureintro
    exact (View.read_writes_eq_canon _ _ _ (whole_S256x64_f32 _)).trans rfl
  isplitl [H22]
  · iexists _; isplitr
    swap; · iexact H22
    ipureintro
    exact (View.read_writes_eq_canon _ _ _ (whole_S256x128_f32 _)).trans rfl
  isplitl [H23]
  · iexists _; isplitr
    swap; · iexact H23
    ipureintro
    exact (View.read_writes_eq_canon _ _ _ (whole_S256x2048_f32 _)).trans rfl
  isplitl [H24]
  · iexists _; isplitr
    swap; · iexact H24
    ipureintro
    exact (View.read_writes_eq_canon _ _ _ (whole_S256x2048_f32 _)).trans rfl
  isplitl [H25]
  · iexists _; isplitr
    swap; · iexact H25
    ipureintro
    exact (View.read_writes_eq_canon _ _ _ (whole_S1x256x256_bf16 _)).trans rfl
  iexists _; isplitr
  swap; · iexact H26
  ipureintro
  exact (View.read_writes_eq_canon _ _ _ (whole_S1x256x256_bf16 _)).trans rfl

/-! ## The grid -/

/-- The grid's data on core `c`: the arrays as it finds them, and after each point the inputs' buffers at their blocks and the
    results' at what the body leaves. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => outQ (blk m c 0 t) (blk m c 1 t) (blk m c 2 t) (blk m c 10 t) (blk m c 11 t) (blk m c 12 t) (blk m c 14 t) (blk m c 15 t)
    | ⟨17, _⟩ => outK (blk m c 0 t) (blk m c 1 t) (blk m c 3 t) (blk m c 10 t) (blk m c 13 t) (blk m c 14 t) (blk m c 15 t)
    | ⟨18, _⟩ => outV (blk m c 0 t) (blk m c 1 t) (blk m c 4 t)
    | ⟨19, _⟩ => outVb (blk m c 0 t) (blk m c 1 t) (blk m c 4 t)
    | ⟨20, _⟩ => outQc (blk m c 0 t) (blk m c 1 t) (blk m c 5 t) (blk m c 14 t) (blk m c 15 t)
    | ⟨21, _⟩ => outKi (blk m c 0 t) (blk m c 1 t) (blk m c 6 t) (blk m c 14 t) (blk m c 15 t)
    | ⟨22, _⟩ => outWi (blk m c 0 t) (blk m c 1 t) (blk m c 7 t)
    | ⟨23, _⟩ => outH (blk m c 0 t) (blk m c 1 t) (blk m c 8 t)
    | ⟨24, _⟩ => outG (blk m c 0 t) (blk m c 1 t) (blk m c 9 t)
    | ⟨25, _⟩ => outKt (blk m c 0 t) (blk m c 1 t) (blk m c 3 t) (blk m c 10 t) (blk m c 13 t) (blk m c 14 t) (blk m c 15 t)
    | ⟨26, _⟩ => outKiT (blk m c 0 t) (blk m c 1 t) (blk m c 6 t) (blk m c 14 t) (blk m c 15 t)
    | ⟨_ + 27, h⟩ => absurd h (Nat.not_lt.2 (Nat.le_add_left _ _))
  Φ _ := Pipeline.ΦA spec0 c
  q _ := fullShare
  owed _ := 0

theorem arr_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = blk m c 8 t := by dsimp only [dats]
theorem after9 (c : Dev nD) (t : Fin cfg0.N) : (dats m 0 c).after 9 t = blk m c 9 t := by dsimp only [dats]
theorem after10 (c : Dev nD) (t : Fin cfg0.N) : (dats m 0 c).after 10 t = blk m c 10 t := by dsimp only [dats]
theorem after11 (c : Dev nD) (t : Fin cfg0.N) : (dats m 0 c).after 11 t = blk m c 11 t := by dsimp only [dats]
theorem after12 (c : Dev nD) (t : Fin cfg0.N) : (dats m 0 c).after 12 t = blk m c 12 t := by dsimp only [dats]
theorem after13 (c : Dev nD) (t : Fin cfg0.N) : (dats m 0 c).after 13 t = blk m c 13 t := by dsimp only [dats]
theorem after14 (c : Dev nD) (t : Fin cfg0.N) : (dats m 0 c).after 14 t = blk m c 14 t := by dsimp only [dats]
theorem after15 (c : Dev nD) (t : Fin cfg0.N) : (dats m 0 c).after 15 t = blk m c 15 t := by dsimp only [dats]
theorem after16 (c : Dev nD) (t : Fin cfg0.N) : (dats m 0 c).after 16 t =
    outQ (blk m c 0 t) (blk m c 1 t) (blk m c 2 t) (blk m c 10 t) (blk m c 11 t) (blk m c 12 t) (blk m c 14 t) (blk m c 15 t) := by dsimp only [dats]
theorem after17 (c : Dev nD) (t : Fin cfg0.N) : (dats m 0 c).after 17 t =
    outK (blk m c 0 t) (blk m c 1 t) (blk m c 3 t) (blk m c 10 t) (blk m c 13 t) (blk m c 14 t) (blk m c 15 t) := by dsimp only [dats]
theorem after18 (c : Dev nD) (t : Fin cfg0.N) : (dats m 0 c).after 18 t =
    outV (blk m c 0 t) (blk m c 1 t) (blk m c 4 t) := by dsimp only [dats]
theorem after19 (c : Dev nD) (t : Fin cfg0.N) : (dats m 0 c).after 19 t =
    outVb (blk m c 0 t) (blk m c 1 t) (blk m c 4 t) := by dsimp only [dats]
theorem after20 (c : Dev nD) (t : Fin cfg0.N) : (dats m 0 c).after 20 t =
    outQc (blk m c 0 t) (blk m c 1 t) (blk m c 5 t) (blk m c 14 t) (blk m c 15 t) := by dsimp only [dats]
theorem after21 (c : Dev nD) (t : Fin cfg0.N) : (dats m 0 c).after 21 t =
    outKi (blk m c 0 t) (blk m c 1 t) (blk m c 6 t) (blk m c 14 t) (blk m c 15 t) := by dsimp only [dats]
theorem after22 (c : Dev nD) (t : Fin cfg0.N) : (dats m 0 c).after 22 t =
    outWi (blk m c 0 t) (blk m c 1 t) (blk m c 7 t) := by dsimp only [dats]
theorem after23 (c : Dev nD) (t : Fin cfg0.N) : (dats m 0 c).after 23 t =
    outH (blk m c 0 t) (blk m c 1 t) (blk m c 8 t) := by dsimp only [dats]
theorem after24 (c : Dev nD) (t : Fin cfg0.N) : (dats m 0 c).after 24 t =
    outG (blk m c 0 t) (blk m c 1 t) (blk m c 9 t) := by dsimp only [dats]
theorem after25 (c : Dev nD) (t : Fin cfg0.N) : (dats m 0 c).after 25 t =
    outKt (blk m c 0 t) (blk m c 1 t) (blk m c 3 t) (blk m c 10 t) (blk m c 13 t) (blk m c 14 t) (blk m c 15 t) := by dsimp only [dats]
theorem after26 (c : Dev nD) (t : Fin cfg0.N) : (dats m 0 c).after 26 t =
    outKiT (blk m c 0 t) (blk m c 1 t) (blk m c 6 t) (blk m c 14 t) (blk m c 15 t) := by dsimp only [dats]

theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [arr_eq]; try rfl) t d).trans
    (by unfold Dat.fetched Dat.blockOf blk; rw [arr_eq]; try rfl)
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [arr_eq]; try rfl) t d).trans
    (by unfold Dat.fetched Dat.blockOf blk; rw [arr_eq]; try rfl)
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [arr_eq]; try rfl) t d).trans
    (by unfold Dat.fetched Dat.blockOf blk; rw [arr_eq]; try rfl)
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [arr_eq]; try rfl) t d).trans
    (by unfold Dat.fetched Dat.blockOf blk; rw [arr_eq]; try rfl)
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [arr_eq]; try rfl) t d).trans
    (by unfold Dat.fetched Dat.blockOf blk; rw [arr_eq]; try rfl)
theorem before5 (c : Dev nD) (t : Fin cfg0.N) (d) : (dats m 0 c).before 5 t d = blk m c 5 t :=
  ((dats m 0 c).before_in_eq_fetched 5 rfl (fun _ => rfl) (fun _ _ _ => rfl)
    (fun t => by rw [after5]; unfold Dat.blockOf blk; rw [arr_eq]; try rfl) t d).trans
    (by unfold Dat.fetched Dat.blockOf blk; rw [arr_eq]; try rfl)
theorem before6 (c : Dev nD) (t : Fin cfg0.N) (d) : (dats m 0 c).before 6 t d = blk m c 6 t :=
  ((dats m 0 c).before_in_eq_fetched 6 rfl (fun _ => rfl) (fun _ _ _ => rfl)
    (fun t => by rw [after6]; unfold Dat.blockOf blk; rw [arr_eq]; try rfl) t d).trans
    (by unfold Dat.fetched Dat.blockOf blk; rw [arr_eq]; try rfl)
theorem before7 (c : Dev nD) (t : Fin cfg0.N) (d) : (dats m 0 c).before 7 t d = blk m c 7 t :=
  ((dats m 0 c).before_in_eq_fetched 7 rfl (fun _ => rfl) (fun _ _ _ => rfl)
    (fun t => by rw [after7]; unfold Dat.blockOf blk; rw [arr_eq]; try rfl) t d).trans
    (by unfold Dat.fetched Dat.blockOf blk; rw [arr_eq]; try rfl)
theorem before8 (c : Dev nD) (t : Fin cfg0.N) (d) : (dats m 0 c).before 8 t d = blk m c 8 t :=
  ((dats m 0 c).before_in_eq_fetched 8 rfl (fun _ => rfl) (fun _ _ _ => rfl)
    (fun t => by rw [after8]; unfold Dat.blockOf blk; rw [arr_eq]; try rfl) t d).trans
    (by unfold Dat.fetched Dat.blockOf blk; rw [arr_eq]; try rfl)
theorem before9 (c : Dev nD) (t : Fin cfg0.N) (d) : (dats m 0 c).before 9 t d = blk m c 9 t :=
  ((dats m 0 c).before_in_eq_fetched 9 rfl (fun _ => rfl) (fun _ _ _ => rfl)
    (fun t => by rw [after9]; unfold Dat.blockOf blk; rw [arr_eq]; try rfl) t d).trans
    (by unfold Dat.fetched Dat.blockOf blk; rw [arr_eq]; try rfl)
theorem before10 (c : Dev nD) (t : Fin cfg0.N) (d) : (dats m 0 c).before 10 t d = blk m c 10 t :=
  ((dats m 0 c).before_in_eq_fetched 10 rfl (fun _ => rfl) (fun _ _ _ => rfl)
    (fun t => by rw [after10]; unfold Dat.blockOf blk; rw [arr_eq]; try rfl) t d).trans
    (by unfold Dat.fetched Dat.blockOf blk; rw [arr_eq]; try rfl)
theorem before11 (c : Dev nD) (t : Fin cfg0.N) (d) : (dats m 0 c).before 11 t d = blk m c 11 t :=
  ((dats m 0 c).before_in_eq_fetched 11 rfl (fun _ => rfl) (fun _ _ _ => rfl)
    (fun t => by rw [after11]; unfold Dat.blockOf blk; rw [arr_eq]; try rfl) t d).trans
    (by unfold Dat.fetched Dat.blockOf blk; rw [arr_eq]; try rfl)
theorem before12 (c : Dev nD) (t : Fin cfg0.N) (d) : (dats m 0 c).before 12 t d = blk m c 12 t :=
  ((dats m 0 c).before_in_eq_fetched 12 rfl (fun _ => rfl) (fun _ _ _ => rfl)
    (fun t => by rw [after12]; unfold Dat.blockOf blk; rw [arr_eq]; try rfl) t d).trans
    (by unfold Dat.fetched Dat.blockOf blk; rw [arr_eq]; try rfl)
theorem before13 (c : Dev nD) (t : Fin cfg0.N) (d) : (dats m 0 c).before 13 t d = blk m c 13 t :=
  ((dats m 0 c).before_in_eq_fetched 13 rfl (fun _ => rfl) (fun _ _ _ => rfl)
    (fun t => by rw [after13]; unfold Dat.blockOf blk; rw [arr_eq]; try rfl) t d).trans
    (by unfold Dat.fetched Dat.blockOf blk; rw [arr_eq]; try rfl)
theorem before14 (c : Dev nD) (t : Fin cfg0.N) (d) : (dats m 0 c).before 14 t d = blk m c 14 t :=
  ((dats m 0 c).before_in_eq_fetched 14 rfl (fun _ => rfl) (fun _ _ _ => rfl)
    (fun t => by rw [after14]; unfold Dat.blockOf blk; rw [arr_eq]; try rfl) t d).trans
    (by unfold Dat.fetched Dat.blockOf blk; rw [arr_eq]; try rfl)
theorem before15 (c : Dev nD) (t : Fin cfg0.N) (d) : (dats m 0 c).before 15 t d = blk m c 15 t :=
  ((dats m 0 c).before_in_eq_fetched 15 rfl (fun _ => rfl) (fun _ _ _ => rfl)
    (fun t => by rw [after15]; unfold Dat.blockOf blk; rw [arr_eq]; try rfl) t d).trans
    (by unfold Dat.fetched Dat.blockOf blk; rw [arr_eq]; try rfl)

/-- What the body finds at point `t`, -/
def finds (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it leaves. -/
def leaves (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
theorem body_at (c : Dev nD) (t : Fin cfg0.N) :
    finds m c t ⊢ wp frame (wpE (defs₀ (F := F)) Variants.none c none) Set.univ (bodyAt0 t) (fun _ => leaves m c t) := by
  unfold finds leaves bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_runs (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) (blk m c 14 t) (blk m c 15 t) c Set.univ (grid0.coords t) _ _ _ _ _ _ _ _ _ _ _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row]
  exact triple_restated (body_at m c t) rfl .rfl fun _ => .rfl

/-! ## The run -/

set_option backward.isDefEq.respectTransparency.types false in
set_option maxHeartbeats 2000000 in
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := upto m Variants.none) (hA := arr_eq m) (hΦ := fun _ _ => rfl)

theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_arg0 m c),
    ((h c).2 main_arg1 (Pipeline.mem_restRefs_of main_arg1 (by decide) (by decide))).trans (V_arg1 m c),
    ((h c).2 main_arg2 (Pipeline.mem_restRefs_of main_arg2 (by decide) (by decide))).trans (V_arg2 m c),
    ((h c).2 main_arg3 (Pipeline.mem_restRefs_of main_arg3 (by decide) (by decide))).trans (V_arg3 m c),
    ((h c).2 main_arg4 (Pipeline.mem_restRefs_of main_arg4 (by decide) (by decide))).trans (V_arg4 m c)⟩

/-- The call ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_all m ρ)

theorem flushed17 (c : Dev nD) (t : Fin cfg0.N) : (dats m 0 c).flushed 17 t =
    (cfg0.win 17).cut (grid0.coords t) (outK (blk m c 0 t) (blk m c 1 t) (blk m c 3 t) (blk m c 10 t) (blk m c 13 t)
      (blk m c 14 t) (blk m c 15 t)) := by
  show (cfg0.win 17).cut (grid0.coords t) ((dats m 0 c).after 17 t) = _
  rw [after17]

/-- The call ends with the keys' array as the points wrote it. -/
theorem run : θ_run defs (onTc (τ := τ) (main (F := F))) ⟨m, fun _ => 0, ρ⟩ fun r => ∀ c : Dev nD,
      r.2.mem ((c.tc : Thread nD τ).loc main_v85_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 17, kept m r h.1 c⟩) (run_all m ρ)

end Cert.Proof.KeysIdealFrame

end
-- ==== Proof.KeysValue.lean ====
/-
  What the call of the input projections computes of the keys: each row of the block, normalised, through the keys' matrix,
  each of its four heads normalised and turned by its position.
-/
module

public import proofs.«01_k».proof.Defs
public import proofs.«01_k».proof.Proof.Heads
public import proofs.«01_k».proof.Proof.ProjValue
public import proofs.«01_k».proof.Proof.KeysFrame
public import proofs.«01_k».proof.Proof.KeysIdealFrame
public import proofs.«01_k».proof.Proof.Gen.KeysRefIdeal.Run
public import proofs.«01_k».proof.Proof.Gen.Pre_keys_finite
public import Idealize.ShloMosaic.Lib.Quiescent
public import Idealize.ShloMosaic.Lib.ReduceAll
public import Idealize.ShloMosaic.Lib.StableHlo.ReadAt

@[expose] public section

set_option maxRecDepth 16384

noncomputable section

namespace Cert.Proof.KeysValue

open Cert.KeysIdeal Cert.KeysIdeal.Gen Cert.Proof.KeysIdealFrame Idealize.ShloMosaic Idealize.ShloMosaic.TcCoe
open Idealize.SL.Sem
open Cert.Proof.ProjValue (hz angle turn from_zero one_word neg_one_word)

variable (x0 : Vec Ideal S256x1024 .f32) (x1 : Vec Ideal S1x1024 .f32) (x3 : Vec Ideal S1024x256 .bf16)
  (x10 : Vec Ideal S512x512 .bf16) (x13 : Vec Ideal S1x256 .f32) (x14 x15 : Vec Ideal S256x128 .f32)

/-- The block's normalised rows. -/
theorem normed (r : Fin 256) (k : Fin 1024) :
    k0_pay2 (F := Ideal) x0 x1 (ix2 r k) = Spec.rms (fun i => x0 (ix2 r i)) (fun i => x1 (ix2 0 i)) k := by
  pointwise [k0_pay2, Spec.rms]

/-- The keys' row of the block before its heads are normalised. -/
abbrev raw (r : Fin 256) (j : Fin 256) : EReal :=
  Spec.prod (Spec.rms (fun i => x0 (ix2 r i)) (fun i => x1 (ix2 0 i))) (fun k f => x3 (ix2 k f)) j

theorem rows (r j : Fin 256) : k0_pay9 (F := Ideal) (k0_pay2 x0 x1) x3 (ix2 r j) = raw x0 x1 x3 r j := by
  pointwise [k0_pay9, raw, Spec.prod]
  simp only [normed]

/-- The corner of the matrix of ones that the keys use. -/
theorem corner (i j : Fin 256) : View.ld (Val := Elt Ideal) x10 atCorner (ix2 i j) = x10 (ix2 ⟨i.1, by omega⟩ ⟨j.1, by omega⟩) := by
  refine congrArg x10 (funext fun a => Fin.ext ?_)
  match a with
  | ⟨0, _⟩ => show 0 + 1 * i.val = i.val; omega
  | ⟨1, _⟩ => show 0 + 1 * j.val = j.val; omega

/-- The row with its heads normalised as the body does. -/
abbrev normRow (r : Fin 256) (j : Fin 256) : EReal :=
  raw x0 x1 x3 r j
    * Ideal.rsqrt (((∑ i : Fin 256, raw x0 x1 x3 r i * raw x0 x1 x3 r i * x10 (ix2 ⟨i.1, by omega⟩ ⟨j.1, by omega⟩))
        + ∑ i : Fin 256, (raw x0 x1 x3 r i * raw x0 x1 x3 r i - raw x0 x1 x3 r i * raw x0 x1 x3 r i)
            * x10 (ix2 ⟨i.1, by omega⟩ ⟨j.1, by omega⟩)) * Ideal.ofBits .f32 0x3C800000#32
      + Ideal.ofBits .f32 0x358637BD#32)
    * x13 (ix2 0 j)

/-- Which half of the pair a place is in, as the body asks it. -/
theorem half : ∀ j : Fin 256, Scalar.select (α := Bool) (IntOp.cmpi CmpIPredicate.eq (IntOp.andi (BitVec.ofNat 32 j.1) 32#32) 0#32) true false
    = decide (j.1 % 64 < 32) := by decide +kernel

theorem half_select (j : Fin 256) (a b : EReal) :
    Scalar.select (IntOp.cmpi CmpIPredicate.eq (IntOp.andi (BitVec.ofNat 32 j.1) 32#32) 0#32) a b
      = if j.1 % 64 < 32 then a else b := by
  have h := half j
  unfold Scalar.select at h ⊢
  by_cases hj : j.1 % 64 < 32
  · rw [if_pos hj]; rw [decide_eq_true hj] at h; split_ifs at h ⊢ <;> first | rfl | cases h
  · rw [if_neg hj]; rw [decide_eq_false hj] at h; split_ifs at h ⊢ <;> first | rfl | cases h

/-- The tables of 128 places, written twice along a row of 256. -/
theorem twice (x : Vec Ideal S256x128 .f32) (r : Fin 256) (j : Fin 256) :
    (if h : j.1 < 128 then x (ix2 r ⟨j.1, h⟩) else x (ix2 r ⟨j.1 - 128, by omega⟩)) = x (ix2 r ⟨j.1 % 128, by omega⟩) := by
  split_ifs with h
  · have e : (⟨j.1, h⟩ : Fin 128) = ⟨j.1 % 128, by omega⟩ := Fin.ext (by show j.1 = j.1 % 128; omega)
    rw [e]
  · have e : (⟨j.1 - 128, by omega⟩ : Fin 128) = ⟨j.1 % 128, by omega⟩ := Fin.ext (by show j.1 - 128 = j.1 % 128; omega)
    rw [e]

/-- The keys' block. -/
theorem out_k (r : Fin 256) (j : Fin 256) :
    outK (F := Ideal) x0 x1 x3 x10 x13 x14 x15 (ix2 r j) =
      normRow x0 x1 x3 x10 x13 r j * x14 (ix2 r ⟨j.1 % 128, by omega⟩)
        + (if h : j.1 % 64 < 32 then normRow x0 x1 x3 x10 x13 r ⟨j.1 + 32, by omega⟩
            else normRow x0 x1 x3 x10 x13 r ⟨j.1 - 32, by omega⟩)
          * x15 (ix2 r ⟨j.1 % 128, by omega⟩) := by
  unfold outK
  rw [View.canon_unit_zero hz]
  unfold sinRows cosRows keyRows keyGain keyHi ones keyMeans normedRows
  rw [View.ld_unit_zero hz (S := S256x1024), View.ld_unit_zero hz (S := S1x1024), View.ld_unit_zero hz (S := S1024x256),
    View.ld_unit_zero hz (S := S256x128), View.ld_unit_zero hz (S := S256x128), View.ld_unit_zero hz (S := S1x256)]
  pointwise [k0_pay16, k0_pay15, k0_pay14, k0_pay13, k0_pay12, k0_pay11, k0_pay10, k0_pay3, k0_pay4, normRow]
  simp only [rows, half_select, corner]
  rw [← twice x14 r j, ← twice x15 r j]
  by_cases hj : j.1 % 64 < 32
  · have e : (j.1 + 256 - 224) % 256 = j.1 + 32 := by omega
    simp only [if_pos hj, dif_pos hj, e]
  · have e : (j.1 + 256 - 32) % 256 = j.1 - 32 := by omega
    simp only [if_neg hj, dif_neg hj, e]

/-! ## The whole arrays -/

variable (X : Vec Ideal S8x8192x1024 .f32) (g : Vec Ideal S1024 .f32) (w : Vec Ideal S1024x5704 .f32) (kn : Vec Ideal S64 .f32)

/-- Row `r`'s keys, their heads normalised. -/
abbrev heads (r : Fin 65536) (j : Fin 256) : EReal :=
  Heads.norm (ProjValue.cols X g w 512 (by decide) r) (fun f => kn (ix1 f)) j

/-- The keys: every head turned by the row's position. -/
def GK : Vec Ideal S65536x256 .f32 := fun i =>
  turn ((i 0).1 % 8192) (fun f : Fin 64 => heads X g w kn (i 0) ⟨(i 1).1 / 64 * 64 + f.1, by have := (i 1).2; change _ < 256 at this; omega⟩)
    ⟨(i 1).1 % 64, by omega⟩

variable (m : (ℓ : Loc nD τ sig) → Buf (Elt Ideal) ℓ) (ρ : Dev nD → PrngReg)

theorem V_x (c : Dev nD) (r : Fin 65536) (k : Fin 1024) : V m c main_v59 (ix2 r k) =
    m ((c : Thread nD τ).loc main_arg0) (ix3 ⟨r.1 / 8192, by omega⟩ ⟨r.1 % 8192, by omega⟩ k) := by
  unfold V; after_reads_at

theorem V_gain (c : Dev nD) (k : Fin 1024) : V m c main_v39 (ix2 0 k) = m ((c : Thread nD τ).loc main_arg1) (ix1 k) := by
  unfold V; after_reads_at

theorem V_k (c : Dev nD) (k : Fin 1024) (f : Fin 256) : V m c main_v41 (ix2 k f) =
    m ((c : Thread nD τ).loc main_arg2) (ix2 k ⟨512 + f.1, by omega⟩) := by
  unfold V; after_reads_at

theorem V_kn (c : Dev nD) (j : Fin 256) : V m c main_v58 (ix2 0 j) =
    m ((c : Thread nD τ).loc main_arg4) (ix1 ⟨j.1 % 64, by omega⟩) := by
  unfold V; after_reads_at

/-- The head of a place, as a word. -/
theorem head_word : ∀ j : Fin 512, IntOp.shrsi .host (BitVec.ofNat 32 j.1) 6#32 = BitVec.ofNat 32 (j.1 / 64) := by decide +kernel

theorem word_eq : ∀ a b : Fin 8, IntOp.cmpi CmpIPredicate.eq (BitVec.ofNat 32 a.1) (BitVec.ofNat 32 b.1) =
    if a.1 = b.1 then 1#1 else 0#1 := by decide +kernel

theorem V_ones (c : Dev nD) (i j : Fin 512) : (V m c main_v49 : Vec Ideal S512x512 .bf16) (ix2 i j) =
    if i.1 / 64 = j.1 / 64 then (1 : EReal) else (0 : EReal) := by
  unfold V; after_reads_at
  rw [head_word i, head_word j]
  have h := word_eq ⟨i.1 / 64, by omega⟩ ⟨j.1 / 64, by omega⟩
  dsimp only at h
  rw [h]
  by_cases e : i.1 / 64 = j.1 / 64
  · rw [if_pos e, if_pos e]; rfl
  · rw [if_neg e, if_neg e]; rfl

/-- The place of a frequency is taken modulo 32. -/
theorem place : ∀ f : Fin 128, IntOp.andi (BitVec.ofNat 32 f.1) 31#32 = BitVec.ofNat 32 (f.1 % 32) := by decide +kernel

/-- The sign the sines are stored with. -/
theorem sign : ∀ f : Fin 128, lit0 (S128.rowMajor (ix1 f)) =
    if f.1 % 64 < 32 then 0xBF800000#32 else 0x3F800000#32 := by decide +kernel

theorem V_cos (c : Dev nD) (k : Fin 8192) (f : Fin 128) : (V m c main_v80 : Vec Ideal S8192x128 .f32) (ix2 k f) =
    Ideal.cos (angle k.1 f.1) := by
  unfold V
  after_reads_at
  rw [place f, from_zero]
  rfl

theorem V_sin (c : Dev nD) (k : Fin 8192) (f : Fin 128) : (V m c main_v84 : Vec Ideal S8192x128 .f32) (ix2 k f) =
    if f.1 % 64 < 32 then -Ideal.sin (angle k.1 f.1) else Ideal.sin (angle k.1 f.1) := by
  unfold V
  after_reads_at
  rw [place f, from_zero, sign f]
  by_cases hf : f.1 % 64 < 32
  · rw [if_pos hf, if_pos hf, neg_one_word, mul_neg, mul_one]
    rfl
  · rw [if_neg hf, if_neg hf, one_word, mul_one]
    rfl

theorem idx_rows : ∀ t : Fin cfg0.N, (win0_0.index t (0 : Fin 2) = t.val ∧ win0_0.index t (1 : Fin 2) = 0)
    ∧ (win0_14.index t (0 : Fin 2) = t.val % 32 ∧ win0_14.index t (1 : Fin 2) = 0)
    ∧ (win0_15.index t (0 : Fin 2) = t.val % 32 ∧ win0_15.index t (1 : Fin 2) = 0)
    ∧ (win0_17.index t (0 : Fin 2) = t.val ∧ win0_17.index t (1 : Fin 2) = 0) :=
  (by decide +kernel : ∀ t : Fin grid0.N, _)

theorem idx_whole : ∀ t : Fin cfg0.N, (win0_1.index t (0 : Fin 2) = 0 ∧ win0_1.index t (1 : Fin 2) = 0)
    ∧ (win0_3.index t (0 : Fin 2) = 0 ∧ win0_3.index t (1 : Fin 2) = 0)
    ∧ (win0_10.index t (0 : Fin 2) = 0 ∧ win0_10.index t (1 : Fin 2) = 0)
    ∧ (win0_13.index t (0 : Fin 2) = 0 ∧ win0_13.index t (1 : Fin 2) = 0) :=
  (by decide +kernel : ∀ t : Fin grid0.N, _)

theorem lt_rows (t : Fin cfg0.N) (r : Fin 256) : t.val * 256 + r.val < 65536 := by
  have h : t.val < 256 := t.isLt
  omega

/-- The array row of row `r` of point `t`'s block. -/
abbrev rowAt (t : Fin cfg0.N) (r : Fin 256) : Fin 65536 := ⟨t.val * 256 + r.val, lt_rows t r⟩

theorem blk0 (c : Dev nD) (t : Fin cfg0.N) (r : Fin 256) (k : Fin 1024) : blk m c 0 t (ix2 r k) =
    m ((c : Thread nD τ).loc main_arg0) (ix3 ⟨(rowAt t r).1 / 8192, by omega⟩ ⟨(rowAt t r).1 % 8192, by omega⟩ k) := by
  obtain ⟨⟨h0, h1⟩, -⟩ := idx_rows t
  refine Eq.trans ?_ (V_x m c (rowAt t r) k)
  show V m c main_v59 (((cfg0.win 0).blk t).view.emb (ix2 r k)) = _
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

theorem blk1 (c : Dev nD) (t : Fin cfg0.N) (k : Fin 1024) :
    blk m c 1 t (ix2 0 k) = m ((c : Thread nD τ).loc main_arg1) (ix1 k) := by
  obtain ⟨⟨h0, h1⟩, -⟩ := idx_whole t
  refine Eq.trans ?_ (V_gain m c k)
  show V m c main_v39 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk3 (c : Dev nD) (t : Fin cfg0.N) (k : Fin 1024) (f : Fin 256) : blk m c 3 t (ix2 k f) =
    m ((c : Thread nD τ).loc main_arg2) (ix2 k ⟨512 + f.1, by omega⟩) := by
  obtain ⟨-, ⟨h0, h1⟩, -⟩ := idx_whole t
  refine Eq.trans ?_ (V_k m c k f)
  show V m c main_v41 (((cfg0.win 3).blk t).view.emb (ix2 k f)) = _
  refine congrArg _ (funext fun a => Fin.ext ?_)
  match a with
  | ⟨0, _⟩ => show win0_3.index t (0 : Fin 2) * 1024 + 1 * k.val = k.val; omega
  | ⟨1, _⟩ => show win0_3.index t (1 : Fin 2) * 256 + 1 * f.val = f.val; omega

theorem blk10 (c : Dev nD) (t : Fin cfg0.N) (i j : Fin 512) : (blk m c 10 t : Vec Ideal S512x512 .bf16) (ix2 i j) =
    if i.1 / 64 = j.1 / 64 then (1 : EReal) else (0 : EReal) := by
  obtain ⟨-, -, ⟨h0, h1⟩, -⟩ := idx_whole t
  refine Eq.trans ?_ (V_ones m c i j)
  show V m c main_v49 (((cfg0.win 10).blk t).view.emb (ix2 i j)) = _
  refine congrArg _ (funext fun a => Fin.ext ?_)
  match a with
  | ⟨0, _⟩ => show win0_10.index t (0 : Fin 2) * 512 + 1 * i.val = i.val; omega
  | ⟨1, _⟩ => show win0_10.index t (1 : Fin 2) * 512 + 1 * j.val = j.val; omega

theorem blk13 (c : Dev nD) (t : Fin cfg0.N) (j : Fin 256) : blk m c 13 t (ix2 0 j) =
    m ((c : Thread nD τ).loc main_arg4) (ix1 ⟨j.1 % 64, by omega⟩) := by
  obtain ⟨-, -, -, h0, h1⟩ := idx_whole t
  refine Eq.trans ?_ (V_kn m c j)
  show V m c main_v58 (((cfg0.win 13).blk t).view.emb (ix2 0 j)) = _
  refine congrArg _ (funext fun a => Fin.ext ?_)
  match a with
  | ⟨0, _⟩ => show win0_13.index t (0 : Fin 2) * 1 + 1 * 0 = 0; omega
  | ⟨1, _⟩ => show win0_13.index t (1 : Fin 2) * 256 + 1 * j.val = j.val; omega

theorem pos_lt (t : Fin cfg0.N) (r : Fin 256) : t.val % 32 * 256 + r.val < 8192 := by omega

theorem pos_eq (t : Fin cfg0.N) (r : Fin 256) : (rowAt t r).1 % 8192 = t.val % 32 * 256 + r.val := by
  show (t.val * 256 + r.val) % 8192 = _
  omega

/-- The angle has period 32 in the place. -/
theorem angle_mod (p j : Nat) : angle p (j % 128) = angle p (j % 64) := by
  have e : j % 128 % 32 = j % 64 % 32 := by omega
  unfold angle
  rw [e]

theorem blk14 (c : Dev nD) (t : Fin cfg0.N) (r : Fin 256) (j : Fin 256) :
    (blk m c 14 t : Vec Ideal S256x128 .f32) (ix2 r ⟨j.1 % 128, by omega⟩) =
      Ideal.cos (angle ((rowAt t r).1 % 8192) (j.1 % 64)) := by
  obtain ⟨-, ⟨h0, h1⟩, -⟩ := idx_rows t
  rw [pos_eq, ← angle_mod]
  refine Eq.trans ?_ (V_cos m c ⟨t.val % 32 * 256 + r.val, pos_lt t r⟩ ⟨j.1 % 128, by omega⟩)
  show V m c main_v80 (((cfg0.win 14).blk t).view.emb (ix2 r ⟨j.1 % 128, by omega⟩)) = _
  refine congrArg _ (funext fun a => Fin.ext ?_)
  match a with
  | ⟨0, _⟩ => show win0_14.index t (0 : Fin 2) * 256 + 1 * r.val = t.val % 32 * 256 + r.val; omega
  | ⟨1, _⟩ => show win0_14.index t (1 : Fin 2) * 128 + 1 * (j.1 % 128) = j.1 % 128; omega

theorem blk15 (c : Dev nD) (t : Fin cfg0.N) (r : Fin 256) (j : Fin 256) :
    (blk m c 15 t : Vec Ideal S256x128 .f32) (ix2 r ⟨j.1 % 128, by omega⟩) =
      if j.1 % 64 < 32 then -Ideal.sin (angle ((rowAt t r).1 % 8192) (j.1 % 64))
      else Ideal.sin (angle ((rowAt t r).1 % 8192) (j.1 % 64)) := by
  obtain ⟨-, -, ⟨h0, h1⟩, -⟩ := idx_rows t
  have e : j.1 % 128 % 64 = j.1 % 64 := by omega
  rw [pos_eq, ← angle_mod]
  refine Eq.trans ?_ ((V_sin m c ⟨t.val % 32 * 256 + r.val, pos_lt t r⟩ ⟨j.1 % 128, by omega⟩).trans (by
    show (if j.1 % 128 % 64 < 32 then _ else _) = _
    rw [e]))
  show V m c main_v84 (((cfg0.win 15).blk t).view.emb (ix2 r ⟨j.1 % 128, by omega⟩)) = _
  refine congrArg _ (funext fun a => Fin.ext ?_)
  match a with
  | ⟨0, _⟩ => show win0_15.index t (0 : Fin 2) * 256 + 1 * r.val = t.val % 32 * 256 + r.val; omega
  | ⟨1, _⟩ => show win0_15.index t (1 : Fin 2) * 128 + 1 * (j.1 % 128) = j.1 % 128; omega

theorem emb17 (t : Fin cfg0.N) (r : Fin 256) (j : Fin 256) :
    ((cfg0.win 17).blk t).view.emb (ix2 r j) = ix2 (rowAt t r) j := by
  obtain ⟨-, -, -, h0, h1⟩ := idx_rows t
  refine funext fun a => Fin.ext ?_
  match a with
  | ⟨0, _⟩ => show win0_17.index t (0 : Fin 2) * 256 + 1 * r.val = t.val * 256 + r.val; omega
  | ⟨1, _⟩ => show win0_17.index t (1 : Fin 2) * 256 + 1 * j.val = j.val; omega

/-- What the precondition says of the arrays: the gain and the keys' columns of the matrix are finite. -/
def FiniteArgs (c : Dev nD) : Prop :=
  (∀ k : Fin 1024, Heads.Finite (m ((c : Thread nD τ).loc main_arg1) (ix1 k)))
    ∧ ∀ (k : Fin 1024) (f : Fin 256), Heads.Finite (m ((c : Thread nD τ).loc main_arg2) (ix2 k ⟨512 + f.1, by omega⟩))

/-- The arrays' keys of row `r`, their heads normalised. -/
abbrev headsOf (c : Dev nD) (r : Fin 65536) (j : Fin 256) : EReal :=
  heads (m ((c : Thread nD τ).loc main_arg0)) (m ((c : Thread nD τ).loc main_arg1)) (m ((c : Thread nD τ).loc main_arg2))
    (m ((c : Thread nD τ).loc main_arg4)) r j

theorem raw_eq (c : Dev nD) (t : Fin cfg0.N) (r j : Fin 256) : raw (blk m c 0 t) (blk m c 1 t) (blk m c 3 t) r j =
    ProjValue.cols (m ((c : Thread nD τ).loc main_arg0)) (m ((c : Thread nD τ).loc main_arg1)) (m ((c : Thread nD τ).loc main_arg2)) 512 (by decide) (rowAt t r) j := by
  simp only [raw, blk0, blk1, blk3]
  rfl

theorem normRow_eq (c : Dev nD) (hf : FiniteArgs m c) (t : Fin cfg0.N) (r j : Fin 256) :
    normRow (blk m c 0 t) (blk m c 1 t) (blk m c 3 t) (blk m c 10 t) (blk m c 13 t) r j = headsOf m c (rowAt t r) j := by
  have hy : ∀ i, Heads.Finite (ProjValue.cols (m ((c : Thread nD τ).loc main_arg0)) (m ((c : Thread nD τ).loc main_arg1)) (m ((c : Thread nD τ).loc main_arg2)) 512 (by decide) (rowAt t r) (i : Fin 256)) :=
    fun i => Heads.prod_finite _ _ (Heads.rms_finite _ _ hf.1) hf.2 i
  have h := Heads.parts _ hy j
  simp only [normRow, raw_eq, blk10, blk13]
  rw [h]
  rfl

theorem flushed17_eq (c : Dev nD) (hf : FiniteArgs m c) (t : Fin cfg0.N) : (dats m 0 c).flushed 17 t =
    ((cfg0.win 17).blk t).view.read (Elt Ideal) (GK (m ((c : Thread nD τ).loc main_arg0)) (m ((c : Thread nD τ).loc main_arg1)) (m ((c : Thread nD τ).loc main_arg2)) (m ((c : Thread nD τ).loc main_arg4))) := by
  rw [flushed17]
  funext i
  obtain ⟨r, j, rfl⟩ : ∃ (r : Fin 256) (j : Fin 256), i = ix2 r j := ⟨i 0, i 1, eq_ix2 i⟩
  show outK (F := Ideal) (blk m c 0 t) (blk m c 1 t) (blk m c 3 t) (blk m c 10 t) (blk m c 13 t) (blk m c 14 t) (blk m c 15 t) (ix2 r j) = (GK (m ((c : Thread nD τ).loc main_arg0)) (m ((c : Thread nD τ).loc main_arg1)) (m ((c : Thread nD τ).loc main_arg2)) (m ((c : Thread nD τ).loc main_arg4))) (((cfg0.win 17).blk t).view.emb (ix2 r j))
  rw [emb17, out_k]
  simp only [normRow_eq m c hf, blk14, blk15]
  show _ = turn ((rowAt t r).1 % 8192) (fun f : Fin 64 => headsOf m c (rowAt t r) ⟨j.1 / 64 * 64 + f.1, by omega⟩) ⟨j.1 % 64, by omega⟩
  have e : (⟨j.1 / 64 * 64 + j.1 % 64, by omega⟩ : Fin 256) = j := Fin.ext (by show j.1 / 64 * 64 + j.1 % 64 = j.1; omega)
  unfold turn
  by_cases hj : j.1 % 64 < 32
  · have e' : (⟨j.1 / 64 * 64 + (j.1 % 64 + 32), by omega⟩ : Fin 256) = ⟨j.1 + 32, by omega⟩ :=
      Fin.ext (by show j.1 / 64 * 64 + (j.1 % 64 + 32) = j.1 + 32; omega)
    simp only [dif_pos hj, if_pos hj, mul_neg, e, e']; rfl
  · have e' : (⟨j.1 / 64 * 64 + (j.1 % 64 - 32), by omega⟩ : Fin 256) = ⟨j.1 - 32, by omega⟩ :=
      Fin.ext (by show j.1 / 64 * 64 + (j.1 % 64 - 32) = j.1 - 32; omega)
    simp only [dif_neg hj, if_neg hj, e, e']

theorem covered17 (i : S65536x256.Idx) :
    ∃ t : Fin cfg0.N, (cfg0.win 17).flush t = true ∧ i ∈ ((cfg0.win 17).blk t).view.set := by
  obtain ⟨r, j, rfl⟩ : ∃ (r : Fin 65536) (j : Fin 256), i = ix2 r j := ⟨i 0, i 1, eq_ix2 i⟩
  have hr : r.val / 256 < 256 := by omega
  refine ⟨⟨r.val / 256, hr⟩, flush0_17 _, ?_⟩
  have h := ((cfg0.win 17).blk (⟨r.val / 256, hr⟩ : Fin cfg0.N)).view.emb_mem_set
    (ix2 (⟨r.val % 256, Nat.mod_lt _ (by decide)⟩ : Fin 256) j)
  rw [emb17] at h
  have e : rowAt ⟨r.val / 256, hr⟩ ⟨r.val % 256, Nat.mod_lt _ (by decide)⟩ = r :=
    Fin.ext (by show r.val / 256 * 256 + r.val % 256 = r.val; omega)
  rwa [e] at h

theorem final17 (c : Dev nD) (hf : FiniteArgs m c) : (dats m 0 c).arrAt 17 cfg0.N = (GK (m ((c : Thread nD τ).loc main_arg0)) (m ((c : Thread nD τ).loc main_arg1)) (m ((c : Thread nD τ).loc main_arg2)) (m ((c : Thread nD τ).loc main_arg4))) :=
  (dats m 0 c).arrAt_eq_of_cover 17 (GK (m ((c : Thread nD τ).loc main_arg0)) (m ((c : Thread nD τ).loc main_arg1)) (m ((c : Thread nD τ).loc main_arg2)) (m ((c : Thread nD τ).loc main_arg4))) (fun t _ => flushed17_eq m c hf t) covered17

/-! ## The reference -/

theorem ref_value (m' : (ℓ : Loc Cert.KeysRefIdeal.nD Cert.KeysRefIdeal.τ Cert.KeysRefIdeal.sig) → Buf (Elt Ideal) ℓ) (c : Dev Cert.KeysRefIdeal.nD) :
    Cert.KeysRefIdeal.Value.res_main_v61 m' c = GK (m' ((c.tc : Thread Cert.KeysRefIdeal.nD Cert.KeysRefIdeal.τ).loc Cert.KeysRefIdeal.main_arg0)) (m' ((c.tc : Thread Cert.KeysRefIdeal.nD Cert.KeysRefIdeal.τ).loc Cert.KeysRefIdeal.main_arg1)) (m' ((c.tc : Thread Cert.KeysRefIdeal.nD Cert.KeysRefIdeal.τ).loc Cert.KeysRefIdeal.main_arg2)) (m' ((c.tc : Thread Cert.KeysRefIdeal.nD Cert.KeysRefIdeal.τ).loc Cert.KeysRefIdeal.main_arg4)) := by
  funext i
  obtain ⟨r, j, rfl⟩ : ∃ (r : Fin 65536) (j : Fin 256), i = ix2 r j := ⟨i 0, i 1, eq_ix2 i⟩
  pointwise [Cert.KeysRefIdeal.Value.res_main_v61, GK, heads, Heads.norm, Heads.scale, turn, angle, ProjValue.cols, Spec.prod, Spec.rms]
  have e0 : j.1 / 64 * 64 + j.1 % 64 = j.1 := by omega
  by_cases hj : j.1 % 64 < 32
  · have e1 : j.1 / 64 * 64 + (j.1 % 64 + 32) = j.1 + 32 := by omega
    have e2 : (j.1 + 32) / 64 = j.1 / 64 := by omega
    have e3 : (j.1 + 32) % 64 = j.1 % 64 + 32 := by omega
    have e4 : j.1 % 64 % 32 = j.1 % 64 := by omega
    simp only [dif_pos hj, Nat.add_comm 32 (j.1 % 64), e0, e1, e2, e3, e4]
  · have e1 : j.1 / 64 * 64 + (j.1 % 64 - 32) = j.1 - 32 := by omega
    have e2 : (j.1 - 32) / 64 = j.1 / 64 := by omega
    have e3 : (j.1 - 32) % 64 = j.1 % 64 - 32 := by omega
    have e4 : j.1 % 64 % 32 = j.1 % 64 - 32 := by omega
    have e5 : 32 + (j.1 % 64 - 32) = j.1 % 64 := by omega
    simp only [dif_neg hj, e0, e1, e2, e3, e4, e5]

/-! ## The precondition -/

theorem inf_word : Ideal.ofBits .f32 0x7F800000#32 = ⊤ := by
  simp [Ideal.ofBits, Ideal.ieee]

theorem finite_of_olt (x : EReal) (h : FloatOps.cmpf (F := Ideal) (φ := .f32) .olt (FloatOps.absf (F := Ideal) (φ := .f32) x) (Ideal.ofBits .f32 0x7F800000#32) = 1#1) :
    Heads.Finite x := by
  rw [inf_word] at h
  have h' : BitVec.ofBool (decide (max x (-x) < ⊤)) = 1#1 := h
  have hx : max x (-x) < ⊤ := by
    by_contra hn
    rw [decide_eq_false hn] at h'
    exact absurd h' (by decide)
  induction x with
  | bot => simp at hx
  | top => simp at hx
  | coe r => exact ⟨r, rfl⟩

theorem pre_finite (c : Dev nD) (h : Cert.Pre_KeysIdeal_keys_finite (hPre_keys_finite := Cert.Pre_keys_finite.Gen.facts) m) : FiniteArgs m c := by
  have h0 := congrFun (h c) (fun a => a.elim0)
  obtain ⟨h1, h2⟩ : _ = 1#1 ∧ _ = 1#1 := IntOp.andi_eq_one.1 h0
  refine ⟨fun k => finite_of_olt _ (Host.reduce_andi_all _ _ _ _ _ h1 (ix1 k)),
    fun k f => ?_⟩
  refine finite_of_olt _ (Eq.trans ?_ (Host.reduce_andi_all _ _ _ _ _ h2 (ix2 k f)))
  pointwise []

/-! ## The claims -/

theorem frame_bits : Cert.quiescent_Keys (hKeys := Cert.Keys.Gen.facts) := fun m ρ _ => Cert.Proof.KeysFrame.frame m ρ

theorem frame_ideal : Cert.quiescent_KeysIdeal (hKeysIdeal := Cert.KeysIdeal.Gen.facts) := fun m ρ _ =>
  Cert.Proof.KeysIdealFrame.frame m ρ

theorem frame_ideal_pre : Cert.quiescent_KeysIdeal_pre_keys_finite (hKeysIdeal := Cert.KeysIdeal.Gen.facts)
    (hPre_keys_finite := Cert.Pre_keys_finite.Gen.facts) := fun m ρ _ => Cert.Proof.KeysIdealFrame.frame m ρ

theorem frame_ref : Cert.quiescent_KeysRefIdeal (hKeysRefIdeal := Cert.KeysRefIdeal.Gen.facts) := fun m ρ _ =>
  (θ_run Cert.KeysRefIdeal.defs _ _).mono (fun r h => ⟨fun c => (h c).2, sem_eq_zero_of_no_sems (by decide) r.2⟩)
    (Cert.KeysRefIdeal.Value.run (F := Ideal) m ρ)

theorem frame_ref_pre : Cert.quiescent_KeysRefIdeal_pre_keys_finite (hKeysRefIdeal := Cert.KeysRefIdeal.Gen.facts)
    (hPre_keys_finite := Cert.Pre_keys_finite.Gen.facts) := fun m ρ _ =>
  (θ_run Cert.KeysRefIdeal.defs _ _).mono (fun r h => ⟨fun c => (h c).2, sem_eq_zero_of_no_sems (by decide) r.2⟩)
    (Cert.KeysRefIdeal.Value.run (F := Ideal) m ρ)

theorem algebraic : Cert.algebraic_KeysIdeal_KeysRefIdeal_pre_keys_finite (hKeysIdeal := Cert.KeysIdeal.Gen.facts)
    (hKeysRefIdeal := Cert.KeysRefIdeal.Gen.facts) (hPre_keys_finite := Cert.Pre_keys_finite.Gen.facts) := by
  intro m ρ m' ρ' hp hagree
  refine ⟨fun c => GK (m ((c : Thread nD τ).loc main_arg0)) (m ((c : Thread nD τ).loc main_arg1)) (m ((c : Thread nD τ).loc main_arg2)) (m ((c : Thread nD τ).loc main_arg4)), ?_, ?_⟩
  · exact (θ_run Cert.KeysIdeal.defs _ _).mono (fun r h c => ⟨(h c).1.trans (final17 m c (pre_finite m c hp)), (h c).2⟩)
      (run (F := Ideal) m ρ)
  · refine (θ_run Cert.KeysRefIdeal.defs _ _).mono (fun r h c => ⟨(h c).1.trans ((ref_value m' c).trans ?_), (h c).2⟩)
      (Cert.KeysRefIdeal.Value.run (F := Ideal) m' ρ')
    obtain ⟨h0, h1, h2, -, h4⟩ := hagree c
    rw [h0, h1, h2, h4]

end Cert.Proof.KeysValue

end
-- ==== Proof.lean ====
/-
  The proof of this directory's certificate (Defs.lean).

  `Kernel` is the whole call of the sparse attention over the prompt. Proof/Keeps.lean says what it is for a program to keep the
  buffers it uses, Proof/Pures.lean and Proof/Parts.lean say it of every part of the body, its loops included, and
  Proof/Body.lean runs the grid. `Ffn` and `Merge` are the calls of the feed-forward block, without and with the merge of the
  attention and the recurrence before it: Proof/Spec.lean says what both compute of a row, Proof/FfnValue.lean and
  Proof/MergeValue.lean that the call and the plain reference compute it. `Proj` is the call of the input projections:
  Proof/ProjFrame.lean and Proof/ProjIdealFrame.lean run it, Proof/ProjValue.lean says what it and its reference compute. `Keys` is the same
  call with the keys for its result: Proof/KeysFrame.lean and Proof/KeysIdealFrame.lean run it, Proof/Heads.lean is the
  normalised heads over the extended reals, Proof/KeysValue.lean says what it and its reference compute.
-/
module

public import proofs.«01_k».proof.Defs
public import proofs.«01_k».proof.Proof.Body
public import proofs.«01_k».proof.Proof.FfnValue
public import proofs.«01_k».proof.Proof.MergeValue
public import proofs.«01_k».proof.Proof.ProjValue
public import proofs.«01_k».proof.Proof.KeysValue
public import Idealize.ShloMosaic.Adequacy
public import Idealize.ShloMosaic.Init

@[expose] public section

noncomputable section

namespace Cert.Proof

open Idealize.ShloMosaic Idealize.ShloMosaic.TcCoe Idealize.SL.Sem

theorem frame_Kernel : Cert.quiescent_Kernel (hKernel := Cert.Kernel.Gen.facts) := fun m ρ _ =>
  (θ_run Cert.Kernel.defs _ _).mono (fun _ h => ⟨fun c => Cert.Proof.Body.final_args h.1 c, h.2⟩)
    (Cert.Proof.Body.run_main (F := Bits) m ρ)

theorem claim : Cert.Claim :=
  ⟨Cert.Kernel.Gen.facts, Cert.Ffn.Gen.facts, Cert.FfnIdeal.Gen.facts, Cert.FfnRefIdeal.Gen.facts, Cert.Merge.Gen.facts,
    Cert.MergeIdeal.Gen.facts, Cert.MergeRefIdeal.Gen.facts, Cert.Proj.Gen.facts, Cert.ProjIdeal.Gen.facts,
    Cert.ProjRefIdeal.Gen.facts, Cert.Keys.Gen.facts, Cert.KeysIdeal.Gen.facts, Cert.KeysRefIdeal.Gen.facts,
    Cert.Pre_keys_finite.Gen.facts, frame_Kernel, FfnValue.frame_bits, FfnValue.frame_ideal,
    FfnValue.frame_ref, MergeValue.frame_bits, MergeValue.frame_ideal, MergeValue.frame_ref, ProjValue.frame_bits,
    ProjValue.frame_ideal, ProjValue.frame_ref, KeysValue.frame_bits, KeysValue.frame_ideal, KeysValue.frame_ideal_pre,
    KeysValue.frame_ref, KeysValue.frame_ref_pre, trivial, FfnValue.algebraic, trivial, MergeValue.algebraic, trivial,
    ProjValue.algebraic, trivial, KeysValue.algebraic⟩

end Cert.Proof

end
